-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4096x2048 : Shape := ⟨2, ![4096, 2048]⟩
abbrev S4096x256 : Shape := ⟨2, ![4096, 256]⟩
abbrev S256x2048 : Shape := ⟨2, ![256, 2048]⟩
abbrev S3x4096x256 : Shape := ⟨3, ![3, 4096, 256]⟩
abbrev S3x256x2048 : Shape := ⟨3, ![3, 256, 2048]⟩
abbrev S6 : Shape := ⟨1, ![6]⟩
abbrev S3 : Shape := ⟨1, ![3]⟩
abbrev S4 : Shape := ⟨1, ![4]⟩
abbrev S_ : Shape := ⟨0, ![]⟩
abbrev S1x256x2048 : Shape := ⟨3, ![1, 256, 2048]⟩
abbrev S1x2048x256 : Shape := ⟨3, ![1, 2048, 256]⟩
abbrev S2048x256 : Shape := ⟨2, ![2048, 256]⟩
abbrev S512x256 : Shape := ⟨2, ![512, 256]⟩
abbrev S1x4096x256 : Shape := ⟨3, ![1, 4096, 256]⟩
abbrev S1x512x256 : Shape := ⟨3, ![1, 512, 256]⟩

abbrev nBuf : Space → Nat
  | .hbm => 5
  | .vmem => 11
  | .smem => 2
  | _ => 0

abbrev bufTy : (tb : Table) → Fin (tcTables nBuf tb) → BufTy
  | .hbm, ⟨0, _⟩ => ⟨S4096x512, .fp8e5m2⟩
  | .hbm, ⟨1, _⟩ => ⟨S512x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x512, .fp8e5m2⟩
  | .local _ .vmem, ⟨1, _⟩ => ⟨S512x2048, .fp8e5m2⟩
  | .local _ .vmem, ⟨2, _⟩ => ⟨S4096x2048, .f32⟩
  | .local _ .vmem, ⟨3, _⟩ => ⟨S4096x256, .fp8e5m2⟩
  | .local _ .vmem, ⟨4, _⟩ => ⟨S4096x256, .fp8e5m2⟩
  | .local _ .vmem, ⟨5, _⟩ => ⟨S256x2048, .fp8e5m2⟩
  | .local _ .vmem, ⟨6, _⟩ => ⟨S256x2048, .fp8e5m2⟩
  | .local _ .vmem, ⟨7, _⟩ => ⟨S3x4096x256, .fp8e5m2⟩
  | .local _ .vmem, ⟨8, _⟩ => ⟨S3x256x2048, .fp8e5m2⟩
  | .local _ .vmem, ⟨9, _⟩ => ⟨S3x4096x256, .fp8e5m2⟩
  | .local _ .vmem, ⟨10, _⟩ => ⟨S3x256x2048, .fp8e5m2⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 3 44 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_27 : BitVec 32 := 1#32
  let v33 : BitVec 32 := Scalar.muli v7 c1_i32_27
  let v34 : BitVec 32 := Scalar.addi c0_i32_28 v33
  v34.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_34 : BitVec 32 := 1#32
  let v41 : BitVec 32 := Scalar.muli v7 c1_i32_34
  let v42 : BitVec 32 := Scalar.addi c0_i32_35 v41
  v42.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_43 : BitVec 32 := 1#32
  let v50 : BitVec 32 := Scalar.muli v7 c1_i32_43
  let v51 : BitVec 32 := Scalar.addi c0_i32_44 v50
  v51.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_51 : BitVec 32 := 1#32
  let v59 : BitVec 32 := Scalar.muli v5 c1_i32_51
  let v60 : BitVec 32 := Scalar.addi c0_i32_52 v59
  v60.toNat
def k0_dev7 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_58 : BitVec 32 := 1#32
  let v67 : BitVec 32 := Scalar.muli v5 c1_i32_58
  let v68 : BitVec 32 := Scalar.addi c0_i32_59 v67
  v68.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_67 : BitVec 32 := 1#32
  let v76 : BitVec 32 := Scalar.muli v5 c1_i32_67
  let v77 : BitVec 32 := Scalar.addi c0_i32_68 v76
  v77.toNat
@[reducible] def k0_t1_loop : Scf.Loop 32 :=
  let c0_i32_73 : BitVec 32 := 0#32
  let c8_i32_74 : BitVec 32 := 8#32
  let v85 : BitVec 32 := Scalar.addi c0_i32_73 c8_i32_74
  let c1_i32_75 : BitVec 32 := 1#32
  ⟨c0_i32_73, v85, c1_i32_75⟩
def k0_off1 (k0_t1 : Fin k0_t1_loop.trips) : Fin 2 → Nat :=
  let c0_i32_73 : BitVec 32 := 0#32
  let c1_i32_75 : BitVec 32 := 1#32
  let arg25 : BitVec 32 := Scf.iv c0_i32_73 c1_i32_75 k0_t1
  let c512_i32_1540 : BitVec 32 := 512#32
  let v1274 : BitVec 32 := Scalar.muli arg25 c512_i32_1540
  let v1275 : Index := Scalar.indexCast v1274
  let c0_1541 : Index := 0#32
  ![v1275.toNat, 0]
def k0_off2 (k0_t1 : Fin k0_t1_loop.trips) : Fin 2 → Nat :=
  let c0_i32_73 : BitVec 32 := 0#32
  let c1_i32_75 : BitVec 32 := 1#32
  let arg25 : BitVec 32 := Scf.iv c0_i32_73 c1_i32_75 k0_t1
  let c512_i32_1540 : BitVec 32 := 512#32
  let v1274 : BitVec 32 := Scalar.muli arg25 c512_i32_1540
  let v1279 : Index := Scalar.indexCast v1274
  let c0_1545 : Index := 0#32
  ![v1279.toNat, 0]
@[reducible] def k0_t2_loop : Scf.Loop 32 :=
  let c0_i32_77 : BitVec 32 := 0#32
  let c8_i32_78 : BitVec 32 := 8#32
  let v86 : BitVec 32 := Scalar.addi c0_i32_77 c8_i32_78
  let c1_i32_79 : BitVec 32 := 1#32
  ⟨c0_i32_77, v86, c1_i32_79⟩
def k0_off3 (k0_t2 : Fin k0_t2_loop.trips) : Fin 2 → Nat :=
  let c0_i32_77 : BitVec 32 := 0#32
  let c1_i32_79 : BitVec 32 := 1#32
  let arg25 : BitVec 32 := Scf.iv c0_i32_77 c1_i32_79 k0_t2
  let c512_i32_1540 : BitVec 32 := 512#32
  let v1274 : BitVec 32 := Scalar.muli arg25 c512_i32_1540
  let v1275 : Index := Scalar.indexCast v1274
  let c0_1541 : Index := 0#32
  ![v1275.toNat, 0]
def k0_off4 (k0_t2 : Fin k0_t2_loop.trips) : Fin 2 → Nat :=
  let c0_i32_77 : BitVec 32 := 0#32
  let c1_i32_79 : BitVec 32 := 1#32
  let arg25 : BitVec 32 := Scf.iv c0_i32_77 c1_i32_79 k0_t2
  let c512_i32_1540 : BitVec 32 := 512#32
  let v1274 : BitVec 32 := Scalar.muli arg25 c512_i32_1540
  let v1279 : Index := Scalar.indexCast v1274
  let c0_1545 : Index := 0#32
  ![v1279.toNat, 0]
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_92 : BitVec 32 := 1#32
  let v93 : BitVec 32 := Scalar.muli v7 c1_i32_92
  let v94 : BitVec 32 := Scalar.addi c0_i32_93 v93
  v94.toNat
def k0_dev10 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_111 : BitVec 32 := 1#32
  let v110 : BitVec 32 := Scalar.muli v7 c1_i32_111
  let v111 : BitVec 32 := Scalar.addi c0_i32_112 v110
  v111.toNat
def k0_dev11 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_129 : BitVec 32 := 1#32
  let v127 : BitVec 32 := Scalar.muli v7 c1_i32_129
  let v128 : BitVec 32 := Scalar.addi c0_i32_130 v127
  v128.toNat
def k0_dev12 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_146 : BitVec 32 := 1#32
  let v143 : BitVec 32 := Scalar.muli v5 c1_i32_146
  let v144 : BitVec 32 := Scalar.addi c0_i32_147 v143
  v144.toNat
def k0_dev13 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_165 : BitVec 32 := 1#32
  let v160 : BitVec 32 := Scalar.muli v5 c1_i32_165
  let v161 : BitVec 32 := Scalar.addi c0_i32_166 v160
  v161.toNat
def k0_dev14 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_184 : BitVec 32 := 1#32
  let v177 : BitVec 32 := Scalar.muli v5 c1_i32_184
  let v178 : BitVec 32 := Scalar.addi c0_i32_185 v177
  v178.toNat
def k0_dev15 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_248 : BitVec 32 := 1#32
  let v223 : BitVec 32 := Scalar.muli v7 c1_i32_248
  let v224 : BitVec 32 := Scalar.addi c0_i32_249 v223
  v224.toNat
def k0_dev16 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_267 : BitVec 32 := 1#32
  let v241 : BitVec 32 := Scalar.muli v7 c1_i32_267
  let v242 : BitVec 32 := Scalar.addi c0_i32_268 v241
  v242.toNat
def k0_dev17 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_286 : BitVec 32 := 1#32
  let v259 : BitVec 32 := Scalar.muli v7 c1_i32_286
  let v260 : BitVec 32 := Scalar.addi c0_i32_287 v259
  v260.toNat
def k0_dev18 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_306 : BitVec 32 := 1#32
  let v277 : BitVec 32 := Scalar.muli v5 c1_i32_306
  let v278 : BitVec 32 := Scalar.addi c0_i32_307 v277
  v278.toNat
def k0_dev19 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_326 : BitVec 32 := 1#32
  let v295 : BitVec 32 := Scalar.muli v5 c1_i32_326
  let v296 : BitVec 32 := Scalar.addi c0_i32_327 v295
  v296.toNat
def k0_dev20 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_346 : BitVec 32 := 1#32
  let v313 : BitVec 32 := Scalar.muli v5 c1_i32_346
  let v314 : BitVec 32 := Scalar.addi c0_i32_347 v313
  v314.toNat
@[reducible] def k0_t3_loop : Scf.Loop 32 :=
  let c0_i32_354 : BitVec 32 := 0#32
  let c8_i32_355 : BitVec 32 := 8#32
  let v323 : BitVec 32 := Scalar.addi c0_i32_354 c8_i32_355
  let c1_i32_356 : BitVec 32 := 1#32
  ⟨c0_i32_354, v323, c1_i32_356⟩
def k0_off5 (k0_t3 : Fin k0_t3_loop.trips) : Fin 2 → Nat :=
  let c0_i32_354 : BitVec 32 := 0#32
  let c1_i32_356 : BitVec 32 := 1#32
  let arg25 : BitVec 32 := Scf.iv c0_i32_354 c1_i32_356 k0_t3
  let c512_i32_1540 : BitVec 32 := 512#32
  let v1274 : BitVec 32 := Scalar.muli arg25 c512_i32_1540
  let v1277 : Index := Scalar.indexCast v1274
  let c0_1543 : Index := 0#32
  ![v1277.toNat, 0]
def k0_off6 (k0_t3 : Fin k0_t3_loop.trips) : Fin 2 → Nat :=
  let c0_i32_354 : BitVec 32 := 0#32
  let c1_i32_356 : BitVec 32 := 1#32
  let arg25 : BitVec 32 := Scf.iv c0_i32_354 c1_i32_356 k0_t3
  let c512_i32_1540 : BitVec 32 := 512#32
  let v1274 : BitVec 32 := Scalar.muli arg25 c512_i32_1540
  let v1283 : Index := Scalar.indexCast v1274
  let c0_1549 : Index := 0#32
  ![v1283.toNat, 0]
@[reducible] def k0_t4_loop : Scf.Loop 32 :=
  let c0_i32_360 : BitVec 32 := 0#32
  let c8_i32_361 : BitVec 32 := 8#32
  let v324 : BitVec 32 := Scalar.addi c0_i32_360 c8_i32_361
  let c1_i32_362 : BitVec 32 := 1#32
  ⟨c0_i32_360, v324, c1_i32_362⟩
def k0_off7 (k0_t4 : Fin k0_t4_loop.trips) : Fin 2 → Nat :=
  let c0_i32_360 : BitVec 32 := 0#32
  let c1_i32_362 : BitVec 32 := 1#32
  let arg25 : BitVec 32 := Scf.iv c0_i32_360 c1_i32_362 k0_t4
  let c512_i32_1540 : BitVec 32 := 512#32
  let v1274 : BitVec 32 := Scalar.muli arg25 c512_i32_1540
  let v1277 : Index := Scalar.indexCast v1274
  let c0_1543 : Index := 0#32
  ![v1277.toNat, 0]
def k0_off8 (k0_t4 : Fin k0_t4_loop.trips) : Fin 2 → Nat :=
  let c0_i32_360 : BitVec 32 := 0#32
  let c1_i32_362 : BitVec 32 := 1#32
  let arg25 : BitVec 32 := Scf.iv c0_i32_360 c1_i32_362 k0_t4
  let c512_i32_1540 : BitVec 32 := 512#32
  let v1274 : BitVec 32 := Scalar.muli arg25 c512_i32_1540
  let v1283 : Index := Scalar.indexCast v1274
  let c0_1549 : Index := 0#32
  ![v1283.toNat, 0]
def k0_dev21 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_419 : BitVec 32 := 1#32
  let v361 : BitVec 32 := Scalar.muli v5 c1_i32_419
  let v362 : BitVec 32 := Scalar.addi c0_i32_420 v361
  v362.toNat
def k0_dev22 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_422 : BitVec 32 := 1#32
  let v363 : BitVec 32 := Scalar.muli v7 c1_i32_422
  let v364 : BitVec 32 := Scalar.addi c0_i32_423 v363
  v364.toNat
def k0_dev23 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_442 : BitVec 32 := 1#32
  let v373 : BitVec 32 := Scalar.muli v7 c1_i32_442
  let v374 : BitVec 32 := Scalar.addi c0_i32_443 v373
  v374.toNat
def k0_dev24 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_462 : BitVec 32 := 1#32
  let v391 : BitVec 32 := Scalar.muli v7 c1_i32_462
  let v392 : BitVec 32 := Scalar.addi c0_i32_463 v391
  v392.toNat
def k0_dev25 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_482 : BitVec 32 := 1#32
  let v409 : BitVec 32 := Scalar.muli v7 c1_i32_482
  let v410 : BitVec 32 := Scalar.addi c0_i32_483 v409
  v410.toNat
def k0_dev26 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_502 : BitVec 32 := 1#32
  let v427 : BitVec 32 := Scalar.muli v5 c1_i32_502
  let v428 : BitVec 32 := Scalar.addi c0_i32_503 v427
  v428.toNat
def k0_dev27 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_522 : BitVec 32 := 1#32
  let v445 : BitVec 32 := Scalar.muli v5 c1_i32_522
  let v446 : BitVec 32 := Scalar.addi c0_i32_523 v445
  v446.toNat
def k0_dev28 (d0 : Dev nD) : Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_542 : BitVec 32 := 1#32
  let v463 : BitVec 32 := Scalar.muli v5 c1_i32_542
  let v464 : BitVec 32 := Scalar.addi c0_i32_543 v463
  v464.toNat
@[reducible] def k0_t5_loop : Scf.Loop 32 :=
  let c0_i32_550 : BitVec 32 := 0#32
  let c8_i32_551 : BitVec 32 := 8#32
  let v473 : BitVec 32 := Scalar.addi c0_i32_550 c8_i32_551
  let c1_i32_552 : BitVec 32 := 1#32
  ⟨c0_i32_550, v473, c1_i32_552⟩
def k0_off9 (k0_t5 : Fin k0_t5_loop.trips) : Fin 2 → Nat :=
  let c0_i32_550 : BitVec 32 := 0#32
  let c1_i32_552 : BitVec 32 := 1#32
  let arg25 : BitVec 32 := Scf.iv c0_i32_550 c1_i32_552 k0_t5
  let c512_i32_1540 : BitVec 32 := 512#32
  let v1274 : BitVec 32 := Scalar.muli arg25 c512_i32_1540
  let v1277 : Index := Scalar.indexCast v1274
  let c0_1543 : Index := 0#32
  ![v1277.toNat, 0]
def k0_off10 (k0_t5 : Fin k0_t5_loop.trips) : Fin 2 → Nat :=
  let c0_i32_550 : BitVec 32 := 0#32
  let c1_i32_552 : BitVec 32 := 1#32
  let arg25 : BitVec 32 := Scf.iv c0_i32_550 c1_i32_552 k0_t5
  let c512_i32_1540 : BitVec 32 := 512#32
  let v1274 : BitVec 32 := Scalar.muli arg25 c512_i32_1540
  let v1283 : Index := Scalar.indexCast v1274
  let c0_1549 : Index := 0#32
  ![v1283.toNat, 0]
@[reducible] def k0_t6_loop : Scf.Loop 32 :=
  let c0_i32_556 : BitVec 32 := 0#32
  let c8_i32_557 : BitVec 32 := 8#32
  let v474 : BitVec 32 := Scalar.addi c0_i32_556 c8_i32_557
  let c1_i32_558 : BitVec 32 := 1#32
  ⟨c0_i32_556, v474, c1_i32_558⟩
def k0_off11 (k0_t6 : Fin k0_t6_loop.trips) : Fin 2 → Nat :=
  let c0_i32_556 : BitVec 32 := 0#32
  let c1_i32_558 : BitVec 32 := 1#32
  let arg25 : BitVec 32 := Scf.iv c0_i32_556 c1_i32_558 k0_t6
  let c512_i32_1540 : BitVec 32 := 512#32
  let v1274 : BitVec 32 := Scalar.muli arg25 c512_i32_1540
  let v1277 : Index := Scalar.indexCast v1274
  let c0_1543 : Index := 0#32
  ![v1277.toNat, 0]
def k0_off12 (k0_t6 : Fin k0_t6_loop.trips) : Fin 2 → Nat :=
  let c0_i32_556 : BitVec 32 := 0#32
  let c1_i32_558 : BitVec 32 := 1#32
  let arg25 : BitVec 32 := Scf.iv c0_i32_556 c1_i32_558 k0_t6
  let c512_i32_1540 : BitVec 32 := 512#32
  let v1274 : BitVec 32 := Scalar.muli arg25 c512_i32_1540
  let v1283 : Index := Scalar.indexCast v1274
  let c0_1549 : Index := 0#32
  ![v1283.toNat, 0]
def k0_dev29 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_615 : BitVec 32 := 1#32
  let v511 : BitVec 32 := Scalar.muli v5 c1_i32_615
  let v512 : BitVec 32 := Scalar.addi c0_i32_616 v511
  v512.toNat
def k0_dev30 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_618 : BitVec 32 := 1#32
  let v513 : BitVec 32 := Scalar.muli v7 c1_i32_618
  let v514 : BitVec 32 := Scalar.addi c0_i32_619 v513
  v514.toNat
def k0_dev31 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_638 : BitVec 32 := 1#32
  let v523 : BitVec 32 := Scalar.muli v7 c1_i32_638
  let v524 : BitVec 32 := Scalar.addi c0_i32_639 v523
  v524.toNat
def k0_dev32 (d0 : Dev nD) : Nat :=
  let c0_i32_659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_658 : BitVec 32 := 1#32
  let v541 : BitVec 32 := Scalar.muli v7 c1_i32_658
  let v542 : BitVec 32 := Scalar.addi c0_i32_659 v541
  v542.toNat
def k0_dev33 (d0 : Dev nD) : Nat :=
  let c0_i32_679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_678 : BitVec 32 := 1#32
  let v559 : BitVec 32 := Scalar.muli v7 c1_i32_678
  let v560 : BitVec 32 := Scalar.addi c0_i32_679 v559
  v560.toNat
def k0_dev34 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_698 : BitVec 32 := 1#32
  let v577 : BitVec 32 := Scalar.muli v5 c1_i32_698
  let v578 : BitVec 32 := Scalar.addi c0_i32_699 v577
  v578.toNat
def k0_dev35 (d0 : Dev nD) : Nat :=
  let c0_i32_719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_718 : BitVec 32 := 1#32
  let v595 : BitVec 32 := Scalar.muli v5 c1_i32_718
  let v596 : BitVec 32 := Scalar.addi c0_i32_719 v595
  v596.toNat
def k0_dev36 (d0 : Dev nD) : Nat :=
  let c0_i32_739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_738 : BitVec 32 := 1#32
  let v613 : BitVec 32 := Scalar.muli v5 c1_i32_738
  let v614 : BitVec 32 := Scalar.addi c0_i32_739 v613
  v614.toNat
@[reducible] def k0_t7_loop : Scf.Loop 32 :=
  let c0_i32_746 : BitVec 32 := 0#32
  let c8_i32_747 : BitVec 32 := 8#32
  let v623 : BitVec 32 := Scalar.addi c0_i32_746 c8_i32_747
  let c1_i32_748 : BitVec 32 := 1#32
  ⟨c0_i32_746, v623, c1_i32_748⟩
def k0_off13 (k0_t7 : Fin k0_t7_loop.trips) : Fin 2 → Nat :=
  let c0_i32_746 : BitVec 32 := 0#32
  let c1_i32_748 : BitVec 32 := 1#32
  let arg25 : BitVec 32 := Scf.iv c0_i32_746 c1_i32_748 k0_t7
  let c512_i32_1540 : BitVec 32 := 512#32
  let v1274 : BitVec 32 := Scalar.muli arg25 c512_i32_1540
  let v1277 : Index := Scalar.indexCast v1274
  let c0_1543 : Index := 0#32
  ![v1277.toNat, 0]
def k0_off14 (k0_t7 : Fin k0_t7_loop.trips) : Fin 2 → Nat :=
  let c0_i32_746 : BitVec 32 := 0#32
  let c1_i32_748 : BitVec 32 := 1#32
  let arg25 : BitVec 32 := Scf.iv c0_i32_746 c1_i32_748 k0_t7
  let c512_i32_1540 : BitVec 32 := 512#32
  let v1274 : BitVec 32 := Scalar.muli arg25 c512_i32_1540
  let v1283 : Index := Scalar.indexCast v1274
  let c0_1549 : Index := 0#32
  ![v1283.toNat, 0]
@[reducible] def k0_t8_loop : Scf.Loop 32 :=
  let c0_i32_752 : BitVec 32 := 0#32
  let c8_i32_753 : BitVec 32 := 8#32
  let v624 : BitVec 32 := Scalar.addi c0_i32_752 c8_i32_753
  let c1_i32_754 : BitVec 32 := 1#32
  ⟨c0_i32_752, v624, c1_i32_754⟩
def k0_off15 (k0_t8 : Fin k0_t8_loop.trips) : Fin 2 → Nat :=
  let c0_i32_752 : BitVec 32 := 0#32
  let c1_i32_754 : BitVec 32 := 1#32
  let arg25 : BitVec 32 := Scf.iv c0_i32_752 c1_i32_754 k0_t8
  let c512_i32_1540 : BitVec 32 := 512#32
  let v1274 : BitVec 32 := Scalar.muli arg25 c512_i32_1540
  let v1277 : Index := Scalar.indexCast v1274
  let c0_1543 : Index := 0#32
  ![v1277.toNat, 0]
def k0_off16 (k0_t8 : Fin k0_t8_loop.trips) : Fin 2 → Nat :=
  let c0_i32_752 : BitVec 32 := 0#32
  let c1_i32_754 : BitVec 32 := 1#32
  let arg25 : BitVec 32 := Scf.iv c0_i32_752 c1_i32_754 k0_t8
  let c512_i32_1540 : BitVec 32 := 512#32
  let v1274 : BitVec 32 := Scalar.muli arg25 c512_i32_1540
  let v1283 : Index := Scalar.indexCast v1274
  let c0_1549 : Index := 0#32
  ![v1283.toNat, 0]
def k0_dev37 (d0 : Dev nD) : Nat :=
  let c0_i32_812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_811 : BitVec 32 := 1#32
  let v661 : BitVec 32 := Scalar.muli v5 c1_i32_811
  let v662 : BitVec 32 := Scalar.addi c0_i32_812 v661
  v662.toNat
def k0_dev38 (d0 : Dev nD) : Nat :=
  let c0_i32_815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_814 : BitVec 32 := 1#32
  let v663 : BitVec 32 := Scalar.muli v7 c1_i32_814
  let v664 : BitVec 32 := Scalar.addi c0_i32_815 v663
  v664.toNat
def k0_dev39 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_834 : BitVec 32 := 1#32
  let v673 : BitVec 32 := Scalar.muli v7 c1_i32_834
  let v674 : BitVec 32 := Scalar.addi c0_i32_835 v673
  v674.toNat
def k0_dev40 (d0 : Dev nD) : Nat :=
  let c0_i32_855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_854 : BitVec 32 := 1#32
  let v691 : BitVec 32 := Scalar.muli v7 c1_i32_854
  let v692 : BitVec 32 := Scalar.addi c0_i32_855 v691
  v692.toNat
def k0_dev41 (d0 : Dev nD) : Nat :=
  let c0_i32_875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_874 : BitVec 32 := 1#32
  let v709 : BitVec 32 := Scalar.muli v7 c1_i32_874
  let v710 : BitVec 32 := Scalar.addi c0_i32_875 v709
  v710.toNat
def k0_dev42 (d0 : Dev nD) : Nat :=
  let c0_i32_895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_894 : BitVec 32 := 1#32
  let v727 : BitVec 32 := Scalar.muli v5 c1_i32_894
  let v728 : BitVec 32 := Scalar.addi c0_i32_895 v727
  v728.toNat
def k0_dev43 (d0 : Dev nD) : Nat :=
  let c0_i32_915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_914 : BitVec 32 := 1#32
  let v745 : BitVec 32 := Scalar.muli v5 c1_i32_914
  let v746 : BitVec 32 := Scalar.addi c0_i32_915 v745
  v746.toNat
def k0_dev44 (d0 : Dev nD) : Nat :=
  let c0_i32_935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_934 : BitVec 32 := 1#32
  let v763 : BitVec 32 := Scalar.muli v5 c1_i32_934
  let v764 : BitVec 32 := Scalar.addi c0_i32_935 v763
  v764.toNat
@[reducible] def k0_t9_loop : Scf.Loop 32 :=
  let c0_i32_942 : BitVec 32 := 0#32
  let c8_i32_943 : BitVec 32 := 8#32
  let v773 : BitVec 32 := Scalar.addi c0_i32_942 c8_i32_943
  let c1_i32_944 : BitVec 32 := 1#32
  ⟨c0_i32_942, v773, c1_i32_944⟩
def k0_off17 (k0_t9 : Fin k0_t9_loop.trips) : Fin 2 → Nat :=
  let c0_i32_942 : BitVec 32 := 0#32
  let c1_i32_944 : BitVec 32 := 1#32
  let arg25 : BitVec 32 := Scf.iv c0_i32_942 c1_i32_944 k0_t9
  let c512_i32_1540 : BitVec 32 := 512#32
  let v1274 : BitVec 32 := Scalar.muli arg25 c512_i32_1540
  let v1277 : Index := Scalar.indexCast v1274
  let c0_1543 : Index := 0#32
  ![v1277.toNat, 0]
def k0_off18 (k0_t9 : Fin k0_t9_loop.trips) : Fin 2 → Nat :=
  let c0_i32_942 : BitVec 32 := 0#32
  let c1_i32_944 : BitVec 32 := 1#32
  let arg25 : BitVec 32 := Scf.iv c0_i32_942 c1_i32_944 k0_t9
  let c512_i32_1540 : BitVec 32 := 512#32
  let v1274 : BitVec 32 := Scalar.muli arg25 c512_i32_1540
  let v1283 : Index := Scalar.indexCast v1274
  let c0_1549 : Index := 0#32
  ![v1283.toNat, 0]
@[reducible] def k0_t10_loop : Scf.Loop 32 :=
  let c0_i32_948 : BitVec 32 := 0#32
  let c8_i32_949 : BitVec 32 := 8#32
  let v774 : BitVec 32 := Scalar.addi c0_i32_948 c8_i32_949
  let c1_i32_950 : BitVec 32 := 1#32
  ⟨c0_i32_948, v774, c1_i32_950⟩
def k0_off19 (k0_t10 : Fin k0_t10_loop.trips) : Fin 2 → Nat :=
  let c0_i32_948 : BitVec 32 := 0#32
  let c1_i32_950 : BitVec 32 := 1#32
  let arg25 : BitVec 32 := Scf.iv c0_i32_948 c1_i32_950 k0_t10
  let c512_i32_1540 : BitVec 32 := 512#32
  let v1274 : BitVec 32 := Scalar.muli arg25 c512_i32_1540
  let v1277 : Index := Scalar.indexCast v1274
  let c0_1543 : Index := 0#32
  ![v1277.toNat, 0]
def k0_off20 (k0_t10 : Fin k0_t10_loop.trips) : Fin 2 → Nat :=
  let c0_i32_948 : BitVec 32 := 0#32
  let c1_i32_950 : BitVec 32 := 1#32
  let arg25 : BitVec 32 := Scf.iv c0_i32_948 c1_i32_950 k0_t10
  let c512_i32_1540 : BitVec 32 := 512#32
  let v1274 : BitVec 32 := Scalar.muli arg25 c512_i32_1540
  let v1283 : Index := Scalar.indexCast v1274
  let c0_1549 : Index := 0#32
  ![v1283.toNat, 0]
def k0_dev45 (d0 : Dev nD) : Nat :=
  let c0_i32_1008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1007 : BitVec 32 := 1#32
  let v811 : BitVec 32 := Scalar.muli v5 c1_i32_1007
  let v812 : BitVec 32 := Scalar.addi c0_i32_1008 v811
  v812.toNat
def k0_dev46 (d0 : Dev nD) : Nat :=
  let c0_i32_1011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1010 : BitVec 32 := 1#32
  let v813 : BitVec 32 := Scalar.muli v7 c1_i32_1010
  let v814 : BitVec 32 := Scalar.addi c0_i32_1011 v813
  v814.toNat
def k0_dev47 (d0 : Dev nD) : Nat :=
  let c0_i32_1031 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1030 : BitVec 32 := 1#32
  let v823 : BitVec 32 := Scalar.muli v7 c1_i32_1030
  let v824 : BitVec 32 := Scalar.addi c0_i32_1031 v823
  v824.toNat
def k0_dev48 (d0 : Dev nD) : Nat :=
  let c0_i32_1051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1050 : BitVec 32 := 1#32
  let v841 : BitVec 32 := Scalar.muli v7 c1_i32_1050
  let v842 : BitVec 32 := Scalar.addi c0_i32_1051 v841
  v842.toNat
def k0_dev49 (d0 : Dev nD) : Nat :=
  let c0_i32_1071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1070 : BitVec 32 := 1#32
  let v859 : BitVec 32 := Scalar.muli v7 c1_i32_1070
  let v860 : BitVec 32 := Scalar.addi c0_i32_1071 v859
  v860.toNat
def k0_dev50 (d0 : Dev nD) : Nat :=
  let c0_i32_1091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1090 : BitVec 32 := 1#32
  let v877 : BitVec 32 := Scalar.muli v5 c1_i32_1090
  let v878 : BitVec 32 := Scalar.addi c0_i32_1091 v877
  v878.toNat
def k0_dev51 (d0 : Dev nD) : Nat :=
  let c0_i32_1111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1110 : BitVec 32 := 1#32
  let v895 : BitVec 32 := Scalar.muli v5 c1_i32_1110
  let v896 : BitVec 32 := Scalar.addi c0_i32_1111 v895
  v896.toNat
def k0_dev52 (d0 : Dev nD) : Nat :=
  let c0_i32_1131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1130 : BitVec 32 := 1#32
  let v913 : BitVec 32 := Scalar.muli v5 c1_i32_1130
  let v914 : BitVec 32 := Scalar.addi c0_i32_1131 v913
  v914.toNat
@[reducible] def k0_t11_loop : Scf.Loop 32 :=
  let c0_i32_1138 : BitVec 32 := 0#32
  let c8_i32_1139 : BitVec 32 := 8#32
  let v923 : BitVec 32 := Scalar.addi c0_i32_1138 c8_i32_1139
  let c1_i32_1140 : BitVec 32 := 1#32
  ⟨c0_i32_1138, v923, c1_i32_1140⟩
def k0_off21 (k0_t11 : Fin k0_t11_loop.trips) : Fin 2 → Nat :=
  let c0_i32_1138 : BitVec 32 := 0#32
  let c1_i32_1140 : BitVec 32 := 1#32
  let arg25 : BitVec 32 := Scf.iv c0_i32_1138 c1_i32_1140 k0_t11
  let c512_i32_1540 : BitVec 32 := 512#32
  let v1274 : BitVec 32 := Scalar.muli arg25 c512_i32_1540
  let v1277 : Index := Scalar.indexCast v1274
  let c0_1543 : Index := 0#32
  ![v1277.toNat, 0]
def k0_off22 (k0_t11 : Fin k0_t11_loop.trips) : Fin 2 → Nat :=
  let c0_i32_1138 : BitVec 32 := 0#32
  let c1_i32_1140 : BitVec 32 := 1#32
  let arg25 : BitVec 32 := Scf.iv c0_i32_1138 c1_i32_1140 k0_t11
  let c512_i32_1540 : BitVec 32 := 512#32
  let v1274 : BitVec 32 := Scalar.muli arg25 c512_i32_1540
  let v1283 : Index := Scalar.indexCast v1274
  let c0_1549 : Index := 0#32
  ![v1283.toNat, 0]
@[reducible] def k0_t12_loop : Scf.Loop 32 :=
  let c0_i32_1144 : BitVec 32 := 0#32
  let c8_i32_1145 : BitVec 32 := 8#32
  let v924 : BitVec 32 := Scalar.addi c0_i32_1144 c8_i32_1145
  let c1_i32_1146 : BitVec 32 := 1#32
  ⟨c0_i32_1144, v924, c1_i32_1146⟩
def k0_off23 (k0_t12 : Fin k0_t12_loop.trips) : Fin 2 → Nat :=
  let c0_i32_1144 : BitVec 32 := 0#32
  let c1_i32_1146 : BitVec 32 := 1#32
  let arg25 : BitVec 32 := Scf.iv c0_i32_1144 c1_i32_1146 k0_t12
  let c512_i32_1540 : BitVec 32 := 512#32
  let v1274 : BitVec 32 := Scalar.muli arg25 c512_i32_1540
  let v1277 : Index := Scalar.indexCast v1274
  let c0_1543 : Index := 0#32
  ![v1277.toNat, 0]
def k0_off24 (k0_t12 : Fin k0_t12_loop.trips) : Fin 2 → Nat :=
  let c0_i32_1144 : BitVec 32 := 0#32
  let c1_i32_1146 : BitVec 32 := 1#32
  let arg25 : BitVec 32 := Scf.iv c0_i32_1144 c1_i32_1146 k0_t12
  let c512_i32_1540 : BitVec 32 := 512#32
  let v1274 : BitVec 32 := Scalar.muli arg25 c512_i32_1540
  let v1283 : Index := Scalar.indexCast v1274
  let c0_1549 : Index := 0#32
  ![v1283.toNat, 0]
@[reducible] def k0_t13_loop : Scf.Loop 32 :=
  let c0_i32_1244 : BitVec 32 := 0#32
  let c8_i32_1245 : BitVec 32 := 8#32
  let v993 : BitVec 32 := Scalar.addi c0_i32_1244 c8_i32_1245
  let c1_i32_1246 : BitVec 32 := 1#32
  ⟨c0_i32_1244, v993, c1_i32_1246⟩
def k0_off25 (k0_t13 : Fin k0_t13_loop.trips) : Fin 2 → Nat :=
  let c0_i32_1244 : BitVec 32 := 0#32
  let c1_i32_1246 : BitVec 32 := 1#32
  let arg25 : BitVec 32 := Scf.iv c0_i32_1244 c1_i32_1246 k0_t13
  let c512_i32_1540 : BitVec 32 := 512#32
  let v1274 : BitVec 32 := Scalar.muli arg25 c512_i32_1540
  let v1277 : Index := Scalar.indexCast v1274
  let c0_1543 : Index := 0#32
  ![v1277.toNat, 0]
def k0_off26 (k0_t13 : Fin k0_t13_loop.trips) : Fin 2 → Nat :=
  let c0_i32_1244 : BitVec 32 := 0#32
  let c1_i32_1246 : BitVec 32 := 1#32
  let arg25 : BitVec 32 := Scf.iv c0_i32_1244 c1_i32_1246 k0_t13
  let c512_i32_1540 : BitVec 32 := 512#32
  let v1274 : BitVec 32 := Scalar.muli arg25 c512_i32_1540
  let v1283 : Index := Scalar.indexCast v1274
  let c0_1549 : Index := 0#32
  ![v1283.toNat, 0]
@[reducible] def k0_t14_loop : Scf.Loop 32 :=
  let c0_i32_1250 : BitVec 32 := 0#32
  let c8_i32_1251 : BitVec 32 := 8#32
  let v994 : BitVec 32 := Scalar.addi c0_i32_1250 c8_i32_1251
  let c1_i32_1252 : BitVec 32 := 1#32
  ⟨c0_i32_1250, v994, c1_i32_1252⟩
def k0_off27 (k0_t14 : Fin k0_t14_loop.trips) : Fin 2 → Nat :=
  let c0_i32_1250 : BitVec 32 := 0#32
  let c1_i32_1252 : BitVec 32 := 1#32
  let arg25 : BitVec 32 := Scf.iv c0_i32_1250 c1_i32_1252 k0_t14
  let c512_i32_1540 : BitVec 32 := 512#32
  let v1274 : BitVec 32 := Scalar.muli arg25 c512_i32_1540
  let v1277 : Index := Scalar.indexCast v1274
  let c0_1543 : Index := 0#32
  ![v1277.toNat, 0]
def k0_off28 (k0_t14 : Fin k0_t14_loop.trips) : Fin 2 → Nat :=
  let c0_i32_1250 : BitVec 32 := 0#32
  let c1_i32_1252 : BitVec 32 := 1#32
  let arg25 : BitVec 32 := Scf.iv c0_i32_1250 c1_i32_1252 k0_t14
  let c512_i32_1540 : BitVec 32 := 512#32
  let v1274 : BitVec 32 := Scalar.muli arg25 c512_i32_1540
  let v1283 : Index := Scalar.indexCast v1274
  let c0_1549 : Index := 0#32
  ![v1283.toNat, 0]
abbrev stage0_0 : Fin 1 → Memref sig .tc .vmem S4096x512 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdealCells.lean ====
/-
# The ring, the lanes, the cells

The kernel turns two rings at once. Every device passes its block of `x` (in two halves of rows) and its block of
`w` on to its right neighbour, hop after hop, and the same with the other half of its columns to the left. Here are
the names all the other modules use: the two directions, the three pieces of a hop, the buffers a piece passes
through, the semaphores of each lane.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelIdealPf

open Cert.KernelIdeal Cert.KernelIdeal.Gen
open Idealize.ShloMosaic
open Idealize.ShloMosaic.TcCoe
open Idealize.SL Idealize.SL.RA Idealize.SL.BI

/-! ## Directions, pieces, the ring -/

/-- Clockwise lanes send to the next device, counter-clockwise ones to the one before. -/
inductive Dir | cw | ccw
  deriving DecidableEq
instance : Fintype Dir := ⟨{.cw, .ccw}, by intro x; cases x <;> decide⟩

/-- A hop moves three pieces: the `w` block, the upper and the lower rows of the `x` block. -/
inductive Pc | w | x0 | x1
  deriving DecidableEq
instance : Fintype Pc := ⟨{.w, .x0, .x1}, by intro x; cases x <;> decide⟩

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩
theorem prv_nxt (c : Dev nD) : prv (nxt c) = c := by revert c; decide
theorem nxt_prv (c : Dev nD) : nxt (prv c) = c := by revert c; decide

/-- The device a lane sends to, and the one it receives from. -/
def dn : Dir → Dev nD → Dev nD | .cw => nxt | .ccw => prv
def up : Dir → Dev nD → Dev nD | .cw => prv | .ccw => nxt
theorem up_dn (d : Dir) (c : Dev nD) : up d (dn d c) = c := by cases d <;> [exact prv_nxt c; exact nxt_prv c]
theorem dn_up (d : Dir) (c : Dev nD) : dn d (up d c) = c := by cases d <;> [exact nxt_prv c; exact prv_nxt c]

/-- A direction's step along the ring, as a permutation of the devices. -/
def turn (d : Dir) : Dev nD ≃ Dev nD := ⟨dn d, up d, up_dn d, dn_up d⟩

/-- The device `i` steps upstream. -/
def back (d : Dir) : ℕ → Dev nD → Dev nD
  | 0, c => c
  | i + 1, c => back d i (up d c)
theorem back_dn (d : Dir) (i : ℕ) (c : Dev nD) : back d (i + 1) (dn d c) = back d i c := by
  show back d i (up d (dn d c)) = _; rw [up_dn]

/-! ## Buffers -/

abbrev Pc.shape : Pc → Shape | .w => S256x2048 | .x0 => S2048x256 | .x1 => S2048x256

theorem inbSlotX (k : Fin 3) (o : ℕ) (ho : o = 0 ∨ o = 2048) :
    ∀ a, (![k.val, o, 0] : Fin 3 → Nat) a + S1x2048x256.size a ≤ S3x4096x256.size a := by
  rcases ho with rfl | rfl <;> revert k <;> decide
theorem inbSlotW (k : Fin 3) : ∀ a, (![k.val, 0, 0] : Fin 3 → Nat) a + S1x256x2048.size a ≤ S3x256x2048.size a := by
  revert k; decide
theorem inbSlotF (k : Fin 3) : ∀ a, (![k.val, 0, 0] : Fin 3 → Nat) a + S1x4096x256.size a ≤ S3x4096x256.size a := by
  revert k; decide
theorem inbOwn (o : ℕ) (ho : o = 0 ∨ o = 2048) : ∀ a, (![o, 0] : Fin 2 → Nat) a + S2048x256.size a ≤ S4096x256.size a := by
  rcases ho with rfl | rfl <;> decide

/-- A direction's scratch buffers: its own half of the `x` block and of the `w` block, and the three-slot buffers
    the neighbours' blocks arrive in. -/
abbrev oxM : Dir → Memref sig .tc .vmem S4096x256 .fp8e5m2 | .cw => Memref.whole cc0_scratch1 | .ccw => Memref.whole cc0_scratch2
abbrev owM : Dir → Memref sig .tc .vmem S256x2048 .fp8e5m2 | .cw => Memref.whole cc0_scratch3 | .ccw => Memref.whole cc0_scratch4
abbrev cxM : Dir → Memref sig .tc .vmem S3x4096x256 .fp8e5m2 | .cw => Memref.whole cc0_scratch5 | .ccw => Memref.whole cc0_scratch7
abbrev cwM : Dir → Memref sig .tc .vmem S3x256x2048 .fp8e5m2 | .cw => Memref.whole cc0_scratch6 | .ccw => Memref.whole cc0_scratch8
abbrev accM : Memref sig .tc .vmem S4096x2048 .f32 := Memref.whole cc0_scratch0
abbrev outM : Memref sig .tc .hbm S4096x2048 .f32 := Memref.whole main_v1

/-- A direction's own piece, the source of its first hop. -/
def ownM (d : Dir) : (p : Pc) → Memref sig .tc .vmem p.shape .fp8e5m2
  | .w => owM d
  | .x0 => (oxM d).slice (Rect.unit (s := S4096x256) ![0, 0] S2048x256.size (inbOwn 0 (.inl rfl))) (fun _ => rfl)
  | .x1 => (oxM d).slice (Rect.unit (s := S4096x256) ![2048, 0] S2048x256.size (inbOwn 2048 (.inr rfl))) (fun _ => rfl)

/-- The piece's part of a slot. -/
def slotM (d : Dir) : (p : Pc) → Fin 3 → Memref sig .tc .vmem p.shape .fp8e5m2
  | .w, k => ((cwM d).slice (Rect.unit (s := S3x256x2048) ![k.val, 0, 0] S1x256x2048.size (inbSlotW k)) (fun _ => rfl)).squeeze S256x2048 squeezes_S1x256x2048_S256x2048
  | .x0, k => ((cxM d).slice (Rect.unit (s := S3x4096x256) ![k.val, 0, 0] S1x2048x256.size (inbSlotX k 0 (.inl rfl))) (fun _ => rfl)).squeeze S2048x256 squeezes_S1x2048x256_S2048x256
  | .x1, k => ((cxM d).slice (Rect.unit (s := S3x4096x256) ![k.val, 2048, 0] S1x2048x256.size (inbSlotX k 2048 (.inr rfl))) (fun _ => rfl)).squeeze S2048x256 squeezes_S1x2048x256_S2048x256

/-- Hop `h` lands in slot `h mod 3`. -/
def sl (h : ℕ) : Fin 3 := ⟨h % 3, Nat.mod_lt _ (by decide)⟩

/-- Where a lane's piece is kept when it has made `i` hops: its own buffer, then slot after slot. -/
def bufM (d : Dir) (p : Pc) : ℕ → Memref sig .tc .vmem p.shape .fp8e5m2
  | 0 => ownM d p
  | h + 1 => slotM d p (sl h)

/-! ## Semaphores -/

def sIx : Dir → Pc → ℕ → ℕ
  | .cw, .w, k => 16 + k | .cw, .x0, k => 4 + 2 * k | .cw, .x1, k => 5 + 2 * k
  | .ccw, .w, k => 34 + k | .ccw, .x0, k => 22 + 2 * k | .ccw, .x1, k => 23 + 2 * k
def rIx : Dir → Pc → ℕ → ℕ
  | .cw, .w, k => 19 + k | .cw, .x0, k => 10 + 2 * k | .cw, .x1, k => 11 + 2 * k
  | .ccw, .w, k => 37 + k | .ccw, .x0, k => 28 + 2 * k | .ccw, .x1, k => 29 + 2 * k

theorem sIx_lt (d : Dir) (p : Pc) (k : Fin 3) : sIx d p k.val < 44 := by revert d p k; decide
theorem rIx_lt (d : Dir) (p : Pc) (k : Fin 3) : rIx d p k.val < 44 := by revert d p k; decide

/-- The completion semaphores of hop `h`: the sender's and the receiver's. -/
def sSem (d : Dir) (p : Pc) (h : ℕ) : DmaSem sig := ⟨sIx d p (sl h).val, sIx_lt d p (sl h)⟩
def rSem (d : Dir) (p : Pc) (h : ℕ) : DmaSem sig := ⟨rIx d p (sl h).val, rIx_lt d p (sl h)⟩
def oSem (k : Fin 4) : DmaSem sig := ⟨40 + k.val, by show 40 + k.val < 44; omega⟩
/-- The credit semaphores, and the barrier's. -/
def crSem : Dir → Sem sig | .cw => ⟨0, by decide⟩ | .ccw => ⟨1, by decide⟩
def barSem : Sem sig := ⟨2, by decide⟩

abbrev Cell := GSem nD τ sig
def sCell (c : Dev nD) (d : Dir) (p : Pc) (h : ℕ) : Cell := ((c : Thread nD τ), .dma (sSem d p h))
def rCell (c : Dev nD) (d : Dir) (p : Pc) (h : ℕ) : Cell := ((c : Thread nD τ), .dma (rSem d p h))
def oCell (c : Dev nD) (k : Fin 4) : Cell := ((c : Thread nD τ), .dma (oSem k))
def crCell (c : Dev nD) (d : Dir) : Cell := ((c : Thread nD τ), .reg (crSem d))
def barCell (c : Dev nD) : Cell := ((c : Thread nD τ), .reg barSem)

/-- What a semaphore is for. -/
inductive Role | send (d : Dir) (p : Pc) (k : Fin 3) | recv (d : Dir) (p : Pc) (k : Fin 3) | out (k : Fin 4) | cred (d : Dir) | bar | other
  deriving DecidableEq

def dmaRole : Fin 44 → Role
  | 4 => .send .cw .x0 0 | 5 => .send .cw .x1 0 | 6 => .send .cw .x0 1 | 7 => .send .cw .x1 1 | 8 => .send .cw .x0 2 | 9 => .send .cw .x1 2
  | 10 => .recv .cw .x0 0 | 11 => .recv .cw .x1 0 | 12 => .recv .cw .x0 1 | 13 => .recv .cw .x1 1 | 14 => .recv .cw .x0 2 | 15 => .recv .cw .x1 2
  | 16 => .send .cw .w 0 | 17 => .send .cw .w 1 | 18 => .send .cw .w 2 | 19 => .recv .cw .w 0 | 20 => .recv .cw .w 1 | 21 => .recv .cw .w 2
  | 22 => .send .ccw .x0 0 | 23 => .send .ccw .x1 0 | 24 => .send .ccw .x0 1 | 25 => .send .ccw .x1 1 | 26 => .send .ccw .x0 2 | 27 => .send .ccw .x1 2
  | 28 => .recv .ccw .x0 0 | 29 => .recv .ccw .x1 0 | 30 => .recv .ccw .x0 1 | 31 => .recv .ccw .x1 1 | 32 => .recv .ccw .x0 2 | 33 => .recv .ccw .x1 2
  | 34 => .send .ccw .w 0 | 35 => .send .ccw .w 1 | 36 => .send .ccw .w 2 | 37 => .recv .ccw .w 0 | 38 => .recv .ccw .w 1 | 39 => .recv .ccw .w 2
  | 40 => .out 0 | 41 => .out 1 | 42 => .out 2 | 43 => .out 3
  | _ => .other
def regRole : Fin 3 → Role | 0 => .cred .cw | 1 => .cred .ccw | 2 => .bar
def role : SemLoc sig → Role
  | .reg s => regRole s
  | .dma s => dmaRole s

theorem role_s (d : Dir) (p : Pc) (h : ℕ) : role (.dma (sSem d p h)) = .send d p (sl h) := by
  show dmaRole ⟨sIx d p (sl h).val, sIx_lt d p (sl h)⟩ = .send d p (sl h)
  generalize sl h = k; revert d p k; decide
theorem role_r (d : Dir) (p : Pc) (h : ℕ) : role (.dma (rSem d p h)) = .recv d p (sl h) := by
  show dmaRole ⟨rIx d p (sl h).val, rIx_lt d p (sl h)⟩ = .recv d p (sl h)
  generalize sl h = k; revert d p k; decide
theorem role_o (k : Fin 4) : role (.dma (oSem k)) = .out k := by revert k; decide
theorem role_cr (d : Dir) : role (.reg (crSem d)) = .cred d := by revert d; decide
theorem role_bar : role (.reg barSem) = .bar := by decide

/-- The bytes of a piece, as a completion counts them. -/
def N (p : Pc) : ℕ := (slotM .cw p 0).view.dmaCredit
theorem N_pos (p : Pc) : 0 < N p := by unfold N; exact View.dmaCredit_pos _ (by cases p <;> decide)

theorem credit_buf (d : Dir) (p : Pc) (i : ℕ) : (bufM d p i).view.dmaCredit = N p := by
  cases i <;> cases d <;> cases p <;> rfl

end Cert.KernelIdealPf

end
-- ==== Proof.KernelIdealSched.lean ====
/-
# What travels, and the schedule of the signals

First the values: a device's two halves of its `x` and `w` blocks (`oX`, `oW`), what a lane's piece is after `i`
hops (`piece`), the running sum of a tile (`accT`) and the finished tile (`outT`). Then the schedule: which transfer
or signal lands in which round of which semaphore and what it hands over; what each device owes the others, in the
order of the program; and the levels by which no wait of the program can be part of a cycle.
-/
module

public import proofs.«01_k».proof.Proof.KernelIdealCells

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-- A lane's receiving slot, by device, direction and hop: the keys of the slots given back by credit. -/
abbrev Key : Type := Dev nD × Dir × ℕ
abbrev UB : Type := URounds Cell ℕ
abbrev UK : Type := USlots Key
abbrev UU : Type := UR sig nD τ × (UB × UK)

local notation "𝕄" => MT nD τ sig ℕ (Elt F) ℕ UU ℕ

abbrev EP : Emb (UR sig nD τ) (MT nD τ sig ℕ (Elt F) ℕ UU ℕ) := embL
abbrev EBK : Emb (UB × UK) (MT nD τ sig ℕ (Elt F) ℕ UU ℕ) := embR
abbrev ER : Emb UB (MT nD τ sig ℕ (Elt F) ℕ UU ℕ) := (Emb.inl : Emb UB (UB × UK)).trans EBK
abbrev ES : Emb UK (MT nD τ sig ℕ (Elt F) ℕ UU ℕ) := (Emb.inr : Emb UK (UB × UK)).trans EBK

variable (m : (ℓ : Loc nD τ sig) → Buf (Elt F) ℓ)

/-! ## Values -/

/-- What a device's staged input blocks hold. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def sxstg (c : Dev nD) : (cc0_stg2_0 : Ref sig .tc).ty.Contents (Elt F) :=
  (win0_2.blk (0 : Fin 1)).view.read (Elt F) (m ((c : Thread nD τ).loc main_arg2))
def swstg (c : Dev nD) : (cc0_stg3_0 : Ref sig .tc).ty.Contents (Elt F) :=
  (win0_3.blk (0 : Fin 1)).view.read (Elt F) (m ((c : Thread nD τ).loc main_arg3))

abbrev xInM : Memref sig .tc .vmem S4096x512 .fp8e5m2 := Memref.whole cc0_stg0_0
abbrev wInM : Memref sig .tc .vmem S512x2048 .fp8e5m2 := Memref.whole cc0_stg1_0
abbrev sxM : Memref sig .tc .smem S1 .f32 := Memref.whole cc0_stg2_0
abbrev swM : Memref sig .tc .smem S1 .f32 := Memref.whole cc0_stg3_0

theorem inbX (o : ℕ) (ho : o = 0 ∨ o = 256) : ∀ a, (![0, o] : Fin 2 → Nat) a + S4096x256.size a ≤ S4096x512.size a := by
  rcases ho with rfl | rfl <;> decide
theorem inbW (o : ℕ) (ho : o = 0 ∨ o = 256) : ∀ a, (![o, 0] : Fin 2 → Nat) a + S256x2048.size a ≤ S512x2048.size a := by
  rcases ho with rfl | rfl <;> decide

/-- A direction's half of a device's `x` block (columns) and of its `w` block (rows), as the kernel stores them. -/
def oX : Dir → Dev nD → S4096x256.Idx → Elt F .fp8e5m2
  | .cw, c => k0_pay1 ((xInM.access (Rect.unit (s := S4096x512) ![0, 0] S4096x256.size (inbX 0 (.inl rfl)))).read (Elt F) (xstg m c))
  | .ccw, c => k0_pay2 ((xInM.access (Rect.unit (s := S4096x512) ![0, 256] S4096x256.size (inbX 256 (.inr rfl)))).read (Elt F) (xstg m c))
def oW : Dir → Dev nD → S256x2048.Idx → Elt F .fp8e5m2
  | .cw, c => k0_pay4 (k0_pay3 ((wInM.access (Rect.unit (s := S512x2048) ![0, 0] S256x2048.size (inbW 0 (.inl rfl)))).read (Elt F) (wstg m c)))
  | .ccw, c => k0_pay5 ((wInM.access (Rect.unit (s := S512x2048) ![256, 0] S256x2048.size (inbW 256 (.inr rfl)))).read (Elt F) (wstg m c))

/-- What device `c` starts a lane's round trip with. -/
def orig (d : Dir) (c : Dev nD) : (p : Pc) → p.shape.Idx → Elt F .fp8e5m2
  | .w => oW m d c
  | .x0 => fun y => oX m d c ((Rect.unit (s := S4096x256) ![0, 0] S2048x256.size (inbOwn 0 (.inl rfl))).emb y)
  | .x1 => fun y => oX m d c ((Rect.unit (s := S4096x256) ![2048, 0] S2048x256.size (inbOwn 2048 (.inr rfl))).emb y)

theorem inbTX (t : Fin 8) : ∀ a, (![512 * t.val, 0] : Fin 2 → Nat) a + S512x256.size a ≤ S4096x256.size a := by revert t; decide
theorem inbTA (t : Fin 8) : ∀ a, (![512 * t.val, 0] : Fin 2 → Nat) a + S512x2048.size a ≤ S4096x2048.size a := by revert t; decide

/-- A tile of 512 rows of a device's half `x` block. -/
def xT (d : Dir) (c : Dev nD) (t : Fin 8) : S512x256.Idx → Elt F .fp8e5m2 :=
  fun y => oX m d c ((Rect.unit (s := S4096x256) ![512 * t.val, 0] S512x256.size (inbTX t)).emb y)

/-- The running sum of tile `t` on device `c`: with its own blocks, then with those that arrive, one direction after
    the other; `j + 1` products are in `accT j`. -/
def accT (c : Dev nD) (t : Fin 8) : ℕ → S512x2048.Idx → Elt F .f32
  | 0 => k0_pay6 (xT m .cw c t) (oW m .cw c)
  | j + 1 =>
    let d : Dir := if (j + 1) % 2 = 0 then .cw else .ccw
    k0_pay7 (xT m d (back d ((j + 1) / 2) c) t) (oW m d (back d ((j + 1) / 2) c)) (accT c t j)

theorem inbS : ∀ a, (![0] : Fin 1 → Nat) a + S1.size a ≤ S1.size a := by decide
def oneS : S1.Idx := Shape.Idx.first (by decide)

/-- The product of the two scales. -/
def scl (c : Dev nD) : F .f32 :=
  k0_pay20 ((sxM.access (Rect.unit (s := S1) ![0] S1.size inbS)).read (Elt F) (sxstg m c) oneS)
    ((swM.access (Rect.unit (s := S1) ![0] S1.size inbS)).read (Elt F) (swstg m c) oneS)

theorem castX : S512x256.ShapeCasts S1x512x256 := by decide
theorem castW : S256x2048.ShapeCasts S1x256x2048 := by decide

/-- The finished tile: the last two products added, scaled, times its logistic. -/
def outT (c : Dev nD) (t : Fin 8) : S512x2048.Idx → Elt F .f32 :=
  k0_pay21 (scl m c) (accT m c t 13)
    (shapeCast S1x512x256 (xT m .cw (back .cw 7 c) t) castX) (shapeCast S1x256x2048 (oW m .cw (back .cw 7 c)) castW)
    (shapeCast S1x512x256 (xT m .ccw (back .ccw 7 c) t) castX) (shapeCast S1x256x2048 (oW m .ccw (back .ccw 7 c)) castW)

/-! ## What a buffer holds -/

/-- A lane's piece after `i` hops, on the device `c` it has reached, at share `q`. -/
def piece (c : Dev nD) (d : Dir) (p : Pc) (i : ℕ) (q : PosShare TreeShare) : sProp 𝕄 :=
  ownsTc c (bufM d p i) q (orig m d (back d i c) p)

/-- A slot's part, free. -/
def slotAny (c : Dev nD) (d : Dir) (p : Pc) (k : Fin 3) : sProp 𝕄 := iprop(∃ X, ownsTc c (slotM d p k) fullShare X)

abbrev accTM (t : Fin 8) : Memref sig .tc .vmem S512x2048 .f32 :=
  accM.slice (Rect.unit (s := S4096x2048) ![512 * t.val, 0] S512x2048.size (inbTA t)) (fun _ => rfl)
abbrev outTM (t : Fin 8) : Memref sig .tc .hbm S512x2048 .f32 :=
  outM.slice (Rect.unit (s := S4096x2048) ![512 * t.val, 0] S512x2048.size (inbTA t)) (fun _ => rfl)

/-- The bytes of an output tile, as a completion counts them. -/
def NO : ℕ := (outTM 0).view.dmaCredit
theorem NO_pos : 0 < NO := by unfold NO; exact View.dmaCredit_pos _ (by decide)

/-- Where hop `h` of a lane of `c` lands, free, and that its semaphore's turn has come. -/
def dstP (c : Dev nD) (d : Dir) (p : Pc) (h : ℕ) : sProp 𝕄 :=
  iprop(slotAny (dn d c) d p (sl h) ∗ reached ER (rCell (dn d c) d p h) (h / 3))

/-- What a neighbour's barrier signal hands `c`: all three slots of its receiving buffers. -/
def barPay (c : Dev nD) (d : Dir) : sProp 𝕄 :=
  bigSep Finset.univ fun p => bigSep (Finset.Ico 0 3) fun h => dstP c d p h

/-- What the next device's credit `i` tells `c`: buffer `i` there is given up for hop `i + 3`. -/
def fct (c : Dev nD) (d : Dir) (i : ℕ) : sProp 𝕄 :=
  iprop(released ES ((dn d c, d, i) : Key) 1 ∗ bigSep Finset.univ fun p => reached ER (rCell (dn d c) d p (i + 3)) ((i + 3) / 3))

/-- A slot given up, all three parts. -/
def Sl (k : Key) : sProp 𝕄 := bigSep Finset.univ fun p => slotAny k.1 k.2.1 p (sl k.2.2)

def tl (n : ℕ) : Fin 8 := ⟨n % 8, Nat.mod_lt _ (by decide)⟩

/-- What an output copy hands back: the tile it read, and the result's tile. -/
def outPay (c : Dev nD) (t : ℕ) : sProp 𝕄 :=
  iprop((∃ X, ownsTc c (accTM (tl t)) fullShare X) ∗ ownsTc c (outTM (tl t)) fullShare (outT m c (tl t)))

omit [FloatOps F] in
instance slotAny_storable (c : Dev nD) (d : Dir) (p : Pc) (k : Fin 3) : BI.Storable (upEmb : UEmb _ 𝕄) (slotAny (F := F) c d p k) := by
  unfold slotAny; infer_instance
instance piece_storable (c : Dev nD) (d : Dir) (p : Pc) (i : ℕ) (q) : BI.Storable (upEmb : UEmb _ 𝕄) (piece m c d p i q) := by
  unfold piece; infer_instance
omit [FloatOps F] in
instance dstP_storable (c : Dev nD) (d : Dir) (p : Pc) (h : ℕ) : BI.Storable (upEmb : UEmb _ 𝕄) (dstP (F := F) c d p h) := by
  unfold dstP; infer_instance
omit [FloatOps F] in
instance barPay_storable (c : Dev nD) (d : Dir) : BI.Storable (upEmb : UEmb _ 𝕄) (barPay (F := F) c d) := by
  unfold barPay; infer_instance
omit [FloatOps F] in
instance fct_storable (c : Dev nD) (d : Dir) (i : ℕ) : BI.Storable (upEmb : UEmb _ 𝕄) (fct (F := F) c d i) := by
  unfold fct; infer_instance
omit [FloatOps F] in
instance Sl_storable (k : Key) : BI.Storable (upEmb : UEmb _ 𝕄) (Sl (F := F) k) := by
  unfold Sl; infer_instance
instance outPay_storable (c : Dev nD) (t : ℕ) : BI.Storable (upEmb : UEmb _ 𝕄) (outPay m c t) := by
  unfold outPay; infer_instance
omit [FloatOps F] in
instance fct_persistent (c : Dev nD) (d : Dir) (i : ℕ) : BI.Persistent (fct (F := F) c d i) := by
  unfold fct; infer_instance

/-! ## The schedule -/

def dutiesOf : Role → ℕ → Finset ℕ
  | .send _ _ k, r | .recv _ _ k, r => if 3 * r + k.val < 7 then {0} else ∅
  | .out _, r => if r < 2 then {0} else ∅
  | .cred _, r => if r = 0 then Finset.range 4 else ∅
  | .bar, r => if r = 0 then {0, 1} else ∅
  | .other, _ => ∅
def amountOf : Role → ℕ
  | .send _ p _ | .recv _ p _ => N p
  | .out _ => NO
  | _ => 1
def payOf (c : Dev nD) (r i : ℕ) : Role → sProp 𝕄
  | .send d p k => piece m c d p (3 * r + k.val) fullShare.left
  | .recv d p k => piece m c d p (3 * r + k.val + 1) fullShare
  | .out k => outPay m c (4 * r + k.val)
  | .cred d => bigSep (Finset.range (i + 1)) fun j => fct c d j
  | .bar => if i = 0 then barPay c .cw else barPay c .ccw
  | .other => iprop(emp)

theorem amountOf_pos (R : Role) : 0 < amountOf R := by
  cases R with
  | send d p k => show 0 < N p; exact N_pos p
  | recv d p k => show 0 < N p; exact N_pos p
  | out k => show 0 < NO; exact NO_pos
  | _ => exact Nat.one_pos

def Rd : Rounds.Schedule Cell ℕ 𝕄 where
  duties g r := if g.1.2 = .tc then dutiesOf (role g.2) r else ∅
  unitless _ := False
  amount g _ _ := amountOf (role g.2)
  payload g r i := payOf m g.1.1 r i (role g.2)
  amount_pos g _ _ _ := amountOf_pos _

instance Rd_storable (g : Cell) (r i : ℕ) : BI.Storable (upEmb : UEmb _ 𝕄) ((Rd (F := F) m).payload g r i) := by
  show BI.Storable upEmb (payOf m g.1.1 r i (role g.2))
  generalize role g.2 = R
  cases R with
  | bar => unfold payOf; by_cases h : i = 0 <;> [rw [if_pos h]; rw [if_neg h]] <;> infer_instance
  | _ => unfold payOf; infer_instance

section Facts
variable (c : Dev nD) (d : Dir) (p : Pc)

theorem duties_tc (sm : SemLoc sig) (r : ℕ) : (Rd (F := F) m).duties ((c : Thread nD τ), sm) r = dutiesOf (role sm) r := by
  show (if ((c : Thread nD τ)).2 = Proc.tc then dutiesOf (role sm) r else ∅) = _
  rw [if_pos rfl]
theorem sl_round (h : ℕ) : 3 * (h / 3) + (sl h).val = h := by show 3 * (h / 3) + h % 3 = h; omega

theorem duties_s (h : ℕ) (hh : h < 7) : (Rd (F := F) m).duties (sCell c d p h) (h / 3) = {0} := by
  refine (duties_tc m c (.dma (sSem d p h)) _).trans ?_; rw [role_s]; show (if 3 * (h / 3) + (sl h).val < 7 then _ else _) = _
  rw [sl_round, if_pos hh]
theorem duties_r (h : ℕ) (hh : h < 7) : (Rd (F := F) m).duties (rCell c d p h) (h / 3) = {0} := by
  refine (duties_tc m c (.dma (rSem d p h)) _).trans ?_; rw [role_r]; show (if 3 * (h / 3) + (sl h).val < 7 then _ else _) = _
  rw [sl_round, if_pos hh]
theorem duties_o (k : Fin 4) (r : ℕ) (hr : r < 2) : (Rd (F := F) m).duties (oCell c k) r = {0} := by
  refine (duties_tc m c (.dma (oSem k)) _).trans ?_; rw [role_o]; show (if r < 2 then ({0} : Finset ℕ) else ∅) = _; exact if_pos hr
theorem duties_cr : (Rd (F := F) m).duties (crCell c d) 0 = Finset.range 4 := by
  refine (duties_tc m c (.reg (crSem d)) _).trans ?_; rw [role_cr]; rfl
theorem duties_bar : (Rd (F := F) m).duties (barCell c) 0 = {0, 1} := by
  refine (duties_tc m c (.reg barSem) _).trans ?_; rw [role_bar]; rfl

theorem duties_s_end (h r : ℕ) (hh : 4 ≤ h) (hh' : h < 7) (hr : h / 3 + 1 ≤ r) : (Rd (F := F) m).duties (sCell c d p h) r = ∅ := by
  refine (duties_tc m c (.dma (sSem d p h)) _).trans ?_; rw [role_s]; show (if 3 * r + h % 3 < 7 then _ else _) = _
  rw [if_neg (by omega)]
theorem duties_r_end (h r : ℕ) (hh : 4 ≤ h) (hh' : h < 7) (hr : h / 3 + 1 ≤ r) : (Rd (F := F) m).duties (rCell c d p h) r = ∅ := by
  refine (duties_tc m c (.dma (rSem d p h)) _).trans ?_; rw [role_r]; show (if 3 * r + h % 3 < 7 then _ else _) = _
  rw [if_neg (by omega)]
theorem duties_o_end (k : Fin 4) (r : ℕ) (hr : 2 ≤ r) : (Rd (F := F) m).duties (oCell c k) r = ∅ := by
  refine (duties_tc m c (.dma (oSem k)) _).trans ?_; rw [role_o]; show (if r < 2 then ({0} : Finset ℕ) else ∅) = _; exact if_neg (by omega)
theorem duties_cr_end (r : ℕ) (hr : 1 ≤ r) : (Rd (F := F) m).duties (crCell c d) r = ∅ := by
  refine (duties_tc m c (.reg (crSem d)) _).trans ?_; rw [role_cr]; show (if r = 0 then Finset.range 4 else ∅) = _; exact if_neg (by omega)
theorem duties_bar_end (r : ℕ) (hr : 1 ≤ r) : (Rd (F := F) m).duties (barCell c) r = ∅ := by
  refine (duties_tc m c (.reg barSem) _).trans ?_; rw [role_bar]; show (if r = 0 then ({0, 1} : Finset ℕ) else ∅) = _; exact if_neg (by omega)

theorem amount_s (h r i : ℕ) : (Rd (F := F) m).amount (sCell c d p h) r i = N p := by
  show amountOf (role (.dma (sSem d p h))) = _; rw [role_s]; rfl
theorem amount_r (h r i : ℕ) : (Rd (F := F) m).amount (rCell c d p h) r i = N p := by
  show amountOf (role (.dma (rSem d p h))) = _; rw [role_r]; rfl
theorem amount_o (k : Fin 4) (r i : ℕ) : (Rd (F := F) m).amount (oCell c k) r i = NO := by
  show amountOf (role (.dma (oSem k))) = _; rw [role_o]; rfl
theorem amount_cr (r i : ℕ) : (Rd (F := F) m).amount (crCell c d) r i = 1 := by
  show amountOf (role (.reg (crSem d))) = _; rw [role_cr]; rfl
theorem amount_bar (r i : ℕ) : (Rd (F := F) m).amount (barCell c) r i = 1 := by
  show amountOf (role (.reg barSem)) = _; rw [role_bar]; rfl

theorem expect_s (h : ℕ) (hh : h < 7) : (Rd (F := F) m).expect (sCell c d p h) (h / 3) = N p := by
  unfold Schedule.expect Schedule.amountOf; rw [duties_s m c d p h hh, Finset.sum_singleton, amount_s]
theorem expect_r (h : ℕ) (hh : h < 7) : (Rd (F := F) m).expect (rCell c d p h) (h / 3) = N p := by
  unfold Schedule.expect Schedule.amountOf; rw [duties_r m c d p h hh, Finset.sum_singleton, amount_r]
theorem expect_o (k : Fin 4) (r : ℕ) (hr : r < 2) : (Rd (F := F) m).expect (oCell c k) r = NO := by
  unfold Schedule.expect Schedule.amountOf; rw [duties_o m c k r hr, Finset.sum_singleton, amount_o]
theorem expect_bar : (Rd (F := F) m).expect (barCell c) 0 = 2 := by
  unfold Schedule.expect Schedule.amountOf
  rw [duties_bar, Finset.sum_congr rfl fun i _ => amount_bar m c 0 i]; rfl
theorem expect_cr : (Rd (F := F) m).expect (crCell c d) 0 = 4 := by
  unfold Schedule.expect Schedule.amountOf
  rw [duties_cr, Finset.sum_congr rfl fun i _ => amount_cr m c d 0 i]; rfl

theorem payload_s (h : ℕ) (i : ℕ) : (Rd (F := F) m).payload (sCell c d p h) (h / 3) i = piece m c d p h fullShare.left := by
  show payOf m c (h / 3) i (role (.dma (sSem d p h))) = _
  rw [role_s]; show piece m c d p (3 * (h / 3) + (sl h).val) _ = _; rw [sl_round]
theorem payload_r (h : ℕ) (i : ℕ) : (Rd (F := F) m).payload (rCell c d p h) (h / 3) i = piece m c d p (h + 1) fullShare := by
  show payOf m c (h / 3) i (role (.dma (rSem d p h))) = _
  rw [role_r]; show piece m c d p (3 * (h / 3) + (sl h).val + 1) _ = _; rw [sl_round]
theorem payload_o (k : Fin 4) (r i : ℕ) : (Rd (F := F) m).payload (oCell c k) r i = outPay m c (4 * r + k.val) := by
  show payOf m c r i (role (.dma (oSem k))) = _; rw [role_o]; rfl
theorem payload_cr (r i : ℕ) : (Rd (F := F) m).payload (crCell c d) r i = bigSep (Finset.range (i + 1)) fun j => fct c d j := by
  show payOf m c r i (role (.reg (crSem d))) = _; rw [role_cr]; rfl
theorem payload_bar0 (r : ℕ) : (Rd (F := F) m).payload (barCell c) r 0 = barPay c .cw := by
  show payOf m c r 0 (role (.reg barSem)) = _; rw [role_bar]; rfl
theorem payload_bar1 (r : ℕ) : (Rd (F := F) m).payload (barCell c) r 1 = barPay c .ccw := by
  show payOf m c r 1 (role (.reg barSem)) = _; rw [role_bar]; rfl

end Facts

/-! ## What a device owes, and the levels -/

/-- One signal or transfer a device makes for another. -/
inductive Pay | bar (d : Dir) | hop (d : Dir) (p : Pc) (h : ℕ) | crd (d : Dir) (i : ℕ)
  deriving DecidableEq

def hop6 (h : ℕ) : List Pay :=
  [.hop .cw .w h, .hop .cw .x0 h, .hop .cw .x1 h, .hop .ccw .w h, .hop .ccw .x0 h, .hop .ccw .x1 h]
def crd2 (i : ℕ) : List Pay := [.crd .cw i, .crd .ccw i]

/-- All of them, in the program's order. -/
def payL : List Pay :=
  [.bar .cw, .bar .ccw] ++ hop6 0 ++ hop6 1 ++ hop6 2 ++ crd2 0 ++ hop6 3 ++ crd2 1 ++ hop6 4 ++ crd2 2 ++ hop6 5 ++ crd2 3 ++ hop6 6

def tgt (c : Dev nD) : Pay → Cell
  | .bar d => barCell (up d c)
  | .hop d p h => rCell (dn d c) d p h
  | .crd d _ => crCell (up d c) d
def idx : Pay → ℕ | .bar _ => 0 | .hop _ _ h => h | .crd _ i => i
def amt : Pay → ℕ | .bar _ => 1 | .hop _ p _ => N p | .crd _ _ => 1

def owe (c : Dev nD) : List Pay → CellTallies nD τ sig ℕ
  | [] => 0
  | x :: l => owe c l + tallyAt (tgt c x) (idx x) (amt x)

/-- What device `c` still owes when it has made its first `s` payments. -/
def O (c : Dev nD) (s : ℕ) : CellTallies nD τ sig ℕ := owe c (payL.drop s)

theorem O_step (c : Dev nD) (s : ℕ) (x : Pay) (hx : payL[s]? = some x) :
    O c s = O c (s + 1) + tallyAt (tgt c x) (idx x) (amt x) := by
  obtain ⟨hs, rfl⟩ := List.getElem?_eq_some_iff.mp hx
  unfold O; rw [List.drop_eq_getElem_cons hs]; rfl

theorem owe_pos (c : Dev nD) (l : List Pay) {g : Cell} {u : ℕ} (h : 0 < owe c l g u) : ∃ x ∈ l, g = tgt c x ∧ u = idx x := by
  induction l with
  | nil => exact absurd h (Nat.lt_irrefl 0)
  | cons x l ih =>
    unfold owe at h
    rw [Pi.add_apply, Finsupp.add_apply, tallyAt_apply] at h
    by_cases hx : g = tgt c x ∧ u = idx x
    · exact ⟨x, List.mem_cons_self, hx⟩
    · rw [if_neg hx, Nat.add_zero] at h
      obtain ⟨y, hy, e⟩ := ih h
      exact ⟨y, List.mem_cons_of_mem _ hy, e⟩

def L (g : Cell) : Finset ℕ := if g.1.2 = .tc then Finset.range 8 else ∅
def lvR : Role → ℕ → ℕ
  | .bar, _ => 1
  | .recv _ _ _, i => 2 * i + 2
  | .cred _, i => 2 * i + 5
  | _, _ => 0
def lv (g : Cell) (i : ℕ) : ℕ := lvR (role g.2) i
def lvP : Pay → ℕ | .bar _ => 1 | .hop _ _ h => 2 * h + 2 | .crd _ i => 2 * i + 5

theorem lv_tgt (c : Dev nD) (x : Pay) : lv (tgt c x) (idx x) = lvP x := by
  cases x with
  | bar d => show lvR (role (.reg barSem)) 0 = _; rw [role_bar]; rfl
  | hop d p h => show lvR (role (.dma (rSem d p h))) h = _; rw [role_r]; rfl
  | crd d i => show lvR (role (.reg (crSem d))) i = _; rw [role_cr]; rfl

theorem L_tc (c : Dev nD) (sm : SemLoc sig) : L ((c : Thread nD τ), sm) = Finset.range 8 := if_pos rfl
theorem L_of_ne (g : Cell) (h : g.1.2 ≠ .tc) : L g = ∅ := if_neg h
theorem L_tgt (c : Dev nD) (x : Pay) (hx : x ∈ payL) : idx x ∈ L (tgt c x) := by
  have h8 : idx x < 8 := by
    have : ∀ y ∈ payL, idx y < 8 := by decide
    exact this x hx
  have : L (tgt c x) = Finset.range 8 := by cases x <;> exact L_tc _ _
  rw [this]; exact Finset.mem_range.mpr h8

/-- A wait at index `i` of a cell of level `n` is allowed when everything still owed is above it. -/
theorem mayWait (c : Dev nD) (sm : SemLoc sig) (i s n : ℕ) (hi : i < 8) (hn : lvR (role sm) i ≤ n) (hs : ∀ x ∈ payL.drop s, n < lvP x) :
    (levAts L lv : sProp 𝕄) ⊢ MayWait (c : Thread nD τ) sm i (O c s) := by
  refine MayOwe.of_cut (L := L) (lev := lv) n (fun q hq => ?_) (fun g u hg => ?_) (fun q hq => ?_) (fun g u hg => ?_)
  · rw [Finset.mem_singleton.mp hq, L_tc]; exact Finset.mem_range.mpr hi
  · obtain ⟨x, hx, rfl, rfl⟩ := owe_pos c _ hg; exact L_tgt c x (List.mem_of_mem_drop hx)
  · rw [Finset.mem_singleton.mp hq]; exact hn
  · obtain ⟨x, hx, rfl, rfl⟩ := owe_pos c _ hg; rw [lv_tgt]; exact hs x hx

end Cert.KernelIdealPf

end
-- ==== Proof.KernelIdealSteps.lean ====
/-
# One step of a lane

What the program's transfers and waits do, stated once for every direction, piece and hop: sending a piece on
(`step_send`), the wait for a piece that arrives (`step_recv`), the wait for a piece that has left (`step_swait`),
the signals and waits of the entry barrier and of the credits.
-/
module

public import proofs.«01_k».proof.Proof.KernelIdealSched

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

abbrev 𝒱₀ : Variants := Variants.none

/-! ## The persistent context -/

/-- The region's own semaphores: forty transfer semaphores and the two credits. -/
def osem (i : Fin 42) : SemLoc sig :=
  if h : i.val < 40 then .dma ⟨i.val + 4, by show i.val + 4 < 44; omega⟩ else .reg ⟨i.val - 40, by have := i.isLt; show i.val - 40 < 3; omega⟩
def kcell (x : Dev nD × Fin 42) : Cell := ((x.1 : Thread nD τ), osem x.2)

/-- A cell's invariant, under some name. -/
def CI (g : Cell) : sProp 𝕄 := iprop(∃ κ, cellInv ER (Rd m) κ g)
/-- A given-up slot's invariant, under some name. -/
def SI (k : Key) : sProp 𝕄 := iprop(∃ κ, slotInv ES κ k (Sl (F := F) k))
instance CI_persistent (g : Cell) : BI.Persistent (CI m g) := by unfold CI; infer_instance
omit [FloatOps F] in
instance SI_persistent (k : Key) : BI.Persistent (SI (F := F) k) := by unfold SI; infer_instance

def keyS : Finset Key := Finset.univ ×ˢ Finset.univ ×ˢ Finset.range 4

/-- What every device knows throughout: the levels, and the invariants of all cells and slots. -/
def Ctx : sProp 𝕄 :=
  iprop(levAts L lv ∗ bigSep Finset.univ (fun x : Dev nD × Fin 42 => CI m (kcell x)) ∗ bigSep Finset.univ (fun c : Dev nD => CI m (barCell c))
    ∗ bigSep keyS (fun k => SI (F := F) k))
instance Ctx_persistent : BI.Persistent (Ctx m) := by unfold Ctx; infer_instance

theorem ctx_lev : Ctx m ⊢ (levAts L lv : sProp 𝕄) := by unfold Ctx; iintro ⟨H, -⟩; iexact H
theorem ctx_k (x : Dev nD × Fin 42) : Ctx m ⊢ CI m (kcell x) := by
  unfold Ctx; iintro ⟨-, H, -⟩
  have e : bigSep Finset.univ (fun x : Dev nD × Fin 42 => CI m (kcell x)) ⊢ CI m (kcell x) := bigSep_elim (Finset.mem_univ x)
  iapply e; iexact H
theorem ctx_bar (c : Dev nD) : Ctx m ⊢ CI m (barCell c) := by
  unfold Ctx; iintro ⟨-, -, H, -⟩
  have e : bigSep Finset.univ (fun c : Dev nD => CI m (barCell c)) ⊢ CI m (barCell c) := bigSep_elim (Finset.mem_univ c)
  iapply e; iexact H
theorem ctx_slot (c : Dev nD) (d : Dir) (i : ℕ) (hi : i < 4) : Ctx m ⊢ SI (F := F) ((c, d, i) : Key) := by
  unfold Ctx; iintro ⟨-, -, -, H⟩
  have e : bigSep keyS (fun k => SI (F := F) k) ⊢ SI (F := F) ((c, d, i) : Key) :=
    bigSep_elim (Finset.mem_product.mpr ⟨Finset.mem_univ _, Finset.mem_product.mpr ⟨Finset.mem_univ _, Finset.mem_range.mpr hi⟩⟩)
  iapply e; iexact H

theorem sIx_ge (d : Dir) (p : Pc) (k : Fin 3) : 4 ≤ sIx d p k.val := by revert d p k; decide
theorem rIx_ge (d : Dir) (p : Pc) (k : Fin 3) : 4 ≤ rIx d p k.val := by revert d p k; decide

theorem osem_dma (n : ℕ) (hn : n < 44) (h4 : 4 ≤ n) : osem ⟨n - 4, by omega⟩ = .dma ⟨n, hn⟩ := by
  unfold osem; rw [dif_pos (show n - 4 < 40 by omega)]
  exact congrArg SemLoc.dma (Fin.ext (show n - 4 + 4 = n by omega))

theorem ctx_dma (c : Dev nD) (n : ℕ) (hn : n < 44) (h4 : 4 ≤ n) : Ctx m ⊢ CI m ((c : Thread nD τ), .dma ⟨n, hn⟩) := by
  have h := ctx_k m (c, ⟨n - 4, by omega⟩)
  unfold kcell at h; rw [osem_dma n hn h4] at h; exact h
theorem ctx_s (c : Dev nD) (d : Dir) (p : Pc) (h : ℕ) : Ctx m ⊢ CI m (sCell c d p h) := ctx_dma m c _ (sIx_lt d p (sl h)) (sIx_ge d p (sl h))
theorem ctx_r (c : Dev nD) (d : Dir) (p : Pc) (h : ℕ) : Ctx m ⊢ CI m (rCell c d p h) := ctx_dma m c _ (rIx_lt d p (sl h)) (rIx_ge d p (sl h))
theorem ctx_o (c : Dev nD) (k : Fin 4) : Ctx m ⊢ CI m (oCell c k) := ctx_dma m c _ _ (show 4 ≤ 40 + k.val by omega)
theorem ctx_cr (c : Dev nD) (d : Dir) : Ctx m ⊢ CI m (crCell c d) := by
  cases d
  · exact ctx_k m (c, ⟨40, by omega⟩)
  · exact ctx_k m (c, ⟨41, by omega⟩)

/-! ## The ledger -/

/-- Device `c` owes what is left after its first `s` payments. -/
def owesS (c : Dev nD) (s : ℕ) : sProp 𝕄 := iprop(∃ W : Waits sig ℕ, owes (c : Thread nD τ) (O c s) W)

/-- The two sides' rights of a lane's hop. -/
def sTok (c : Dev nD) (d : Dir) (p : Pc) (h : ℕ) : sProp 𝕄 :=
  iprop(dutyTok ER (sCell c d p h) (h / 3) 0 ∗ dutyTok ER (rCell (dn d c) d p h) (h / 3) 0)
def sPos (c : Dev nD) (d : Dir) (p : Pc) (h : ℕ) : sProp 𝕄 := iprop(atPos ER (sCell c d p h) (h / 3) ∅ 0 ∗ reached ER (sCell c d p h) (h / 3))
def rPos (c : Dev nD) (d : Dir) (p : Pc) (h : ℕ) : sProp 𝕄 := iprop(atPos ER (rCell c d p h) (h / 3) ∅ 0 ∗ reached ER (rCell c d p h) (h / 3))
def sCred (c : Dev nD) (d : Dir) (p : Pc) (h : ℕ) : sProp 𝕄 := cred (tallyAt (sCell c d p h) 0 (N p))
def rCred (c : Dev nD) (d : Dir) (p : Pc) (h : ℕ) : sProp 𝕄 := cred (tallyAt (rCell c d p h) h (N p))

theorem sl_add3 (h : ℕ) : sl (h + 3) = sl h := Fin.ext (show (h + 3) % 3 = h % 3 by omega)
theorem sCell_add3 (c : Dev nD) (d : Dir) (p : Pc) (h : ℕ) : sCell c d p (h + 3) = sCell c d p h := by
  have e : sSem d p (h + 3) = sSem d p h := Fin.ext (by show sIx d p (sl (h + 3)).val = sIx d p (sl h).val; rw [sl_add3])
  unfold sCell; rw [e]
theorem rCell_add3 (c : Dev nD) (d : Dir) (p : Pc) (h : ℕ) : rCell c d p (h + 3) = rCell c d p h := by
  have e : rSem d p (h + 3) = rSem d p h := Fin.ext (by show rIx d p (sl (h + 3)).val = rIx d p (sl h).val; rw [sl_add3])
  unfold rCell; rw [e]
theorem add3_div (h : ℕ) : (h + 3) / 3 = h / 3 + 1 := by omega

section Steps
variable {α : Type} {Q : α → sProp (MT nD τ sig ℕ (Elt F) ℕ UU ℕ)} {k : PUnit.{1} → Prog (TpuEff nD τ sig (Elt F) Λ₀ .tc) α}

/-- Sending a lane's piece on its hop `h`. -/
theorem step_send (c : Dev nD) (d : Dir) (p : Pc) (h s : ℕ) (hh : h < 7) (hpay : payL[s]? = some (.hop d p h)) (n : Dev nD) (hn : n = dn d c)
    {src dst : Memref sig .tc .vmem p.shape .fp8e5m2} {sS sR : DmaSem sig}
    (hs : src = bufM d p h) (hd : dst = slotM d p (sl h)) (hsS : sS = sSem d p h) (hsR : sR = rSem d p h)
    {hsc : dst.view.ref.isScScratch = false} {hsrc : src.view.WordExact} {hdst : dst.view.WordExact}
    {hsem : DmaTarget.Typed .vmem (.dma sR) (.remote (Dev.tc n : Thread nD τ) dst (.dma sS) hsc)} :
    iprop(Ctx m ∗ owesS c s ∗ piece m c d p h fullShare.left ∗ dstP c d p h ∗ sTok c d p h ∗ reached ER (sCell c d p h) (h / 3))
      ⊢ iprop(((sCred c d p h ∗ owesS c (s + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hs hd hsS hsR
  unfold owesS piece dstP slotAny sTok ownsTc owns
  iintro ⟨#HC, ⟨%W, HO⟩, ⟨%fs, %hfs, Hs⟩, ⟨⟨%X, %fd, %hfd, Hd⟩, #Hrr⟩, ⟨Ht1, Ht2⟩, #Hrs⟩ Hk
  ihave #HI1 := (ctx_s m c d p h) $$ HC
  ihave #HI2 := (ctx_r m (dn d c) d p h) $$ HC
  unfold CI
  icases HI1 with ⟨%κ₁, HI1⟩
  icases HI2 with ⟨%κ₂, HI2⟩
  iapply (Rounds.wp_send_pointsTo 𝒱₀ ER (Rd m) (c : Thread nD τ) none (κ₁ := κ₁) (κ₂ := κ₂) (r₁ := h / 3) (r₂ := h / 3) (d₁ := 0) (d₂ := 0) (fd := fd)
      (by rw [show ((c : Thread nD τ), SemLoc.dma (sSem d p h)) = sCell c d p h from rfl, duties_s m c d p h hh]; exact Finset.mem_singleton_self _)
      (by rw [show (((dn d c) : Thread nD τ), SemLoc.dma (rSem d p h)) = rCell (dn d c) d p h from rfl, duties_r m (dn d c) d p h hh]; exact Finset.mem_singleton_self _)
      h 0 (N p) (show (slotM d p (sl h)).view.amount (.dma (rSem d p h)) = N p from credit_buf d p (h + 1)) (amount_s m c d p h _ _) (amount_r m (dn d c) d p h _ _) (O c (s + 1)) (O_step c s _ hpay) (W := W)
      (hpay₁ := ?hp1) (hpay₂ := ?hp2)) $$ [HO Hs Hd Ht1 Ht2]
  case hp1 =>
    refine BIBase.Entails.trans ?_ (Entails.of_eq (payload_s m c d p h 0).symm)
    unfold piece ownsTc owns
    iintro H; iexists fs; isplitr; · ipureintro; exact hfs
    iexact H
  case hp2 =>
    refine BIBase.Entails.trans ?_ (Entails.of_eq (payload_r m (dn d c) d p h 0).symm)
    unfold piece ownsTc owns
    rw [hfs]
    iintro H; iexists _; isplitr; swap; · iexact H
    ipureintro
    rw [back_dn]; exact View.read_write_univ _ _
  · isplitr; · iexact HI1
    isplitr; · iexact HI2
    isplitl [Hs]; · iexact Hs
    isplitl [Hd]; · iexact Hd
    isplitl [HO]; · iexact HO
    isplitl [Ht1]; · iexact Ht1
    isplitr; · iexact Hrs
    isplitl [Ht2]; · iexact Ht2
    iexact Hrr
  iintro ⟨Hc, HO⟩
  iapply Hk
  isplitl [Hc]; · unfold sCred; iexact Hc
  iexists W; iexact HO

/-- The wait for the piece of hop `h` to have arrived. -/
theorem step_recv (c : Dev nD) (d : Dir) (p : Pc) (h s : ℕ) (hh : h < 7) (hlev : ∀ x ∈ payL.drop s, 2 * h + 2 < lvP x)
    {src dst : Memref sig .tc .vmem p.shape .fp8e5m2} {sR : DmaSem sig}
    (hsR : sR = rSem d p h) (hN : dst.view.dmaCredit = N p) {hsrc : src.view.WordExact} {hdst : dst.view.WordExact} :
    iprop(Ctx m ∗ owesS c s ∗ rCred c d p h ∗ rPos c d p h)
      ⊢ iprop(((owesS c s ∗ rPos c d p (h + 3) ∗ piece m c d p (h + 1) fullShare)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hsR
  unfold owesS rCred rPos
  iintro ⟨#HC, ⟨%W, HO⟩, Hc, ⟨Hat, -⟩⟩ Hk
  ihave #HI := (ctx_r m c d p h) $$ HC
  ihave #Hlev := (ctx_lev m) $$ HC
  unfold CI
  icases HI with ⟨%κ, HI⟩
  iapply (Rounds.wp_wait_rest_token 𝒱₀ ER (Rd m) (c : Thread nD τ) none (κ := κ)
      (wpE_waitDma2_eq 𝒱₀ (c : Thread nD τ) none Set.univ) (Set.mem_univ _) h (O := O c s) (W := W) (R := h / 3) (m := 0) (T := ∅)
      (by rw [Nat.zero_add, hN]; exact (expect_r m c d p h hh).symm)) $$ [Hc HO Hat]
  · isplitr; · iexact HI
    isplitl [Hc]; · rw [hN]; iexact Hc
    isplitl [HO]; · iexact HO
    isplitr
    · iapply (mayWait c (.dma (rSem d p h)) h s (2 * h + 2) (by omega) (by rw [role_r]; exact le_refl _) hlev); iexact Hlev
    iexact Hat
  iintro ⟨HO, Hat, Hr, Hpay⟩
  iapply Hk
  isplitl [HO]; · iexists _; iexact HO
  rw [rCell_add3, add3_div]
  isplitl [Hat Hr]
  · isplitl [Hat]; · iexact Hat
    iexact Hr
  have e : bigSep ((Rd (F := F) m).duties (rCell c d p h) (h / 3) \ ∅) (fun i => (Rd (F := F) m).payload (rCell c d p h) (h / 3) i) = piece m c d p (h + 1) fullShare := by
    rw [Finset.sdiff_empty, duties_r m c d p h hh, bigSep_singleton, payload_r]
  iapply (Entails.of_eq e); iexact Hpay

/-- The wait for the piece of hop `h` to have left: its half share comes back. -/
theorem step_swait (c : Dev nD) (d : Dir) (p : Pc) (h s : ℕ) (hh : h < 7) (hlev : ∀ x ∈ payL.drop s, 0 < lvP x)
    {src dst : Memref sig .tc .vmem p.shape .fp8e5m2} {sS : DmaSem sig}
    (hsS : sS = sSem d p h) (hN : dst.view.dmaCredit = N p) {hsrc : src.view.WordExact} {hdst : dst.view.WordExact} :
    iprop(Ctx m ∗ owesS c s ∗ sCred c d p h ∗ sPos c d p h)
      ⊢ iprop(((owesS c s ∗ sPos c d p (h + 3) ∗ piece m c d p h fullShare.left)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS
  unfold owesS sCred sPos
  iintro ⟨#HC, ⟨%W, HO⟩, Hc, ⟨Hat, -⟩⟩ Hk
  ihave #HI := (ctx_s m c d p h) $$ HC
  ihave #Hlev := (ctx_lev m) $$ HC
  unfold CI
  icases HI with ⟨%κ, HI⟩
  iapply (Rounds.wp_wait_rest_token 𝒱₀ ER (Rd m) (c : Thread nD τ) none (κ := κ)
      (wpE_waitDma2_eq 𝒱₀ (c : Thread nD τ) none Set.univ) (Set.mem_univ _) 0 (O := O c s) (W := W) (R := h / 3) (m := 0) (T := ∅)
      (by rw [Nat.zero_add, hN]; exact (expect_s m c d p h hh).symm)) $$ [Hc HO Hat]
  · isplitr; · iexact HI
    isplitl [Hc]; · rw [hN]; iexact Hc
    isplitl [HO]; · iexact HO
    isplitr
    · iapply (mayWait c (.dma (sSem d p h)) 0 s 0 (by omega) (by rw [role_s]; exact le_refl _) hlev); iexact Hlev
    iexact Hat
  iintro ⟨HO, Hat, Hr, Hpay⟩
  iapply Hk
  isplitl [HO]; · iexists _; iexact HO
  rw [sCell_add3, add3_div]
  isplitl [Hat Hr]
  · isplitl [Hat]; · iexact Hat
    iexact Hr
  have e : bigSep ((Rd (F := F) m).duties (sCell c d p h) (h / 3) \ ∅) (fun i => (Rd (F := F) m).payload (sCell c d p h) (h / 3) i) = piece m c d p h fullShare.left := by
    rw [Finset.sdiff_empty, duties_s m c d p h hh, bigSep_singleton, payload_s]
  iapply (Entails.of_eq e); iexact Hpay

end Steps

end Cert.KernelIdealPf

end
-- ==== Proof.KernelIdealCredit.lean ====
/-
# Credits and output copies

The credit that a device gives the sender upstream when it has given up a buffer (`step_sig`), the wait for the next
credit (`step_cwait`), which hands the sender that buffer back, and the copies of finished tiles into the result
(`step_ostart`, `step_owait`).
-/
module

public import proofs.«01_k».proof.Proof.KernelIdealSteps
public import Idealize.SL.BI.BigOpNat

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-- What is left of the receiver's side: the slot's key, and the token of the credit. -/
def sigR (c : Dev nD) (d : Dir) (i : ℕ) : sProp 𝕄 := iprop(dutyTok ER (crCell (up d c) d) 0 i ∗ readerAt ES ((c, d, i) : Key) 0)
/-- The sender's side of a credit: the right to wait for it, and to take the slot once. -/
def cwR (c : Dev nD) (d : Dir) (k : ℕ) : sProp 𝕄 :=
  iprop(cred (tallyAt (crCell c d) k 1) ∗ writeTok ES ((dn d c, d, k) : Key) 1)
/-- The credit cell when `k` credits have been taken: at least those of the buffers `0 … k - 1`. -/
def crAt (c : Dev nD) (d : Dir) (k : ℕ) : sProp 𝕄 :=
  iprop(∃ T : Finset ℕ, ⌜T ⊆ Finset.range 4 ∧ k ≤ T.card⌝ ∗ atPos ER (crCell c d) 0 T k
    ∗ bigSep T fun i => bigSep (Finset.range (i + 1)) fun j => fct (F := F) c d j)

theorem Sl_excl (k : Key) : iprop(Sl (F := F) k ∗ Sl k) ⊢ (False : sProp 𝕄) := by
  have e : Sl (F := F) k ⊢ slotAny k.1 k.2.1 .w (sl k.2.2) := bigSep_elim (Finset.mem_univ Pc.w)
  refine BIBase.Entails.trans (BIClass.sep_mono e e) ?_
  unfold slotAny ownsTc owns
  iintro ⟨⟨%X, %f, -, H⟩, ⟨%Y, %g, -, H'⟩⟩
  iapply (pointsTo_overlap_false (ℓ := (slotM k.2.1 .w (sl k.2.2)).view.loc (k.1 : Thread nD τ)) (I := (slotM k.2.1 .w (sl k.2.2)).view.set)
    (J := (slotM k.2.1 .w (sl k.2.2)).view.set) (q := fullShare) (f := f) (g := g)
    (View.emb_mem_set (slotM k.2.1 .w (sl k.2.2)).view (Shape.Idx.first (by decide)))
    (View.emb_mem_set (slotM k.2.1 .w (sl k.2.2)).view (Shape.Idx.first (by decide))))
  isplitl [H] <;> iassumption

theorem piece_slot (c : Dev nD) (d : Dir) (p : Pc) (i : ℕ) : piece m c d p (i + 1) fullShare ⊢ slotAny (F := F) c d p (sl i) := by
  unfold piece slotAny; iintro H; iexists _; iexact H

section Steps
variable {α : Type} {Q : α → sProp (MT nD τ sig ℕ (Elt F) ℕ UU ℕ)} {k : PUnit.{1} → Prog (TpuEff nD τ sig (Elt F) Λ₀ .tc) α}

/-- Giving up buffer `i` and telling the sender so, with all the earlier ones. -/
theorem step_sig (c : Dev nD) (d : Dir) (i s : ℕ) (hi : i < 4) (hpay : payL[s]? = some (.crd d i)) (n : Dev nD) (hn : n = up d c)
    {sem : Sem sig} (hsem : sem = crSem d) {a : ℤ} {k' : ℕ} (hk : k' = 1) :
    iprop(Ctx m ∗ owesS c s ∗ sigR c d i ∗ (bigSep Finset.univ fun p => slotAny c d p (sl i))
        ∗ (bigSep Finset.univ fun p => reached ER (rCell c d p (i + 3)) ((i + 3) / 3)) ∗ reached ER (crCell (up d c) d) 0
        ∗ bigSep (Finset.range i) fun j => fct (up d c) d j)
      ⊢ iprop(((owesS c (s + 1) ∗ bigSep (Finset.range (i + 1)) fun j => fct (up d c) d j)
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sem k') k) Q) := by
  subst hn hsem hk
  unfold owesS sigR
  iintro ⟨#HC, ⟨%W, HO⟩, ⟨Ht, Hrd⟩, Hs, #Hr, #Hcr, #Hf⟩ Hk
  ihave #HI := (ctx_cr m (up d c) d) $$ HC
  ihave #HS := (ctx_slot m c d i hi) $$ HC
  unfold CI SI
  icases HI with ⟨%κ, HI⟩
  icases HS with ⟨%κ', HS⟩
  imod (slot_release (E := ES) (Es := Set.univ) (S := Sl (F := F) ((c, d, i) : Key)) (ι := κ') (Set.mem_univ _) (Sl_excl _) 0) $$ [Hrd Hs] with ⟨-, #Hrel⟩
  · isplitr; · iexact HS
    isplitl [Hrd]; · iexact Hrd
    unfold Sl; iexact Hs
  have e : iprop((bigSep (Finset.range i) fun j => fct (F := F) (up d c) d j) ∗ released ES ((c, d, i) : Key) 1
      ∗ bigSep Finset.univ fun p => reached ER (rCell c d p (i + 3)) ((i + 3) / 3)) ⊢ bigSep (Finset.range (i + 1)) fun j => fct (F := F) (up d c) d j := by
    rw [bigSep_range_succ]; unfold fct; rw [dn_up]
    iintro ⟨H1, H2, H3⟩
    isplitl [H2 H3]; · isplitl [H2] <;> iassumption
    iexact H1
  ihave #Hf' := e $$ [Hf Hrel Hr]
  · isplitr; · iexact Hf
    isplitr; · iexact Hrel
    iexact Hr
  iapply (Rounds.wp_signal 𝒱₀ ER (Rd m) (c : Thread nD τ) none (dst := (up d c : Thread nD τ)) (sem := crSem d) (κ := κ) (r := 0) (d := i)
      (by rw [show ((up d c : Thread nD τ), SemLoc.reg (crSem d)) = crCell (up d c) d from rfl, duties_cr]; exact Finset.mem_range.mpr hi)
      (amount_cr m (up d c) d 0 i) i (O c (s + 1)) (O_step c s _ hpay)) $$ [HO Ht]
  · isplitr; · iexact HI
    isplitl [HO]; · iexact HO
    isplitl [Ht]; · iexact Ht
    isplitr
    · iapply (show (bigSep (Finset.range (i + 1)) fun j => fct (F := F) (up d c) d j) ⊢ (Rd m).payload ((up d c : Thread nD τ), SemLoc.reg (crSem d)) 0 i
        from Entails.of_eq (payload_cr m (up d c) d 0 i).symm); iexact Hf'
    iexact Hcr
  iintro HO
  iapply Hk
  isplitl [HO]; · iexists W; iexact HO
  iexact Hf'

theorem exists_ge {T : Finset ℕ} {k : ℕ} (h : k + 1 ≤ T.card) : ∃ i ∈ T, k ≤ i := by
  by_contra hc
  have : T ⊆ Finset.range k := fun i hi => Finset.mem_range.mpr (by by_contra h'; exact hc ⟨i, hi, by omega⟩)
  have := Finset.card_le_card this
  rw [Finset.card_range] at this; omega

/-- The wait for the next credit: the buffer comes back, for one more hop. -/
theorem step_cwait (c : Dev nD) (d : Dir) (i s : ℕ) (hi : i < 4) (hlev : ∀ x ∈ payL.drop s, 2 * i + 5 < lvP x)
    {sem : Sem sig} (hsem : sem = crSem d) {k' : ℕ} (hk : k' = 1) :
    iprop(Ctx m ∗ owesS c s ∗ crAt c d i ∗ cwR c d i)
      ⊢ iprop(((owesS c s ∗ crAt c d (i + 1) ∗ bigSep Finset.univ fun p => dstP c d p (i + 3))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem k') k) Q) := by
  subst hsem hk
  unfold owesS cwR crAt
  iintro ⟨#HC, ⟨%W, HO⟩, ⟨%T, %hT, Hat, #Hp⟩, ⟨Hc, Hw⟩⟩ Hk
  ihave #HI := (ctx_cr m c d) $$ HC
  ihave #HS := (ctx_slot m (dn d c) d i hi) $$ HC
  ihave #Hlev := (ctx_lev m) $$ HC
  unfold CI SI
  icases HI with ⟨%κ, HI⟩
  icases HS with ⟨%κ', HS⟩
  iapply (Rounds.wp_wait 𝒱₀ ER (Rd m) (c : Thread nD τ) none (κ := κ)
      (wpE_semWait_eq 𝒱₀ (c : Thread nD τ) none Set.univ) (Set.mem_univ _) (cr := Finsupp.single i 1) (O := O c s) (W := W)
      {(SemLoc.reg (crSem d), i)} (R := 0) (m := i) (T := T) (Util.total_single i 1) (image_single_subset (SemLoc.reg (crSem d)) i 1)) $$ [Hc HO Hat]
  · isplitr; · iexact HI
    isplitl [Hc]; · iexact Hc
    isplitl [HO]; · iexact HO
    isplitr
    · iapply (mayWait c (.reg (crSem d)) i s (2 * i + 5) (by omega) (by rw [role_cr]; exact le_refl _) hlev); iexact Hlev
    iexact Hat
  iintro %S ⟨%hS, HO, Hat, Hpay⟩
  obtain ⟨hTS, hS4, hcard⟩ := hS
  rw [show ((c : Thread nD τ), SemLoc.reg (crSem d)) = crCell c d from rfl] at hS4 hcard ⊢
  rw [duties_cr] at hS4 hcard
  rw [expect_cr, Finset.card_sdiff_of_subset hS4, Finset.card_range] at hcard
  have h4 := Finset.card_le_card hS4
  rw [Finset.card_range] at h4
  obtain ⟨j, hj, hij⟩ := exists_ge (T := S) (k := i) (by omega)
  have e1 : bigSep (S \ T) (fun x => (Rd m).payload (crCell c d) 0 x) ⊢ bigSep (S \ T) fun x => bigSep (Finset.range (x + 1)) fun j => fct (F := F) c d j :=
    Entails.of_eq (bigSep_congr fun x _ => payload_cr m c d 0 x)
  ihave #Hpay := e1 $$ Hpay
  have e2 : iprop((bigSep T fun x => bigSep (Finset.range (x + 1)) fun j => fct (F := F) c d j) ∗ bigSep (S \ T) fun x => bigSep (Finset.range (x + 1)) fun j => fct (F := F) c d j)
      ⊢ bigSep S fun x => bigSep (Finset.range (x + 1)) fun j => fct (F := F) c d j := by
    refine BIBase.Entails.trans (bigSep_sep_union T (S \ T)) (Entails.of_eq ?_)
    rw [Finset.union_sdiff_of_subset hTS]
  ihave #HS' := e2 $$ [Hp Hpay]
  · isplitr <;> iassumption
  have e3 : (bigSep S fun x => bigSep (Finset.range (x + 1)) fun j => fct (F := F) c d j) ⊢ fct (F := F) c d i :=
    BIBase.Entails.trans (bigSep_elim hj) (bigSep_elim (Finset.mem_range.mpr (by omega)))
  ihave #Hf := e3 $$ HS'
  unfold fct
  icases Hf with ⟨Hrel, Hre⟩
  imod (slot_take (E := ES) (Es := Set.univ) (S := Sl (F := F) ((dn d c, d, i) : Key)) (ι := κ') (Set.mem_univ _) 1) $$ [Hw] with Hsl
  · isplitr; · iexact HS
    isplitr; · iexact Hrel
    iexact Hw
  iapply Hk
  isplitl [HO]; · iexists _; iexact HO
  isplitl [Hat]
  · iexists S
    isplitr; · ipureintro; exact ⟨hS4, by omega⟩
    isplitl [Hat]; · iexact Hat
    iexact HS'
  unfold dstP Sl
  simp only [sl_add3]
  have e4 : iprop((bigSep Finset.univ fun p => slotAny (F := F) (dn d c) d p (sl i)) ∗ bigSep Finset.univ fun p => reached ER (rCell (dn d c) d p (i + 3)) ((i + 3) / 3))
      ⊢ bigSep Finset.univ fun p => iprop(slotAny (F := F) (dn d c) d p (sl i) ∗ reached ER (rCell (dn d c) d p (i + 3)) ((i + 3) / 3)) :=
    Entails.of_eq (bigSep_sep _ _ _).symm
  iapply e4
  isplitl [Hsl]; · iexact Hsl
  iexact Hre

/-- The semaphore of a tile's copy. -/
def fo (t : ℕ) : Fin 4 := ⟨t % 4, Nat.mod_lt _ (by decide)⟩

theorem credit_out (t : Fin 8) : (outTM t).view.dmaCredit = NO := rfl

/-- A finished tile's copy into the result sets off. -/
theorem step_ostart (c : Dev nD) (t : ℕ) (ht : t < 8) {src : Memref sig .tc .vmem S512x2048 .f32} {dst : Memref sig .tc .hbm S512x2048 .f32} {sS : DmaSem sig}
    (hs : src = accTM (tl t)) (hd : dst = outTM (tl t)) (hsS : sS = oSem (fo t))
    {hsrc : src.view.WordExact} {hdst : dst.view.WordExact} {hsem : DmaTarget.Typed (nD := nD) (p := (Proc.tc : Proc τ)) .vmem (.dma sS) (.here dst)} :
    iprop(Ctx m ∗ ownsTc c (accTM (tl t)) fullShare (outT m c (tl t)) ∗ (∃ X, ownsTc c (outTM (tl t)) fullShare X)
        ∗ dutyTok ER (oCell c (fo t)) (t / 4) 0 ∗ reached ER (oCell c (fo t)) (t / 4))
      ⊢ iprop((cred (tallyAt (oCell c (fo t)) 0 NO) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sS) hsrc hdst hsem) k) Q) := by
  subst hs hd hsS
  unfold ownsTc owns
  iintro ⟨#HC, ⟨%fs, %hfs, Hs⟩, ⟨%X, %fd, %hfd, Hd⟩, Ht, #Hr⟩ Hk
  ihave #HI := (ctx_o m c (fo t)) $$ HC
  unfold CI
  icases HI with ⟨%κ, HI⟩
  iapply (Rounds.wp_copy_pointsTo 𝒱₀ ER (Rd m) (c : Thread nD τ) none (κ := κ) (r := t / 4) (d := 0) (q := fullShare) (fs := fs) (fd := fd)
      (by rw [show ((c : Thread nD τ), SemLoc.dma (oSem (fo t))) = oCell c (fo t) from rfl, duties_o m c _ _ (by omega)]; exact Finset.mem_singleton_self _)
      0 NO (show (outTM (tl t)).view.amount (.dma (oSem (fo t))) = NO from rfl) (amount_o m c _ _ _) (hpay := ?hp)) $$ [Hs Hd Ht]
  case hp =>
    refine BIBase.Entails.trans ?_ (Entails.of_eq (payload_o m c (fo t) (t / 4) 0).symm)
    rw [show 4 * (t / 4) + (fo t).val = t by show 4 * (t / 4) + t % 4 = t; omega]
    unfold outPay ownsTc owns
    rw [hfs]
    iintro ⟨Hd, Hs⟩
    isplitl [Hs]
    · iexists _, fs; isplitr; swap; · iexact Hs
      ipureintro; rfl
    · iexists _; isplitr; swap; · iexact Hd
      ipureintro; exact View.read_write_univ _ _
  · isplitr; · iexact HI
    isplitl [Hs]; · iexact Hs
    isplitl [Hd]; · iexact Hd
    isplitl [Ht]; · iexact Ht
    iexact Hr
  iexact Hk

/-- The wait for tile `t` to have been copied. -/
theorem step_owait (c : Dev nD) (t s : ℕ) (ht : t < 8) (hlev : ∀ x ∈ payL.drop s, 0 < lvP x) {src : Memref sig .tc .vmem S512x2048 .f32} {dst : Memref sig .tc .hbm S512x2048 .f32} {sS : DmaSem sig}
    (hd : dst = outTM (tl t)) (hsS : sS = oSem (fo t))
    {hsrc : src.view.WordExact} {hdst : dst.view.WordExact} :
    iprop(Ctx m ∗ owesS c s ∗ cred (tallyAt (oCell c (fo t)) 0 NO) ∗ atPos ER (oCell c (fo t)) (t / 4) ∅ 0)
      ⊢ iprop(((owesS c s ∗ (atPos ER (oCell c (fo t)) (t / 4 + 1) ∅ 0 ∗ reached ER (oCell c (fo t)) (t / 4 + 1)) ∗ outPay m c t)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hd hsS
  unfold owesS
  iintro ⟨#HC, ⟨%W, HO⟩, Hc, Hat⟩ Hk
  ihave #HI := (ctx_o m c (fo t)) $$ HC
  ihave #Hlev := (ctx_lev m) $$ HC
  unfold CI
  icases HI with ⟨%κ, HI⟩
  iapply (Rounds.wp_wait_rest_token 𝒱₀ ER (Rd m) (c : Thread nD τ) none (κ := κ)
      (wpE_waitDma2_eq 𝒱₀ (c : Thread nD τ) none Set.univ) (Set.mem_univ _) 0 (O := O c s) (W := W) (R := t / 4) (m := 0) (T := ∅)
      (by rw [Nat.zero_add, credit_out]; exact (expect_o m c _ _ (by omega)).symm)) $$ [Hc HO Hat]
  · isplitr; · iexact HI
    isplitl [Hc]; · rw [credit_out]; iexact Hc
    isplitl [HO]; · iexact HO
    isplitr
    · iapply (mayWait c (.dma (oSem (fo t))) 0 s 0 (by omega) (by rw [role_o]; exact le_refl _) hlev); iexact Hlev
    iexact Hat
  iintro ⟨HO, Hat, Hr, Hpay⟩
  iapply Hk
  isplitl [HO]; · iexists _; iexact HO
  isplitl [Hat Hr]
  · isplitl [Hat]; · iexact Hat
    iexact Hr
  have e : bigSep ((Rd (F := F) m).duties (oCell c (fo t)) (t / 4) \ ∅) (fun i => (Rd (F := F) m).payload (oCell c (fo t)) (t / 4) i) = outPay m c t := by
    rw [Finset.sdiff_empty, duties_o m c _ _ (by omega), bigSep_singleton, payload_o]
    rw [show 4 * (t / 4) + (fo t).val = t by show 4 * (t / 4) + t % 4 = t; omega]
  iapply (Entails.of_eq e); iexact Hpay

end Steps

end Cert.KernelIdealPf

end
-- ==== Proof.KernelIdealLane.lean ====
/-
# A lane's holdings

What a device holds of one lane (a direction and a piece) between two steps of the program, as a function of how far
it is: `mm` pieces received, `b` sent, `e` sendings waited for, the buffers below `f` given up, the landing places of
the hops below `g` granted by the neighbour. Each kind of step takes what it needs out and puts back what it leaves.
-/
module

public import proofs.«01_k».proof.Proof.KernelIdealCredit
public import Idealize.ShloMosaic.Lib.MemrefSat

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-- The lane's holdings. -/
def Lane (c : Dev nD) (d : Dir) (p : Pc) (mm b e f g : ℕ) : sProp 𝕄 :=
  iprop(bigSep (Finset.Ico b 7) (fun h => sTok c d p h) ∗ bigSep (Finset.Ico mm 7) (fun h => rCred c d p h)
    ∗ bigSep (Finset.Ico mm (mm + 3)) (fun h => rPos c d p h) ∗ bigSep (Finset.Ico e (e + 3)) (fun h => sPos c d p h)
    ∗ bigSep (Finset.Ico e b) (fun h => sCred c d p h) ∗ bigSep (Finset.Ico b g) (fun h => dstP c d p h)
    ∗ bigSep (Finset.Ico f (mm + 1)) (fun i => piece m c d p i fullShare.right)
    ∗ bigSep (Finset.Ico b (mm + 1)) (fun i => piece m c d p i fullShare.left)
    ∗ bigSep (Finset.Ico f e) (fun i => piece m c d p i fullShare.left)
    ∗ bigSep (Finset.range (min f 1)) (fun i => piece m c d p i fullShare))

theorem piece_halves (c : Dev nD) (d : Dir) (p : Pc) (i : ℕ) :
    piece m c d p i fullShare ⊢ iprop(piece m c d p i fullShare.left ∗ piece m c d p i fullShare.right) := by
  unfold piece ownsTc; exact (owns_halves _ _ _ _).1
theorem piece_join (c : Dev nD) (d : Dir) (p : Pc) (i : ℕ) :
    iprop(piece m c d p i fullShare.left ∗ piece m c d p i fullShare.right) ⊢ piece m c d p i fullShare := by
  unfold piece ownsTc; exact (owns_halves _ _ _ _).2

/-- One entry of a collection, and how to put it back. -/
theorem bs_take {ι : Type} [DecidableEq ι] {s : Finset ι} {i : ι} (hi : i ∈ s) (Φ : ι → sProp 𝕄) :
    bigSep s Φ ⊢ iprop(Φ i ∗ (Φ i -∗ bigSep s Φ)) := by
  rw [bigSep_erase hi]
  show iprop(Φ i ∗ bigSep (s.erase i) Φ) ⊢ iprop(Φ i ∗ (Φ i -∗ (Φ i ∗ bigSep (s.erase i) Φ)))
  iintro ⟨H, Hr⟩
  isplitl [H]; · iexact H
  iintro H
  isplitl [H] <;> iassumption

/-- One entry of a collection, to be put back changed. -/
theorem bs_upd {ι : Type} [DecidableEq ι] {s : Finset ι} {i : ι} (hi : i ∈ s) (Φ Ψ : ι → sProp 𝕄) (h : ∀ j, j ≠ i → Φ j = Ψ j) :
    bigSep s Φ ⊢ iprop(Φ i ∗ (Ψ i -∗ bigSep s Ψ)) := by
  rw [bigSep_erase hi (Φ := Φ), bigSep_erase hi (Φ := Ψ),
    bigSep_congr (s := s.erase i) (Φ := Φ) (Ψ := Ψ) fun j hj => h j (Finset.ne_of_mem_erase hj)]
  show iprop(Φ i ∗ bigSep (s.erase i) Ψ) ⊢ iprop(Φ i ∗ (Ψ i -∗ (Ψ i ∗ bigSep (s.erase i) Ψ)))
  iintro ⟨H, Hr⟩
  isplitl [H]; · iexact H
  iintro H
  isplitl [H] <;> iassumption

section Lanes
variable (c : Dev nD) (d : Dir) (p : Pc) {mm b e f g : ℕ}

theorem lane_send (heb : e ≤ b) (hbm : b ≤ mm) (hbg : b < g) (h7 : b < 7) (h3 : b < e + 3) :
    Lane m c d p mm b e f g ⊢ iprop((piece m c d p b fullShare.left ∗ dstP c d p b ∗ sTok c d p b ∗ reached ER (sCell c d p b) (b / 3))
      ∗ (sCred c d p b -∗ Lane m c d p mm (b + 1) e f g)) := by
  unfold Lane
  rw [bigSep_Ico_succ_bot h7 (fun h => sTok c d p h), bigSep_Ico_succ_bot hbg (fun h => dstP c d p h),
    bigSep_Ico_succ_bot (show b < mm + 1 by omega) (fun i => piece m c d p i fullShare.left),
    bigSep_Ico_succ_top heb (fun h => sCred c d p h)]
  have hr : bigSep (Finset.Ico e (e + 3)) (fun h => sPos (F := F) c d p h) ⊢ iprop(sPos c d p b ∗ (sPos c d p b -∗ bigSep (Finset.Ico e (e + 3)) (fun h => sPos c d p h))) :=
    bs_take (Finset.mem_Ico.mpr ⟨heb, h3⟩) _
  iintro ⟨⟨H1, H1'⟩, H2, H3, H4, H5, ⟨H6, H6'⟩, H7, ⟨H8, H8'⟩, H9, H10⟩
  ihave H4 := hr $$ H4
  icases H4 with ⟨Hs, Hb⟩
  have hq : sPos (F := F) c d p b ⊢ iprop(sPos c d p b ∗ reached ER (sCell c d p b) (b / 3)) := by
    unfold sPos; iintro ⟨H, #H'⟩
    isplitl [H]; · isplitl [H]; · iexact H
                   iexact H'
    iexact H'
  ihave Hs := hq $$ Hs
  icases Hs with ⟨Hs, #Hr⟩
  ihave H4 := Hb $$ Hs
  isplitl [H8 H6 H1]
  · isplitl [H8]; · iexact H8
    isplitl [H6]; · iexact H6
    isplitl [H1]; · iexact H1
    iexact Hr
  iintro Hc
  isplitl [H1']; · iexact H1'
  isplitl [H2]; · iexact H2
  isplitl [H3]; · iexact H3
  isplitl [H4]; · iexact H4
  isplitl [H5 Hc]; · isplitl [Hc] <;> iassumption
  isplitl [H6']; · iexact H6'
  isplitl [H7]; · iexact H7
  isplitl [H8']; · iexact H8'
  isplitl [H9] <;> iassumption

theorem lane_recv (h7 : mm < 7) (hb : b ≤ mm + 1) (hf : f ≤ mm + 1) :
    Lane m c d p mm b e f g ⊢ iprop((rCred c d p mm ∗ rPos c d p mm)
      ∗ ((rPos c d p (mm + 3) ∗ piece m c d p (mm + 1) fullShare) -∗ Lane m c d p (mm + 1) b e f g)) := by
  unfold Lane
  rw [bigSep_Ico_succ_bot h7 (fun h => rCred c d p h), bigSep_Ico_succ_bot (show mm < mm + 3 by omega) (fun h => rPos c d p h),
    show mm + 1 + 3 = mm + 3 + 1 by omega, bigSep_Ico_succ_top (show mm + 1 ≤ mm + 3 by omega) (fun h => rPos c d p h),
    bigSep_Ico_succ_top hb (fun i => piece m c d p i fullShare.left),
    bigSep_Ico_succ_top hf (fun i => piece m c d p i fullShare.right)]
  iintro ⟨H1, ⟨H2, H2'⟩, ⟨H3, H3'⟩, H4, H5, H6, H7, H8, H9, H10⟩
  isplitl [H2 H3]; · isplitl [H2] <;> iassumption
  iintro ⟨Hr, Hp⟩
  ihave Hp := (piece_halves m c d p (mm + 1)) $$ Hp
  icases Hp with ⟨Hl, Hrr⟩
  isplitl [H1]; · iexact H1
  isplitl [H2']; · iexact H2'
  isplitl [H3' Hr]; · isplitl [Hr] <;> iassumption
  isplitl [H4]; · iexact H4
  isplitl [H5]; · iexact H5
  isplitl [H6]; · iexact H6
  isplitl [H7 Hrr]; · isplitl [Hrr] <;> iassumption
  isplitl [H8 Hl]; · isplitl [Hl] <;> iassumption
  isplitl [H9] <;> iassumption

theorem lane_swait (heb : e < b) (hf : f ≤ e) :
    Lane m c d p mm b e f g ⊢ iprop((sCred c d p e ∗ sPos c d p e)
      ∗ ((sPos c d p (e + 3) ∗ piece m c d p e fullShare.left) -∗ Lane m c d p mm b (e + 1) f g)) := by
  unfold Lane
  rw [bigSep_Ico_succ_bot heb (fun h => sCred c d p h), bigSep_Ico_succ_bot (show e < e + 3 by omega) (fun h => sPos c d p h),
    show e + 1 + 3 = e + 3 + 1 by omega, bigSep_Ico_succ_top (show e + 1 ≤ e + 3 by omega) (fun h => sPos c d p h),
    bigSep_Ico_succ_top hf (fun i => piece m c d p i fullShare.left)]
  iintro ⟨H1, H2, H3, ⟨H4, H4'⟩, ⟨H5, H5'⟩, H6, H7, H8, H9, H10⟩
  isplitl [H4 H5]; · isplitl [H5] <;> iassumption
  iintro ⟨Hr, Hl⟩
  isplitl [H1]; · iexact H1
  isplitl [H2]; · iexact H2
  isplitl [H3]; · iexact H3
  isplitl [H4' Hr]; · isplitl [Hr] <;> iassumption
  isplitl [H5']; · iexact H5'
  isplitl [H6]; · iexact H6
  isplitl [H7]; · iexact H7
  isplitl [H8]; · iexact H8
  isplitl [H9 Hl]; · isplitl [Hl] <;> iassumption
  iexact H10

theorem lane_free (hfe : f < e) (hf : f ≤ mm) (h1 : 1 ≤ f) :
    Lane m c d p mm b e f g ⊢ iprop(piece m c d p f fullShare ∗ Lane m c d p mm b e (f + 1) g) := by
  unfold Lane
  rw [bigSep_Ico_succ_bot (show f < mm + 1 by omega) (fun i => piece m c d p i fullShare.right),
    bigSep_Ico_succ_bot hfe (fun i => piece m c d p i fullShare.left), show min f 1 = 1 by omega, show min (f + 1) 1 = 1 by omega]
  iintro ⟨H1, H2, H3, H4, H5, H6, ⟨H7, H7'⟩, H8, ⟨H9, H9'⟩, H10⟩
  isplitl [H7 H9]
  · iapply (piece_join m c d p f)
    isplitl [H9] <;> iassumption
  isplitl [H1]; · iexact H1
  isplitl [H2]; · iexact H2
  isplitl [H3]; · iexact H3
  isplitl [H4]; · iexact H4
  isplitl [H5]; · iexact H5
  isplitl [H6]; · iexact H6
  isplitl [H7']; · iexact H7'
  isplitl [H8]; · iexact H8
  isplitl [H9'] <;> iassumption

theorem lane_spend (he : 0 < e) : Lane m c d p mm b e 0 g ⊢ Lane m c d p mm b e 1 g := by
  unfold Lane
  rw [bigSep_Ico_succ_bot (show 0 < mm + 1 by omega) (fun i => piece m c d p i fullShare.right),
    bigSep_Ico_succ_bot he (fun i => piece m c d p i fullShare.left), show min 0 1 = 0 by omega, show min 1 1 = 0 + 1 by omega,
    bigSep_range_succ 0, Finset.range_zero, bigSep_empty]
  iintro ⟨H1, H2, H3, H4, H5, H6, ⟨H7, H7'⟩, H8, ⟨H9, H9'⟩, H10⟩
  isplitl [H1]; · iexact H1
  isplitl [H2]; · iexact H2
  isplitl [H3]; · iexact H3
  isplitl [H4]; · iexact H4
  isplitl [H5]; · iexact H5
  isplitl [H6]; · iexact H6
  isplitl [H7']; · iexact H7'
  isplitl [H8]; · iexact H8
  isplitl [H9']; · iexact H9'
  isplitl [H7 H9]
  · iapply (piece_join m c d p 0)
    isplitl [H9] <;> iassumption
  iexact H10

theorem lane_grant (hb : b ≤ g) : iprop(dstP c d p g ∗ Lane m c d p mm b e f g) ⊢ Lane m c d p mm b e f (g + 1) := by
  unfold Lane
  rw [bigSep_Ico_succ_top hb (fun h => dstP c d p h)]
  iintro ⟨Hd, H1, H2, H3, H4, H5, H6, H7⟩
  isplitl [H1]; · iexact H1
  isplitl [H2]; · iexact H2
  isplitl [H3]; · iexact H3
  isplitl [H4]; · iexact H4
  isplitl [H5]; · iexact H5
  isplitl [H6 Hd]; · isplitl [Hd] <;> iassumption
  iexact H7

theorem lane_reached {j : ℕ} (hj : mm ≤ j) (hj' : j < mm + 3) :
    Lane m c d p mm b e f g ⊢ iprop(reached ER (rCell c d p j) (j / 3) ∗ Lane m c d p mm b e f g) := by
  unfold Lane
  have hr : bigSep (Finset.Ico mm (mm + 3)) (fun h => rPos (F := F) c d p h) ⊢ iprop(rPos c d p j ∗ (rPos c d p j -∗ bigSep (Finset.Ico mm (mm + 3)) (fun h => rPos c d p h))) :=
    bs_take (Finset.mem_Ico.mpr ⟨hj, hj'⟩) _
  have hq : rPos (F := F) c d p j ⊢ iprop(rPos c d p j ∗ reached ER (rCell c d p j) (j / 3)) := by
    unfold rPos; iintro ⟨H, #H'⟩
    isplitl [H]; · isplitl [H]; · iexact H
                   iexact H'
    iexact H'
  iintro ⟨H1, H2, H3, H4⟩
  ihave H3 := hr $$ H3
  icases H3 with ⟨Hs, Hb⟩
  ihave Hs := hq $$ Hs
  icases Hs with ⟨Hs, #Hr⟩
  ihave H3 := Hb $$ Hs
  isplitr; · iexact Hr
  isplitl [H1]; · iexact H1
  isplitl [H2]; · iexact H2
  isplitl [H3] <;> iassumption

theorem lane_read {i : ℕ} (hf : f ≤ i) (hi : i ≤ mm) :
    Lane m c d p mm b e f g ⊢ iprop(piece m c d p i fullShare.right ∗ (piece m c d p i fullShare.right -∗ Lane m c d p mm b e f g)) := by
  unfold Lane
  have hr : bigSep (Finset.Ico f (mm + 1)) (fun i => piece m c d p i fullShare.right)
      ⊢ iprop(piece m c d p i fullShare.right ∗ (piece m c d p i fullShare.right -∗ bigSep (Finset.Ico f (mm + 1)) (fun i => piece m c d p i fullShare.right))) :=
    bs_take (Finset.mem_Ico.mpr ⟨hf, by omega⟩) _
  iintro ⟨H1, H2, H3, H4, H5, H6, H7, H8⟩
  ihave H7 := hr $$ H7
  icases H7 with ⟨Hs, Hb⟩
  isplitl [Hs]; · iexact Hs
  iintro Hs
  ihave H7 := Hb $$ Hs
  isplitl [H1]; · iexact H1
  isplitl [H2]; · iexact H2
  isplitl [H3]; · iexact H3
  isplitl [H4]; · iexact H4
  isplitl [H5]; · iexact H5
  isplitl [H6]; · iexact H6
  isplitl [H7] <;> iassumption

end Lanes

end Cert.KernelIdealPf

end
-- ==== Proof.KernelIdealLoad.lean ====
/-
# Reading the blocks

Each load of the program reads a tile of a block that some lane's piece holds: of the device's own buffers, of a slot
through the slot's view (in the loops), or of a slot's buffer directly (at the end). Each lemma says what is read.
-/
module

public import proofs.«01_k».proof.Proof.KernelIdealLane

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-! ## Parts of a view -/

section Views
variable {κ : Kind} {sp : Space} {s : Shape} {e : EltTy} (v : View sig κ sp s e)

theorem sub_slice {r R : Rect s} (φ : r.shape.Idx → R.shape.Idx) (h : ∀ y, r.emb y = R.emb (φ y)) :
    (v.slice r).set ⊆ (v.slice R).set
      ∧ ∀ f, (v.slice r).read (Elt F) f = fun y => (v.slice R).read (Elt F) f (φ y) := by
  refine ⟨fun i hi => ?_, fun f => funext fun y => ?_⟩
  · rw [View.set, Finset.mem_map] at hi
    obtain ⟨y, -, rfl⟩ := hi
    have : (v.slice r).emb y = (v.slice R).emb (φ y) := congrArg v.emb (h y)
    rw [this]; exact View.emb_mem_set _ _
  · show _root_.cast _ (f (v.emb (r.emb y))) = _root_.cast _ (f (v.emb (R.emb (φ y))))
    rw [h y]

theorem sub_reshape {r R : Rect s} {s' : Shape} (hs : s'.numel = R.shape.numel) (φ : r.shape.Idx → s'.Idx)
    (h : ∀ y, r.emb y = R.emb (Shape.reshapeEquiv hs (φ y))) :
    (v.slice r).set ⊆ ((v.slice R).reshape s' hs).set
      ∧ ∀ f, (v.slice r).read (Elt F) f = fun y => ((v.slice R).reshape s' hs).read (Elt F) f (φ y) := by
  obtain ⟨h1, h2⟩ := sub_slice (F := F) v (r := r) (R := R) (fun y => Shape.reshapeEquiv hs (φ y)) h
  refine ⟨by rw [View.set_reshape]; exact h1, fun f => (h2 f).trans ?_⟩
  rfl

theorem sub_both {R R' : Rect s} {s' s'' : Shape} (hs : s'.numel = R.shape.numel) (hs' : s''.numel = R'.shape.numel) {r : Rect s''}
    (φ : r.shape.Idx → s'.Idx)
    (h : ∀ y, R'.emb (Shape.reshapeEquiv hs' (r.emb y)) = R.emb (Shape.reshapeEquiv hs (φ y))) :
    (((v.slice R').reshape s'' hs').slice r).set ⊆ ((v.slice R).reshape s' hs).set
      ∧ ∀ f, (((v.slice R').reshape s'' hs').slice r).read (Elt F) f = fun y => ((v.slice R).reshape s' hs).read (Elt F) f (φ y) := by
  refine ⟨fun i hi => ?_, fun f => funext fun y => ?_⟩
  · rw [View.set, Finset.mem_map] at hi
    obtain ⟨y, -, rfl⟩ := hi
    have : (((v.slice R').reshape s'' hs').slice r).emb y = ((v.slice R).reshape s' hs).emb (φ y) := congrArg v.emb (h y)
    rw [this]; exact View.emb_mem_set _ _
  · show _root_.cast _ (f (v.emb (R'.emb (Shape.reshapeEquiv hs' (r.emb y))))) = _root_.cast _ (f (v.emb (R.emb (Shape.reshapeEquiv hs (φ y)))))
    rw [h y]

end Views

/-! ## Where a tile lies in a piece -/

/-- The half of the `x` block tile `t` lies in, and where that half starts. -/
def xp (t : ℕ) : Pc := if t < 4 then .x0 else .x1

theorem inbIn (n : ℕ) (hn : n < 4) : ∀ a, (![512 * n, 0] : Fin 2 → Nat) a + S512x256.size a ≤ S2048x256.size a := by
  have : ∀ k : Fin 4, ∀ a, (![512 * k.val, 0] : Fin 2 → Nat) a + S512x256.size a ≤ S2048x256.size a := by decide
  exact this ⟨n, hn⟩
/-- A tile within its half. -/
abbrev tin (n : ℕ) (hn : n < 4) : Rect S2048x256 := Rect.unit (s := S2048x256) ![512 * n, 0] S512x256.size (inbIn n hn)

abbrev half (o : ℕ) (ho : o = 0 ∨ o = 2048) : Rect S4096x256 := Rect.unit (s := S4096x256) ![o, 0] S2048x256.size (inbOwn o ho)

theorem half_tin (o n t : ℕ) (ho : o = 0 ∨ o = 2048) (hn : n < 4) (ht : 512 * t = o + 512 * n)
    (inb : ∀ a, (![512 * t, 0] : Fin 2 → Nat) a + S512x256.size a ≤ S4096x256.size a) (y : S512x256.Idx) :
    (Rect.unit (s := S4096x256) ![512 * t, 0] S512x256.size inb).emb y = (half o ho).emb ((tin n hn).emb y) := by
  funext a
  apply Fin.ext
  have h2 : a = 0 ∨ a = 1 := by revert a; decide
  rcases h2 with rfl | rfl
  · rw [Rect.emb_apply, Rect.emb_apply]
    show 512 * t + 1 * (y 0).val = o + 1 * (512 * n + 1 * (y 0).val); omega
  · rw [Rect.emb_apply, Rect.emb_apply]
    show 0 + 1 * (y 1).val = 0 + 1 * (0 + 1 * (y 1).val); omega

theorem xT_x0 (d : Dir) (c : Dev nD) (t : Fin 8) (h : t.val < 4) :
    xT m d c t = fun y => orig m d c .x0 ((tin t.val h).emb y) := by
  funext y; unfold xT orig
  exact congrArg _ (half_tin 0 t.val t.val (.inl rfl) h (by omega) _ y)
theorem xT_x1 (d : Dir) (c : Dev nD) (t : Fin 8) (h : ¬ t.val < 4) :
    xT m d c t = fun y => orig m d c .x1 ((tin (t.val - 4) (by omega)).emb y) := by
  funext y; unfold xT orig
  exact congrArg _ (half_tin 2048 (t.val - 4) t.val (.inr rfl) (by omega) (by omega) _ y)

section Loads
variable {α : Type} {Q : α → sProp (MT nD τ sig ℕ (Elt F) ℕ UU ℕ)}

/-! ## Loading part of what is owned -/

section General
variable {s0 s' : Shape} {e : EltTy} (P : Memref sig .tc .vmem s0 e) (c : Dev nD) (q : PosShare TreeShare)

theorem load_whole {r : Rect s0} (φ : r.shape.Idx → s0.Idx) (h : ∀ y, r.emb y = φ y)
    (X : s0.Idx → Elt F e) {hl : P.view.LoadsAt r} {k : (r.shape.Idx → Elt F e) → Prog (TpuEff nD τ sig (Elt F) Λ₀ .tc) α} :
    ownsTc c P q X ⊢ iprop((ownsTc c P q X -∗ wp frame (wpE (defs₀ (F := F)) 𝒱₀ (c : Thread nD τ) none) Set.univ (k fun y => X (φ y)) Q)
      -∗ wp frame (wpE (defs₀ (F := F)) 𝒱₀ (c : Thread nD τ) none) Set.univ (.op (.load P r.toLoadRect hl) k) Q) := by
  unfold ownsTc owns
  iintro ⟨%f, %hf, H⟩ Hk
  iapply (wp_load_rect 𝒱₀ (c : Thread nD τ) none Set.univ (m := P) (r := r) (S := P.view.set) (q := q) (f := f) (View.set_slice_subset _ _)) $$ H
  iintro H
  rw [show (P.access r).read (Elt F) f = fun y => X (φ y) from by rw [← hf]; funext y; rw [← h y]; rfl]
  iapply Hk
  iexists f; isplitr; · ipureintro; exact hf
  iexact H

theorem load_slice {r R : Rect s0} {hR : ∀ a, R.stride a = 1} (φ : r.shape.Idx → R.shape.Idx) (h : ∀ y, r.emb y = R.emb (φ y))
    (X : R.shape.Idx → Elt F e) {hl : P.view.LoadsAt r} {k : (r.shape.Idx → Elt F e) → Prog (TpuEff nD τ sig (Elt F) Λ₀ .tc) α} :
    ownsTc c (P.slice R hR) q X ⊢ iprop((ownsTc c (P.slice R hR) q X -∗ wp frame (wpE (defs₀ (F := F)) 𝒱₀ (c : Thread nD τ) none) Set.univ (k fun y => X (φ y)) Q)
      -∗ wp frame (wpE (defs₀ (F := F)) 𝒱₀ (c : Thread nD τ) none) Set.univ (.op (.load P r.toLoadRect hl) k) Q) := by
  obtain ⟨hS, hv⟩ := sub_slice (F := F) P.view φ h
  unfold ownsTc owns
  iintro ⟨%f, %hf, H⟩ Hk
  iapply (wp_load_rect 𝒱₀ (c : Thread nD τ) none Set.univ (m := P) (r := r) (S := (P.view.slice R).set) (q := q) (f := f) hS) $$ H
  iintro H
  rw [show (P.access r).read (Elt F) f = fun y => X (φ y) from by rw [← hf]; exact hv f]
  iapply Hk
  iexists f; isplitr; · ipureintro; exact hf
  iexact H

theorem load_squeeze {r R : Rect s0} {hR : ∀ a, R.stride a = 1} {hs : R.shape.Squeezes s'} (φ : r.shape.Idx → s'.Idx)
    (h : ∀ y, r.emb y = R.emb (Shape.reshapeEquiv hs.numel_eq (φ y)))
    (X : s'.Idx → Elt F e) {hl : P.view.LoadsAt r} {k : (r.shape.Idx → Elt F e) → Prog (TpuEff nD τ sig (Elt F) Λ₀ .tc) α} :
    ownsTc c ((P.slice R hR).squeeze s' hs) q X ⊢ iprop((ownsTc c ((P.slice R hR).squeeze s' hs) q X
        -∗ wp frame (wpE (defs₀ (F := F)) 𝒱₀ (c : Thread nD τ) none) Set.univ (k fun y => X (φ y)) Q)
      -∗ wp frame (wpE (defs₀ (F := F)) 𝒱₀ (c : Thread nD τ) none) Set.univ (.op (.load P r.toLoadRect hl) k) Q) := by
  obtain ⟨hS, hv⟩ := sub_reshape (F := F) P.view hs.numel_eq φ h
  unfold ownsTc owns
  iintro ⟨%f, %hf, H⟩ Hk
  iapply (wp_load_rect 𝒱₀ (c : Thread nD τ) none Set.univ (m := P) (r := r) (S := ((P.view.slice R).reshape s' hs.numel_eq).set) (q := q) (f := f) hS) $$ H
  iintro H
  rw [show (P.access r).read (Elt F) f = fun y => X (φ y) from by rw [← hf]; exact hv f]
  iapply Hk
  iexists f; isplitr; · ipureintro; exact hf
  iexact H

theorem load_both {R R' : Rect s0} {hR : ∀ a, R.stride a = 1} {hR' : ∀ a, R'.stride a = 1} {hs : R.shape.Squeezes s'} {s'' : Shape} {hs' : R'.shape.Squeezes s''}
    {r : Rect s''} (φ : r.shape.Idx → s'.Idx)
    (h : ∀ y, R'.emb (Shape.reshapeEquiv hs'.numel_eq (r.emb y)) = R.emb (Shape.reshapeEquiv hs.numel_eq (φ y)))
    (X : s'.Idx → Elt F e) {hl : ((P.slice R' hR').squeeze s'' hs').view.LoadsAt r} {k : (r.shape.Idx → Elt F e) → Prog (TpuEff nD τ sig (Elt F) Λ₀ .tc) α} :
    ownsTc c ((P.slice R hR).squeeze s' hs) q X ⊢ iprop((ownsTc c ((P.slice R hR).squeeze s' hs) q X
        -∗ wp frame (wpE (defs₀ (F := F)) 𝒱₀ (c : Thread nD τ) none) Set.univ (k fun y => X (φ y)) Q)
      -∗ wp frame (wpE (defs₀ (F := F)) 𝒱₀ (c : Thread nD τ) none) Set.univ (.op (.load ((P.slice R' hR').squeeze s'' hs') r.toLoadRect hl) k) Q) := by
  obtain ⟨hS, hv⟩ := sub_both (F := F) P.view hs.numel_eq hs'.numel_eq φ h
  unfold ownsTc owns
  iintro ⟨%f, %hf, H⟩ Hk
  iapply (wp_load_rect 𝒱₀ (c : Thread nD τ) none Set.univ (m := ((P.slice R' hR').squeeze s'' hs')) (r := r)
    (S := ((P.view.slice R).reshape s' hs.numel_eq).set) (q := q) (f := f) hS) $$ H
  iintro H
  rw [show (((P.slice R' hR').squeeze s'' hs').access r).read (Elt F) f = fun y => X (φ y) from by rw [← hf]; exact hv f]
  iapply Hk
  iexists f; isplitr; · ipureintro; exact hf
  iexact H

end General

/-! ## Dropping a slot's leading axis -/

theorem sqX (h : S2048x256.numel = S1x2048x256.numel) (y : S2048x256.Idx) : Shape.reshapeEquiv h y = Fin.cons ⟨0, Nat.one_pos⟩ y :=
  Shape.reshapeEquiv_cons_one (d := ![2048, 256]) h y
theorem sqF (h : S4096x256.numel = S1x4096x256.numel) (y : S4096x256.Idx) : Shape.reshapeEquiv h y = Fin.cons ⟨0, Nat.one_pos⟩ y :=
  Shape.reshapeEquiv_cons_one (d := ![4096, 256]) h y
theorem sqW (h : S256x2048.numel = S1x256x2048.numel) (y : S256x2048.Idx) : Shape.reshapeEquiv h y = Fin.cons ⟨0, Nat.one_pos⟩ y :=
  Shape.reshapeEquiv_cons_one (d := ![256, 2048]) h y
theorem sqT (h : S512x256.numel = S1x512x256.numel) (y : S512x256.Idx) : Shape.reshapeEquiv h y = Fin.cons ⟨0, Nat.one_pos⟩ y :=
  Shape.reshapeEquiv_cons_one (d := ![512, 256]) h y

/-- In a slot, seen whole and without its leading axis, tile `t` lies where it lies in its half. -/
theorem slot_tin (κ o n t : ℕ) (hn : n < 4) (ht : 512 * t = o + 512 * n)
    (iF : ∀ a, (![κ, 0, 0] : Fin 3 → Nat) a + S1x4096x256.size a ≤ S3x4096x256.size a)
    (iX : ∀ a, (![κ, o, 0] : Fin 3 → Nat) a + S1x2048x256.size a ≤ S3x4096x256.size a)
    (inb : ∀ a, (![512 * t, 0] : Fin 2 → Nat) a + S512x256.size a ≤ S4096x256.size a)
    (hF : S4096x256.numel = S1x4096x256.numel) (hX : S2048x256.numel = S1x2048x256.numel) (y : S512x256.Idx) :
    (Rect.unit (s := S3x4096x256) ![κ, 0, 0] S1x4096x256.size iF).emb (Shape.reshapeEquiv hF ((Rect.unit (s := S4096x256) ![512 * t, 0] S512x256.size inb).emb y))
      = (Rect.unit (s := S3x4096x256) ![κ, o, 0] S1x2048x256.size iX).emb (Shape.reshapeEquiv hX ((tin n hn).emb y)) := by
  rw [sqF, sqX]
  funext a
  apply Fin.ext
  have h3 : a = 0 ∨ a = 1 ∨ a = 2 := by revert a; decide
  rcases h3 with rfl | rfl | rfl
  · rfl
  · rw [Rect.emb_apply, Rect.emb_apply]
    show 0 + 1 * (512 * t + 1 * (y 0).val) = o + 1 * (512 * n + 1 * (y 0).val); omega
  · rw [Rect.emb_apply, Rect.emb_apply]
    show 0 + 1 * (0 + 1 * (y 1).val) = 0 + 1 * (0 + 1 * (y 1).val); omega

/-- The same for a tile read from the slot's buffer directly. -/
theorem slot_tail (κ o n t : ℕ) (hn : n < 4) (ht : 512 * t = o + 512 * n)
    (iT : ∀ a, (![κ, 512 * t, 0] : Fin 3 → Nat) a + S1x512x256.size a ≤ S3x4096x256.size a)
    (iX : ∀ a, (![κ, o, 0] : Fin 3 → Nat) a + S1x2048x256.size a ≤ S3x4096x256.size a)
    (hT : S1x512x256.numel = S512x256.numel) (hX : S2048x256.numel = S1x2048x256.numel) (y : S1x512x256.Idx) :
    (Rect.unit (s := S3x4096x256) ![κ, 512 * t, 0] S1x512x256.size iT).emb y
      = (Rect.unit (s := S3x4096x256) ![κ, o, 0] S1x2048x256.size iX).emb (Shape.reshapeEquiv hX ((tin n hn).emb (Shape.reshapeEquiv hT y))) := by
  obtain ⟨z, rfl⟩ : ∃ z, y = Shape.reshapeEquiv hT.symm z := ⟨Shape.reshapeEquiv hT y, by rw [Shape.reshapeEquiv_reshapeEquiv, Shape.reshapeEquiv_self]⟩
  rw [Shape.reshapeEquiv_reshapeEquiv, Shape.reshapeEquiv_self, sqX, sqT]
  funext a
  apply Fin.ext
  have h3 : a = 0 ∨ a = 1 ∨ a = 2 := by revert a; decide
  rcases h3 with rfl | rfl | rfl
  · rfl
  · rw [Rect.emb_apply, Rect.emb_apply]
    show 512 * t + 1 * (z 0).val = o + 1 * (512 * n + 1 * (z 0).val); omega
  · rw [Rect.emb_apply, Rect.emb_apply]
    show 0 + 1 * (z 1).val = 0 + 1 * (0 + 1 * (z 1).val); omega

theorem emb_full2 {A B : ℕ} (inb : ∀ a, (![0, 0] : Fin 2 → Nat) a + (⟨2, ![A, B]⟩ : Shape).size a ≤ (⟨2, ![A, B]⟩ : Shape).size a) (y : (⟨2, ![A, B]⟩ : Shape).Idx) :
    (Rect.unit (s := (⟨2, ![A, B]⟩ : Shape)) ![0, 0] (⟨2, ![A, B]⟩ : Shape).size inb).emb y = y := by
  funext a
  apply Fin.ext
  have h2 : a = (0 : Fin 2) ∨ a = (1 : Fin 2) := by
    have : ∀ a : Fin 2, a = 0 ∨ a = 1 := by decide
    exact this a
  rw [Rect.emb_apply]
  rcases h2 with rfl | rfl
  · show 0 + 1 * (y 0).val = (y 0).val; omega
  · show 0 + 1 * (y 1).val = (y 1).val; omega

/-! ## The loads -/

/-- The device's own rows. -/
theorem step_ownx (c : Dev nD) (d : Dir) (t : Fin 8) {off : Fin 2 → ℕ} (hoff : off = ![512 * t.val, 0])
    {inb : ∀ a, off a + S512x256.size a ≤ S4096x256.size a} {M : Memref sig .tc .vmem S4096x256 .fp8e5m2} (hM : M = oxM d)
    {hl : M.view.LoadsAt (Rect.unit (s := S4096x256) off S512x256.size inb)} {k : (S512x256.Idx → Elt F .fp8e5m2) → Prog (TpuEff nD τ sig (Elt F) Λ₀ .tc) α} :
    piece m c d (xp t.val) 0 fullShare.right
      ⊢ iprop((piece m c d (xp t.val) 0 fullShare.right -∗ wp frame (wpE (defs₀ (F := F)) 𝒱₀ (c : Thread nD τ) none) Set.univ (k (xT m d c t)) Q)
        -∗ wp frame (wpE (defs₀ (F := F)) 𝒱₀ (c : Thread nD τ) none) Set.univ (.op (.load M (Rect.unit (s := S4096x256) off S512x256.size inb).toLoadRect hl) k) Q) := by
  subst hoff hM
  by_cases h : t.val < 4
  · rw [show xp t.val = .x0 from if_pos h, xT_x0 m d c t h]
    exact load_slice (oxM d) c fullShare.right (hR := fun _ => rfl) (r := Rect.unit (s := S4096x256) ![512 * t.val, 0] S512x256.size inb) (R := half 0 (.inl rfl)) (fun y => (tin t.val h).emb y) (fun y => half_tin 0 t.val t.val (.inl rfl) h (by omega) _ y) (orig m d c .x0)
  · rw [show xp t.val = .x1 from if_neg h, xT_x1 m d c t h]
    exact load_slice (oxM d) c fullShare.right (hR := fun _ => rfl) (r := Rect.unit (s := S4096x256) ![512 * t.val, 0] S512x256.size inb) (R := half 2048 (.inr rfl)) (fun y => (tin (t.val - 4) (by omega)).emb y)
      (fun y => half_tin 2048 (t.val - 4) t.val (.inr rfl) (by omega) (by omega) _ y) (orig m d c .x1)

/-- The device's own `w` block. -/
theorem step_ownw (c : Dev nD) (d : Dir) {inb : ∀ a, (![0, 0] : Fin 2 → Nat) a + S256x2048.size a ≤ S256x2048.size a}
    {M : Memref sig .tc .vmem S256x2048 .fp8e5m2} (hM : M = owM d)
    {hl : M.view.LoadsAt (Rect.unit (s := S256x2048) ![0, 0] S256x2048.size inb)} {k : (S256x2048.Idx → Elt F .fp8e5m2) → Prog (TpuEff nD τ sig (Elt F) Λ₀ .tc) α} :
    piece m c d .w 0 fullShare.right
      ⊢ iprop((piece m c d .w 0 fullShare.right -∗ wp frame (wpE (defs₀ (F := F)) 𝒱₀ (c : Thread nD τ) none) Set.univ (k (oW m d c)) Q)
        -∗ wp frame (wpE (defs₀ (F := F)) 𝒱₀ (c : Thread nD τ) none) Set.univ (.op (.load M (Rect.unit (s := S256x2048) ![0, 0] S256x2048.size inb).toLoadRect hl) k) Q) := by
  subst hM
  exact load_whole (owM d) c fullShare.right (r := Rect.unit (s := S256x2048) ![0, 0] S256x2048.size inb) (fun y => y) (fun y => emb_full2 (A := 256) (B := 2048) inb y) (oW m d c)

/-- Rows that have come along a lane, through the slot's view. -/
theorem step_slotx (c : Dev nD) (d : Dir) (i : ℕ) (t : Fin 8) {off : Fin 2 → ℕ} (hoff : off = ![512 * t.val, 0])
    {inb : ∀ a, off a + S512x256.size a ≤ S4096x256.size a} {M : Memref sig .tc .vmem S4096x256 .fp8e5m2}
    (hM : M = ((cxM d).slice (Rect.unit (s := S3x4096x256) ![(sl i).val, 0, 0] S1x4096x256.size (inbSlotF (sl i))) (fun _ => rfl)).squeeze S4096x256 squeezes_S1x4096x256_S4096x256)
    {hl : M.view.LoadsAt (Rect.unit (s := S4096x256) off S512x256.size inb)} {k : (S512x256.Idx → Elt F .fp8e5m2) → Prog (TpuEff nD τ sig (Elt F) Λ₀ .tc) α} :
    piece m c d (xp t.val) (i + 1) fullShare.right
      ⊢ iprop((piece m c d (xp t.val) (i + 1) fullShare.right -∗ wp frame (wpE (defs₀ (F := F)) 𝒱₀ (c : Thread nD τ) none) Set.univ (k (xT m d (back d (i + 1) c) t)) Q)
        -∗ wp frame (wpE (defs₀ (F := F)) 𝒱₀ (c : Thread nD τ) none) Set.univ (.op (.load M (Rect.unit (s := S4096x256) off S512x256.size inb).toLoadRect hl) k) Q) := by
  subst hoff hM
  by_cases h : t.val < 4
  · rw [show xp t.val = .x0 from if_pos h, xT_x0 m d _ t h]
    exact load_both (cxM d) c fullShare.right (R' := Rect.unit (s := S3x4096x256) ![(sl i).val, 0, 0] S1x4096x256.size (inbSlotF (sl i))) (hs' := squeezes_S1x4096x256_S4096x256)
      (r := Rect.unit (s := S4096x256) ![512 * t.val, 0] S512x256.size inb) (R := Rect.unit (s := S3x4096x256) ![(sl i).val, 0, 0] S1x2048x256.size (inbSlotX (sl i) 0 (.inl rfl)))
      (hs := squeezes_S1x2048x256_S2048x256) (fun y => (tin t.val h).emb y)
      (fun y => slot_tin (sl i).val 0 t.val t.val h (by omega) (inbSlotF (sl i)) (inbSlotX (sl i) 0 (.inl rfl)) _ _ _ y) (orig m d (back d (i + 1) c) .x0)
  · rw [show xp t.val = .x1 from if_neg h, xT_x1 m d _ t h]
    exact load_both (cxM d) c fullShare.right (R' := Rect.unit (s := S3x4096x256) ![(sl i).val, 0, 0] S1x4096x256.size (inbSlotF (sl i))) (hs' := squeezes_S1x4096x256_S4096x256)
      (r := Rect.unit (s := S4096x256) ![512 * t.val, 0] S512x256.size inb) (R := Rect.unit (s := S3x4096x256) ![(sl i).val, 2048, 0] S1x2048x256.size (inbSlotX (sl i) 2048 (.inr rfl)))
      (hs := squeezes_S1x2048x256_S2048x256) (fun y => (tin (t.val - 4) (by omega)).emb y)
      (fun y => slot_tin (sl i).val 2048 (t.val - 4) t.val (by omega) (by omega) (inbSlotF (sl i)) (inbSlotX (sl i) 2048 (.inr rfl)) _ _ _ y) (orig m d (back d (i + 1) c) .x1)

/-- A `w` block that has come along a lane, through the slot's view. -/
theorem step_slotw (c : Dev nD) (d : Dir) (i : ℕ) {inb : ∀ a, (![0, 0] : Fin 2 → Nat) a + S256x2048.size a ≤ S256x2048.size a}
    {M : Memref sig .tc .vmem S256x2048 .fp8e5m2} (hM : M = slotM d .w (sl i))
    {hl : M.view.LoadsAt (Rect.unit (s := S256x2048) ![0, 0] S256x2048.size inb)} {k : (S256x2048.Idx → Elt F .fp8e5m2) → Prog (TpuEff nD τ sig (Elt F) Λ₀ .tc) α} :
    piece m c d .w (i + 1) fullShare.right
      ⊢ iprop((piece m c d .w (i + 1) fullShare.right -∗ wp frame (wpE (defs₀ (F := F)) 𝒱₀ (c : Thread nD τ) none) Set.univ (k (oW m d (back d (i + 1) c))) Q)
        -∗ wp frame (wpE (defs₀ (F := F)) 𝒱₀ (c : Thread nD τ) none) Set.univ (.op (.load M (Rect.unit (s := S256x2048) ![0, 0] S256x2048.size inb).toLoadRect hl) k) Q) := by
  subst hM
  exact load_whole (slotM d .w (sl i)) c fullShare.right (r := Rect.unit (s := S256x2048) ![0, 0] S256x2048.size inb) (fun y => y) (fun y => emb_full2 (A := 256) (B := 2048) inb y) (oW m d (back d (i + 1) c))

/-- Rows that have come along a lane, from the slot's buffer. -/
theorem step_tailx (c : Dev nD) (d : Dir) (i : ℕ) (t : Fin 8) {off : Fin 3 → ℕ} (hoff : off = ![(sl i).val, 512 * t.val, 0])
    {inb : ∀ a, off a + S1x512x256.size a ≤ S3x4096x256.size a} {M : Memref sig .tc .vmem S3x4096x256 .fp8e5m2} (hM : M = cxM d)
    {hl : M.view.LoadsAt (Rect.unit (s := S3x4096x256) off S1x512x256.size inb)} {k : (S1x512x256.Idx → Elt F .fp8e5m2) → Prog (TpuEff nD τ sig (Elt F) Λ₀ .tc) α} :
    piece m c d (xp t.val) (i + 1) fullShare.right
      ⊢ iprop((piece m c d (xp t.val) (i + 1) fullShare.right
          -∗ wp frame (wpE (defs₀ (F := F)) 𝒱₀ (c : Thread nD τ) none) Set.univ (k (shapeCast S1x512x256 (xT m d (back d (i + 1) c) t) castX)) Q)
        -∗ wp frame (wpE (defs₀ (F := F)) 𝒱₀ (c : Thread nD τ) none) Set.univ (.op (.load M (Rect.unit (s := S3x4096x256) off S1x512x256.size inb).toLoadRect hl) k) Q) := by
  subst hoff hM
  by_cases h : t.val < 4
  · rw [show xp t.val = .x0 from if_pos h, xT_x0 m d _ t h]
    exact load_squeeze (cxM d) c fullShare.right (r := Rect.unit (s := S3x4096x256) ![(sl i).val, 512 * t.val, 0] S1x512x256.size inb) (R := Rect.unit (s := S3x4096x256) ![(sl i).val, 0, 0] S1x2048x256.size (inbSlotX (sl i) 0 (.inl rfl)))
      (hs := squeezes_S1x2048x256_S2048x256) (fun y => (tin t.val h).emb (Shape.reshapeEquiv castX y))
      (fun y => slot_tail (sl i).val 0 t.val t.val h (by omega) _ (inbSlotX (sl i) 0 (.inl rfl)) _ _ y) (orig m d (back d (i + 1) c) .x0)
  · rw [show xp t.val = .x1 from if_neg h, xT_x1 m d _ t h]
    exact load_squeeze (cxM d) c fullShare.right (r := Rect.unit (s := S3x4096x256) ![(sl i).val, 512 * t.val, 0] S1x512x256.size inb) (R := Rect.unit (s := S3x4096x256) ![(sl i).val, 2048, 0] S1x2048x256.size (inbSlotX (sl i) 2048 (.inr rfl)))
      (hs := squeezes_S1x2048x256_S2048x256) (fun y => (tin (t.val - 4) (by omega)).emb (Shape.reshapeEquiv castX y))
      (fun y => slot_tail (sl i).val 2048 (t.val - 4) t.val (by omega) (by omega) _ (inbSlotX (sl i) 2048 (.inr rfl)) _ _ y) (orig m d (back d (i + 1) c) .x1)

/-- A `w` block that has come along a lane, from the slot's buffer. -/
theorem step_tailw (c : Dev nD) (d : Dir) (i : ℕ) {off : Fin 3 → ℕ} (hoff : off = ![(sl i).val, 0, 0])
    {inb : ∀ a, off a + S1x256x2048.size a ≤ S3x256x2048.size a} {M : Memref sig .tc .vmem S3x256x2048 .fp8e5m2} (hM : M = cwM d)
    {hl : M.view.LoadsAt (Rect.unit (s := S3x256x2048) off S1x256x2048.size inb)} {k : (S1x256x2048.Idx → Elt F .fp8e5m2) → Prog (TpuEff nD τ sig (Elt F) Λ₀ .tc) α} :
    piece m c d .w (i + 1) fullShare.right
      ⊢ iprop((piece m c d .w (i + 1) fullShare.right
          -∗ wp frame (wpE (defs₀ (F := F)) 𝒱₀ (c : Thread nD τ) none) Set.univ (k (shapeCast S1x256x2048 (oW m d (back d (i + 1) c)) castW)) Q)
        -∗ wp frame (wpE (defs₀ (F := F)) 𝒱₀ (c : Thread nD τ) none) Set.univ (.op (.load M (Rect.unit (s := S3x256x2048) off S1x256x2048.size inb).toLoadRect hl) k) Q) := by
  subst hoff hM
  exact load_squeeze (cwM d) c fullShare.right (r := Rect.unit (s := S3x256x2048) ![(sl i).val, 0, 0] S1x256x2048.size inb) (R := Rect.unit (s := S3x256x2048) ![(sl i).val, 0, 0] S1x256x2048.size (inbSlotW (sl i)))
    (hs := squeezes_S1x256x2048_S256x2048) (fun y => Shape.reshapeEquiv castW y)
    (fun y => by rw [Shape.reshapeEquiv_reshapeEquiv, Shape.reshapeEquiv_self]) (oW m d (back d (i + 1) c))

end Loads

end Cert.KernelIdealPf

end
-- ==== Proof.KernelIdealScript.lean ====
/-
# The program as a script

The kernel is one straight run of sends, waits, signals and sums. `script` lists them; after `n` of them each has been
done `at n a` times. `allowed` says when a step may be taken at given counts, and `ok_all` that the script only takes
allowed steps.
-/
module

public import proofs.«01_k».proof.Proof.KernelIdealSched

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-- A step: sending a piece on, waiting for one to arrive or to have left, having done with the own blocks, giving up
    a buffer, waiting for one given up, one product added to every tile, one tile finished, its copy begun and ended. -/
inductive Act
  | send (d : Dir) (p : Pc) | recv (d : Dir) (p : Pc) | swait (d : Dir) (p : Pc)
  | spend (d : Dir) | sig (d : Dir) | cwait (d : Dir)
  | loop | fin | ostart | owait
  deriving DecidableEq

def lanes6 : List (Dir × Pc) := [(.cw, .w), (.cw, .x0), (.cw, .x1), (.ccw, .w), (.ccw, .x0), (.ccw, .x1)]
def pass : List Act := lanes6.flatMap fun x => [.recv x.1 x.2, .send x.1 x.2]
def left : List Act := lanes6.map fun x => .swait x.1 x.2
def credits : List Act := [.sig .cw, .sig .ccw, .cwait .cw, .cwait .ccw]
def two : List Act := [.loop, .loop]

def script : List Act :=
  lanes6.map (fun x => .send x.1 x.2) ++ two ++ pass ++ left ++ [.spend .cw, .spend .ccw]
    ++ pass ++ two ++ left ++ credits
    ++ pass ++ two ++ left ++ credits
    ++ pass ++ two ++ left ++ credits
    ++ pass ++ two ++ left ++ credits
    ++ pass ++ two ++ left
    ++ [.recv .cw .w, .recv .cw .x0, .recv .ccw .w, .recv .ccw .x0] ++ two ++ left
    ++ [.fin, .ostart, .fin, .ostart, .fin, .ostart, .fin, .ostart] ++ [.recv .cw .x1, .recv .ccw .x1]
    ++ [.fin, .owait, .ostart, .fin, .owait, .ostart, .fin, .owait, .ostart, .fin, .owait, .ostart]
    ++ [.owait, .owait, .owait, .owait]

/-- How often a step has been taken when the script is at `n`. -/
def cnt (n : ℕ) (a : Act) : ℕ := (script.take n).count a

theorem cnt_succ {n : ℕ} {a : Act} (h : script[n]? = some a) (b : Act) : cnt (n + 1) b = if b = a then cnt n b + 1 else cnt n b := by
  obtain ⟨hn, rfl⟩ := List.getElem?_eq_some_iff.mp h
  unfold cnt
  rw [List.take_succ_eq_append_getElem hn, List.count_append, List.count_singleton]
  by_cases hb : b = script[n]
  · rw [if_pos hb, if_pos (by rw [hb]; exact beq_self_eq_true _)]
  · rw [if_neg hb, if_neg (by intro h'; exact hb (beq_iff_eq.mp h').symm), Nat.add_zero]
theorem cnt_eq {n : ℕ} {a : Act} (h : script[n]? = some a) : cnt (n + 1) a = cnt n a + 1 := by rw [cnt_succ h, if_pos rfl]
theorem cnt_ne {n : ℕ} {a b : Act} (h : script[n]? = some a) (hb : b ≠ a) : cnt (n + 1) b = cnt n b := by rw [cnt_succ h, if_neg hb]

/-- What has been paid of what is owed: two signals before the script starts, every send, every credit. -/
def paid (κ : Act → ℕ) : ℕ :=
  2 + (κ (.send .cw .w) + κ (.send .cw .x0) + κ (.send .cw .x1) + κ (.send .ccw .w) + κ (.send .ccw .x0) + κ (.send .ccw .x1) + κ (.sig .cw) + κ (.sig .ccw))

/-- When everything still owed is above level `n`. -/
def above (n s : ℕ) : Prop := ∀ x ∈ payL.drop s, n < lvP x
instance (n s : ℕ) : Decidable (above n s) := by unfold above; infer_instance

/-- The buffers given up so far. -/
def freed (κ : Act → ℕ) (d : Dir) : ℕ := κ (.spend d) + κ (.sig d)

def allowed (κ : Act → ℕ) : Act → Prop
  | .send d p => κ (.swait d p) ≤ κ (.send d p) ∧ κ (.send d p) ≤ κ (.recv d p) ∧ κ (.send d p) < 3 + κ (.cwait d) ∧ κ (.send d p) < 7
      ∧ κ (.send d p) < κ (.swait d p) + 3 ∧ payL[paid κ]? = some (.hop d p (κ (.send d p)))
  | .recv d p => κ (.recv d p) < 7 ∧ κ (.send d p) ≤ κ (.recv d p) + 1 ∧ freed κ d ≤ κ (.recv d p) + 1 ∧ above (2 * κ (.recv d p) + 2) (paid κ)
  | .swait d p => κ (.swait d p) < 7 ∧ κ (.swait d p) < κ (.send d p) ∧ freed κ d ≤ κ (.swait d p) ∧ above 0 (paid κ)
  | .spend d => κ (.spend d) = 0 ∧ κ (.sig d) = 0 ∧ ∀ p, 0 < κ (.swait d p)
  | .sig d => κ (.sig d) < 4 ∧ freed κ d = κ (.sig d) + 1 ∧ payL[paid κ]? = some (.crd d (κ (.sig d)))
      ∧ ∀ p, κ (.sig d) + 1 < κ (.swait d p) ∧ κ (.sig d) + 1 ≤ κ (.recv d p) ∧ κ (.recv d p) ≤ κ (.sig d) + 3
  | .cwait d => κ (.cwait d) < 4 ∧ above (2 * κ (.cwait d) + 5) (paid κ) ∧ ∀ p, κ (.send d p) ≤ 3 + κ (.cwait d)
  | .loop => κ .loop < 14 ∧ κ .fin = 0 ∧ κ .ostart = 0
      ∧ ∀ p, freed κ (if κ .loop % 2 = 0 then .cw else .ccw) ≤ κ .loop / 2 ∧ κ .loop / 2 ≤ κ (.recv (if κ .loop % 2 = 0 then .cw else .ccw) p)
  | .fin => κ .loop = 14 ∧ κ .fin < 8 ∧ κ .ostart ≤ κ .fin ∧ ∀ d, freed κ d ≤ 7 ∧ κ (.recv d .w) = 7 ∧ κ (.recv d .x0) = 7
      ∧ (κ .fin < 4 ∨ κ (.recv d .x1) = 7)
  | .ostart => κ .ostart < κ .fin ∧ κ .ostart < 8 ∧ κ .owait ≤ κ .ostart ∧ κ .ostart < κ .owait + 4
  | .owait => κ .owait < κ .ostart ∧ κ .owait < 8 ∧ above 0 (paid κ)

instance (κ : Act → ℕ) (a : Act) : Decidable (allowed κ a) := by cases a <;> unfold allowed <;> infer_instance

/-- The script only takes allowed steps. -/
theorem ok_all : ∀ n : Fin 182, ∀ a ∈ script[n.val]?, allowed (cnt n.val) a := by decide +kernel

theorem script_length : script.length = 182 := by decide +kernel
theorem ok_at {n : ℕ} {a : Act} (h : script[n]? = some a) : allowed (cnt n) a := by
  obtain ⟨hn, -⟩ := List.getElem?_eq_some_iff.mp h
  rw [script_length] at hn
  exact ok_all ⟨n, hn⟩ a (by rw [h]; rfl)

end Cert.KernelIdealPf

end
-- ==== Proof.KernelIdealTiles.lean ====
/-
# The state between two steps

What a device holds when its program is at a step: its lanes, the credits of both directions, the result's tiles, the
staged inputs. `Tiles` is the part about the result: a tile is summed, then finished, then copied out, then done.
-/
module

public import proofs.«01_k».proof.Proof.KernelIdealLoad
public import proofs.«01_k».proof.Proof.KernelIdealLane
public import proofs.«01_k».proof.Proof.KernelIdealCredit
public import proofs.«01_k».proof.Proof.KernelIdealScript

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-! ## Tiles -/

/-- A tile's running sum with `j` products in it. -/
def tileAcc (c : Dev nD) (t : Fin 8) : ℕ → sProp 𝕄
  | 0 => iprop(∃ X, ownsTc c (accTM t) fullShare X)
  | j + 1 => ownsTc c (accTM t) fullShare (accT m c t j)

/-- A tile before its copy: in pass `j`, of which `k` tiles are done, with `n` tiles finished. -/
def Hold (c : Dev nD) (j k n t : ℕ) : sProp 𝕄 :=
  iprop((if t < n then ownsTc c (accTM (tl t)) fullShare (outT m c (tl t)) else tileAcc m c (tl t) (if t < k then j + 1 else j))
    ∗ (∃ X, ownsTc c (outTM (tl t)) fullShare X) ∗ dutyTok ER (oCell c (fo t)) (t / 4) 0)

def oPos (c : Dev nD) (t : ℕ) : sProp 𝕄 := iprop(atPos ER (oCell c (fo t)) (t / 4) ∅ 0 ∗ reached ER (oCell c (fo t)) (t / 4))
def oCred (c : Dev nD) (t : ℕ) : sProp 𝕄 := cred (tallyAt (oCell c (fo t)) 0 NO)

def Tiles (c : Dev nD) (j k n a b : ℕ) : sProp 𝕄 :=
  iprop(bigSep (Finset.Ico a 8) (fun t => Hold m c j k n t) ∗ bigSep (Finset.Ico b a) (fun t => oCred c t)
    ∗ bigSep (Finset.range b) (fun t => outPay m c t) ∗ bigSep (Finset.Ico b (b + 4)) (fun t => oPos c t))

theorem tl_val (t : Fin 8) : tl t.val = t := Fin.ext (Nat.mod_eq_of_lt t.isLt)

/-- One tile's running sum, to be put back changed. -/
theorem tiles_upd (c : Dev nD) {j k j' k' n n' a b t : ℕ} (ha : a ≤ t) (ht : t < 8) (h : ∀ u, u ≠ t → Hold m c j k n u = Hold m c j' k' n' u) :
    Tiles m c j k n a b ⊢ iprop(Hold m c j k n t ∗ (Hold m c j' k' n' t -∗ Tiles m c j' k' n' a b)) := by
  unfold Tiles
  iintro ⟨H1, H2⟩
  ihave H1 := (bs_upd (Finset.mem_Ico.mpr ⟨ha, ht⟩) (fun t => Hold m c j k n t) (fun t => Hold m c j' k' n' t) h) $$ H1
  icases H1 with ⟨H, Hb⟩
  isplitl [H]; · iexact H
  iintro H
  ihave H := Hb $$ H
  isplitl [H] <;> iassumption

/-- One tile's running sum, with what it is after the step. -/
theorem hold_acc (c : Dev nD) {j k j' k' n n' t : ℕ} :
    Hold m c j k n t ⊢ iprop((if t < n then ownsTc c (accTM (tl t)) fullShare (outT m c (tl t)) else tileAcc m c (tl t) (if t < k then j + 1 else j))
      ∗ ((if t < n' then ownsTc c (accTM (tl t)) fullShare (outT m c (tl t)) else tileAcc m c (tl t) (if t < k' then j' + 1 else j')) -∗ Hold m c j' k' n' t)) := by
  unfold Hold
  iintro ⟨H1, H2⟩
  isplitl [H1]; · iexact H1
  iintro H
  isplitl [H] <;> iassumption

/-- A pass done: the next begins. -/
theorem tiles_next (c : Dev nD) (j n a b : ℕ) : Tiles m c j 8 n a b ⊢ Tiles m c (j + 1) 0 n a b := by
  unfold Tiles
  have e : bigSep (Finset.Ico a 8) (fun t => Hold m c j 8 n t) = bigSep (Finset.Ico a 8) (fun t => Hold m c (j + 1) 0 n t) :=
    bigSep_congr fun t ht => by unfold Hold; rw [if_pos (show t < 8 from (Finset.mem_Ico.mp ht).2), if_neg (show ¬ t < 0 by omega)]
  rw [e]

theorem tiles_ostart (c : Dev nD) {j k n a b : ℕ} (ha : a < n) (h8 : a < 8) (hb : b ≤ a) (h4 : a < b + 4) :
    Tiles m c j k n a b ⊢ iprop((ownsTc c (accTM (tl a)) fullShare (outT m c (tl a)) ∗ (∃ X, ownsTc c (outTM (tl a)) fullShare X)
        ∗ dutyTok ER (oCell c (fo a)) (a / 4) 0 ∗ reached ER (oCell c (fo a)) (a / 4)) ∗ (oCred c a -∗ Tiles m c j k n (a + 1) b)) := by
  unfold Tiles
  rw [bigSep_Ico_succ_bot h8 (fun t => Hold m c j k n t), bigSep_Ico_succ_top hb (fun t => oCred c t)]
  have hr : bigSep (Finset.Ico b (b + 4)) (fun h => oPos (F := F) c h) ⊢ iprop(oPos c a ∗ (oPos c a -∗ bigSep (Finset.Ico b (b + 4)) (fun h => oPos c h))) :=
    bs_take (Finset.mem_Ico.mpr ⟨hb, h4⟩) _
  have hq : oPos (F := F) c a ⊢ iprop(oPos c a ∗ reached ER (oCell c (fo a)) (a / 4)) := by
    unfold oPos; iintro ⟨H, #H'⟩
    isplitl [H]; · isplitl [H]; · iexact H
                   iexact H'
    iexact H'
  have hh : Hold m c j k n a ⊢ iprop(ownsTc c (accTM (tl a)) fullShare (outT m c (tl a)) ∗ (∃ X, ownsTc c (outTM (tl a)) fullShare X) ∗ dutyTok ER (oCell c (fo a)) (a / 4) 0) := by
    unfold Hold; rw [if_pos ha]
  iintro ⟨⟨H, H1⟩, H2, H3, H4⟩
  ihave H4 := hr $$ H4
  icases H4 with ⟨Hs, Hb⟩
  ihave Hs := hq $$ Hs
  icases Hs with ⟨Hs, #Hr⟩
  ihave H4 := Hb $$ Hs
  ihave H := hh $$ H
  icases H with ⟨Ha, Ho, Ht⟩
  isplitl [Ha Ho Ht]
  · isplitl [Ha]; · iexact Ha
    isplitl [Ho]; · iexact Ho
    isplitl [Ht]; · iexact Ht
    iexact Hr
  iintro Hc
  isplitl [H1]; · iexact H1
  isplitl [H2 Hc]; · isplitl [Hc] <;> iassumption
  isplitl [H3] <;> iassumption

theorem tiles_owait (c : Dev nD) {j k n a b : ℕ} (hb : b < a) :
    Tiles m c j k n a b ⊢ iprop((oCred c b ∗ atPos ER (oCell c (fo b)) (b / 4) ∅ 0)
      ∗ (((atPos ER (oCell c (fo b)) (b / 4 + 1) ∅ 0 ∗ reached ER (oCell c (fo b)) (b / 4 + 1)) ∗ outPay m c b) -∗ Tiles m c j k n a (b + 1))) := by
  unfold Tiles
  rw [bigSep_Ico_succ_bot hb (fun t => oCred c t), bigSep_range_succ b (fun t => outPay m c t),
    bigSep_Ico_succ_bot (show b < b + 4 by omega) (fun t => oPos c t), show b + 1 + 4 = b + 4 + 1 by omega, bigSep_Ico_succ_top (show b + 1 ≤ b + 4 by omega) (fun t => oPos c t)]
  have hn : oPos (F := F) c (b + 4) = iprop(atPos ER (oCell c (fo b)) (b / 4 + 1) ∅ 0 ∗ reached ER (oCell c (fo b)) (b / 4 + 1)) := by
    unfold oPos
    rw [show fo (b + 4) = fo b from Fin.ext (by show (b + 4) % 4 = b % 4; omega), show (b + 4) / 4 = b / 4 + 1 by omega]
  have h0 : oPos (F := F) c b ⊢ atPos ER (oCell c (fo b)) (b / 4) ∅ 0 := by unfold oPos; iintro ⟨H, -⟩; iexact H
  rw [hn]
  iintro ⟨H1, ⟨H2, H2'⟩, H3, ⟨H4, H4'⟩⟩
  ihave H4 := h0 $$ H4
  isplitl [H2 H4]; · isplitl [H2] <;> iassumption
  iintro ⟨Hp, Ho⟩
  isplitl [H1]; · iexact H1
  isplitl [H2']; · iexact H2'
  isplitl [H3 Ho]; · isplitl [Ho] <;> iassumption
  isplitl [Hp] <;> iassumption

/-! ## Loads and stores of a tile -/
section Steps
variable {α : Type} {Q : α → sProp (MT nD τ sig ℕ (Elt F) ℕ UU ℕ)}

theorem step_accld (c : Dev nD) (t : Fin 8) (X : S512x2048.Idx → Elt F .f32) {off : Fin 2 → ℕ} (hoff : off = ![512 * t.val, 0])
    {inb : ∀ a, off a + S512x2048.size a ≤ S4096x2048.size a} {M : Memref sig .tc .vmem S4096x2048 .f32} (hM : M = accM)
    {hl : M.view.LoadsAt (Rect.unit (s := S4096x2048) off S512x2048.size inb)} {k : (S512x2048.Idx → Elt F .f32) → Prog (TpuEff nD τ sig (Elt F) Λ₀ .tc) α} :
    ownsTc c (accTM t) fullShare X
      ⊢ iprop((ownsTc c (accTM t) fullShare X -∗ wp frame (wpE (defs₀ (F := F)) 𝒱₀ (c : Thread nD τ) none) Set.univ (k X) Q)
        -∗ wp frame (wpE (defs₀ (F := F)) 𝒱₀ (c : Thread nD τ) none) Set.univ (.op (.load M (Rect.unit (s := S4096x2048) off S512x2048.size inb).toLoadRect hl) k) Q) := by
  subst hoff hM
  exact load_slice accM c fullShare (hR := fun _ => rfl) (r := Rect.unit (s := S4096x2048) ![512 * t.val, 0] S512x2048.size inb)
    (R := Rect.unit (s := S4096x2048) ![512 * t.val, 0] S512x2048.size (inbTA t)) (fun y => y) (fun y => rfl) X

theorem step_accst (c : Dev nD) (t : Fin 8) (X Y : S512x2048.Idx → Elt F .f32) {off : Fin 2 → ℕ} (hoff : off = ![512 * t.val, 0])
    {inb : ∀ a, off a + S512x2048.size a ≤ S4096x2048.size a} {M : Memref sig .tc .vmem S4096x2048 .f32} (hM : M = accM)
    {w : S512x2048.Idx → Elt F .f32} (hw : w = Y)
    {hx : (M.access (Rect.unit (s := S4096x2048) off S512x2048.size inb)).Stores Finset.univ}
    {hm : (Finset.univ : Finset (Rect.unit (s := S4096x2048) off S512x2048.size inb).shape.Idx) = Finset.univ ∨ ∀ a, (Rect.unit (s := S4096x2048) off S512x2048.size inb).stride a = 1}
    {k : PUnit.{1} → Prog (TpuEff nD τ sig (Elt F) Λ₀ .tc) α} :
    ownsTc c (accTM t) fullShare X
      ⊢ iprop((ownsTc c (accTM t) fullShare Y -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit (s := S4096x2048) off S512x2048.size inb) w Finset.univ hx hm) k) Q) := by
  subst hoff hM hw
  unfold ownsTc owns
  iintro ⟨%f, %hf, H⟩ Hk
  iapply (wp_store 𝒱₀ (c : Thread nD τ) none Set.univ (m := accM) (r := Rect.unit (s := S4096x2048) ![512 * t.val, 0] S512x2048.size inb)
    (w := w) (Mk := Finset.univ) (S := (accTM t).view.set) (f := f) (Finset.Subset.refl _)) $$ H
  iintro H
  iapply Hk
  iexists ((accM.access (Rect.unit (s := S4096x2048) ![512 * t.val, 0] S512x2048.size inb)).write (Elt F) f w Finset.univ)
  isplitr; · ipureintro; exact View.read_write_univ _ _
  iexact H

/-- The scales. -/
theorem step_sx (c : Dev nD) {M : Memref sig .tc .smem S1 .f32} (hM : M = sxM) {X : S1.Idx → Elt F .f32}
    {inb : ∀ a, (![0] : Fin 1 → Nat) a + S1.size a ≤ S1.size a}
    {hl : M.view.LoadsAt (Rect.unit (s := S1) ![0] S1.size inb)} {k : (S1.Idx → Elt F .f32) → Prog (TpuEff nD τ sig (Elt F) Λ₀ .tc) α} :
    ownsTc c sxM fullShare X
      ⊢ iprop((ownsTc c sxM fullShare X -∗ wp frame (wpE (defs₀ (F := F)) 𝒱₀ (c : Thread nD τ) none) Set.univ (k ((sxM.access (Rect.unit (s := S1) ![0] S1.size inb)).read (Elt F) X)) Q)
        -∗ wp frame (wpE (defs₀ (F := F)) 𝒱₀ (c : Thread nD τ) none) Set.univ (.op (.load M (Rect.unit (s := S1) ![0] S1.size inb).toLoadRect hl) k) Q) := by
  subst hM
  unfold ownsTc owns
  iintro ⟨%g, %hg, H⟩ Hk
  have hg : g = X := hg
  subst hg
  iapply (wp_load_rect 𝒱₀ (c : Thread nD τ) none Set.univ (m := sxM) (r := Rect.unit (s := S1) ![0] S1.size inb) (S := sxM.view.set) (q := fullShare) (f := g) (View.set_slice_subset _ _)) $$ H
  iintro H
  iapply Hk
  iexists g; isplitr; · ipureintro; exact hg
  iexact H

theorem step_sw (c : Dev nD) {M : Memref sig .tc .smem S1 .f32} (hM : M = swM) {X : S1.Idx → Elt F .f32}
    {inb : ∀ a, (![0] : Fin 1 → Nat) a + S1.size a ≤ S1.size a}
    {hl : M.view.LoadsAt (Rect.unit (s := S1) ![0] S1.size inb)} {k : (S1.Idx → Elt F .f32) → Prog (TpuEff nD τ sig (Elt F) Λ₀ .tc) α} :
    ownsTc c swM fullShare X
      ⊢ iprop((ownsTc c swM fullShare X -∗ wp frame (wpE (defs₀ (F := F)) 𝒱₀ (c : Thread nD τ) none) Set.univ (k ((swM.access (Rect.unit (s := S1) ![0] S1.size inb)).read (Elt F) X)) Q)
        -∗ wp frame (wpE (defs₀ (F := F)) 𝒱₀ (c : Thread nD τ) none) Set.univ (.op (.load M (Rect.unit (s := S1) ![0] S1.size inb).toLoadRect hl) k) Q) := by
  subst hM
  unfold ownsTc owns
  iintro ⟨%g, %hg, H⟩ Hk
  have hg : g = X := hg
  subst hg
  iapply (wp_load_rect 𝒱₀ (c : Thread nD τ) none Set.univ (m := swM) (r := Rect.unit (s := S1) ![0] S1.size inb) (S := swM.view.set) (q := fullShare) (f := g) (View.set_slice_subset _ _)) $$ H
  iintro H
  iapply Hk
  iexists g; isplitr; · ipureintro; exact hg
  iexact H

end Steps

end Cert.KernelIdealPf

end
-- ==== Proof.KernelIdealState.lean ====
/-
# The state between two steps

What a device holds when its script is at `n`: its lanes, the credits of both directions, the result's tiles, and the
staged scales. Then, for each step of the script, the rule that takes the state at `n` to the state at `n + 1`.
-/
module

public import proofs.«01_k».proof.Proof.KernelIdealTiles

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

def laneOf (c : Dev nD) (κ : Act → ℕ) (d : Dir) (p : Pc) : sProp 𝕄 :=
  Lane m c d p (κ (.recv d p)) (κ (.send d p)) (κ (.swait d p)) (freed κ d) (3 + κ (.cwait d))

/-- The credits of a direction, `i` given and `k` taken. -/
def Cr (c : Dev nD) (d : Dir) (i k : ℕ) : sProp 𝕄 :=
  iprop(bigSep (Finset.Ico i 4) (fun i => sigR c d i) ∗ bigSep (Finset.range i) (fun j => fct (F := F) (up d c) d j)
    ∗ reached ER (crCell (up d c) d) 0 ∗ crAt c d k ∗ bigSep (Finset.Ico k 4) (fun k => cwR c d k))

def DirSt (c : Dev nD) (κ : Act → ℕ) (d : Dir) : sProp 𝕄 :=
  iprop((bigSep Finset.univ fun p => laneOf m c κ d p) ∗ Cr c d (κ (.sig d)) (κ (.cwait d)))

def Win (c : Dev nD) : sProp 𝕄 := iprop(ownsTc c sxM fullShare (sxstg m c) ∗ ownsTc c swM fullShare (swstg m c))

/-- The state at given counts, `k` tiles into the current pass. -/
def StK (c : Dev nD) (κ : Act → ℕ) (k : ℕ) : sProp 𝕄 :=
  iprop((Ctx m ∗ owesS c (paid κ)) ∗ Win m c ∗ (bigSep Finset.univ fun d => DirSt m c κ d)
    ∗ Tiles m c (κ .loop) k (κ .fin) (κ .ostart) (κ .owait))

abbrev St (c : Dev nD) (n k : ℕ) : sProp 𝕄 := StK m c (cnt n) k

/-! ## Taking the state apart -/

def ofDir : Act → Option Dir
  | .send d _ | .recv d _ | .swait d _ | .spend d | .sig d | .cwait d => some d
  | _ => none

theorem dirSt_congr (c : Dev nD) {κ κ' : Act → ℕ} (d : Dir) (h : ∀ a, ofDir a = some d → κ a = κ' a) : DirSt m c κ d = DirSt m c κ' d := by
  unfold DirSt laneOf freed
  rw [h (.sig d) rfl, h (.cwait d) rfl, h (.spend d) rfl,
    show (fun p => Lane m c d p (κ (.recv d p)) (κ (.send d p)) (κ (.swait d p)) (κ' (.spend d) + κ' (.sig d)) (3 + κ' (.cwait d)))
      = (fun p => Lane m c d p (κ' (.recv d p)) (κ' (.send d p)) (κ' (.swait d p)) (κ' (.spend d) + κ' (.sig d)) (3 + κ' (.cwait d)))
      from funext fun p => by rw [h (.recv d p) rfl, h (.send d p) rfl, h (.swait d p) rfl]]

def pays : Act → ℕ | .send _ _ | .sig _ => 1 | _ => 0
theorem paid_succ {n : ℕ} {a : Act} (hs : script[n]? = some a) : paid (cnt (n + 1)) = paid (cnt n) + pays a := by
  unfold paid
  simp only [cnt_succ hs]
  cases a with
  | send d p => cases d <;> cases p <;> simp [pays] <;> omega
  | sig d => cases d <;> simp [pays] <;> omega
  | _ => simp [pays]

/-- One direction's part. -/
theorem st_dir (c : Dev nD) (d : Dir) {κ κ' : Act → ℕ} {k : ℕ} (h : ∀ a, ofDir a ≠ some d → κ' a = κ a) :
    StK m c κ k ⊢ iprop((Ctx m ∗ owesS c (paid κ) ∗ DirSt m c κ d) ∗ ((owesS c (paid κ') ∗ DirSt m c κ' d) -∗ StK m c κ' k)) := by
  unfold StK
  rw [h .loop (by simp [ofDir]), h .fin (by simp [ofDir]), h .ostart (by simp [ofDir]), h .owait (by simp [ofDir])]
  iintro ⟨⟨#HC, HO⟩, HW, HD, HT⟩
  ihave HD := (bs_upd (Finset.mem_univ d) (fun d => DirSt m c κ d) (fun d => DirSt m c κ' d)
    (fun d' hd' => dirSt_congr m c d' fun a ha => (h a (by rw [ha]; intro e; exact hd' (Option.some.inj e))).symm)) $$ HD
  icases HD with ⟨H, Hb⟩
  isplitl [HO H]
  · isplitr; · iexact HC
    isplitl [HO] <;> iassumption
  iintro ⟨HO, H⟩
  ihave HD := Hb $$ H
  isplitl [HO]
  · isplitr; · iexact HC
    iexact HO
  isplitl [HW]; · iexact HW
  isplitl [HD] <;> iassumption

/-- One lane's part. -/
theorem st_lane (c : Dev nD) (d : Dir) (p : Pc) {κ κ' : Act → ℕ} {k : ℕ}
    (h : ∀ a, a ≠ .send d p → a ≠ .recv d p → a ≠ .swait d p → κ' a = κ a) :
    StK m c κ k ⊢ iprop((Ctx m ∗ owesS c (paid κ) ∗ laneOf m c κ d p) ∗ ((owesS c (paid κ') ∗ laneOf m c κ' d p) -∗ StK m c κ' k)) := by
  refine (st_dir m c d (κ' := κ') fun a ha => h a (by rintro rfl; exact ha rfl) (by rintro rfl; exact ha rfl) (by rintro rfl; exact ha rfl)).trans ?_
  unfold DirSt
  rw [h (.sig d) (by simp) (by simp) (by simp), h (.cwait d) (by simp) (by simp) (by simp)]
  iintro ⟨⟨#HC, HO, HL, Hc⟩, Hk⟩
  ihave HL := (bs_upd (Finset.mem_univ p) (fun p => laneOf m c κ d p) (fun p => laneOf m c κ' d p) (fun p' hp' => by
    unfold laneOf freed
    rw [h (.sig d) (by simp) (by simp) (by simp), h (.cwait d) (by simp) (by simp) (by simp), h (.spend d) (by simp) (by simp) (by simp),
      h (.send d p') (by simp [hp']) (by simp) (by simp), h (.recv d p') (by simp) (by simp [hp']) (by simp), h (.swait d p') (by simp) (by simp) (by simp [hp'])])) $$ HL
  icases HL with ⟨H, Hb⟩
  isplitl [HO H]
  · isplitr; · iexact HC
    isplitl [HO] <;> iassumption
  iintro ⟨HO, H⟩
  ihave HL := Hb $$ H
  iapply Hk
  isplitl [HO]; · iexact HO
  isplitl [HL] <;> iassumption

/-- The tiles' part. -/
theorem st_tiles (c : Dev nD) {κ κ' : Act → ℕ} {k k' : ℕ} (h : ∀ a, ofDir a ≠ none → κ' a = κ a) :
    StK m c κ k ⊢ iprop((Ctx m ∗ owesS c (paid κ) ∗ Tiles m c (κ .loop) k (κ .fin) (κ .ostart) (κ .owait))
      ∗ ((owesS c (paid κ') ∗ Tiles m c (κ' .loop) k' (κ' .fin) (κ' .ostart) (κ' .owait)) -∗ StK m c κ' k')) := by
  unfold StK
  rw [show (fun d => DirSt m c κ' d) = (fun d => DirSt m c κ d) from funext fun d => dirSt_congr m c d fun a ha => h a (by rw [ha]; simp)]
  iintro ⟨⟨#HC, HO⟩, HW, HD, HT⟩
  isplitl [HO HT]
  · isplitr; · iexact HC
    isplitl [HO] <;> iassumption
  iintro ⟨HO, HT⟩
  isplitl [HO]
  · isplitr; · iexact HC
    iexact HO
  isplitl [HW]; · iexact HW
  isplitl [HD] <;> iassumption

/-- A step taken with part of the state. -/
theorem st_via {S S' R R' P K : sProp 𝕄} (h1 : S ⊢ iprop(R ∗ (R' -∗ S'))) (h2 : R ⊢ iprop((R' -∗ K) -∗ P)) (h3 : S' ⊢ K) : S ⊢ P := by
  refine h1.trans ?_
  iintro ⟨HR, Hb⟩
  iapply h2 $$ HR
  iintro HR
  ihave H := Hb $$ HR
  iapply h3 $$ H

/-! ## The steps -/
section Steps
variable {α : Type} {Q : α → sProp (MT nD τ sig ℕ (Elt F) ℕ UU ℕ)}

section Unit
variable {k : PUnit.{1} → Prog (TpuEff nD τ sig (Elt F) Λ₀ .tc) α} (c : Dev nD) {n kk : ℕ}

theorem st_send (d : Dir) (p : Pc) (h : ℕ) (hs : script[n]? = some (.send d p) := by decide +kernel) (hh : cnt n (.send d p) = h := by decide +kernel)
    {dev : Dev nD → Dev nD} (hn : ∀ c, dev c = dn d c := by decide +kernel) {src dst : Memref sig .tc .vmem p.shape .fp8e5m2} {sS sR : DmaSem sig}
    (hsrc' : src = bufM d p h := by rfl) (hd : dst = slotM d p (sl h) := by rfl) (hsS : sS = sSem d p h := by rfl) (hsR : sR = rSem d p h := by rfl)
    {hsc : dst.view.ref.isScScratch = false} {hsrc : src.view.WordExact} {hdst : dst.view.WordExact}
    {hsem : DmaTarget.Typed .vmem (.dma sR) (.remote (Dev.tc (dev c) : Thread nD τ) dst (.dma sS) hsc)}
    (K : St m c (n + 1) kk ⊢ wp frame (wpE (defs₀ (F := F)) 𝒱₀ (c : Thread nD τ) none) Set.univ (k ⟨⟩) Q) :
    St m c n kk ⊢ wp frame (wpE (defs₀ (F := F)) 𝒱₀ (c : Thread nD τ) none) Set.univ
      (.op (.enqueueDma src (.remote (Dev.tc (dev c) : Thread nD τ) dst (.dma sS) hsc) (.dma sR) hsrc hdst hsem) k) Q := by
  obtain ⟨h1, h2, h3, h4, h5, h6⟩ := ok_at hs
  subst hh
  refine st_via ((st_lane m c d p (κ' := cnt (n + 1)) fun a h _ _ => cnt_ne hs h).trans ?_)
    (step_send m c d p (cnt n (.send d p)) (paid (cnt n)) h4 h6 (dev c) (hn c) hsrc' hd hsS hsR) K
  unfold laneOf freed
  rw [cnt_eq hs, paid_succ hs, cnt_ne hs (b := .recv d p) (by simp), cnt_ne hs (b := .swait d p) (by simp), cnt_ne hs (b := .spend d) (by simp),
    cnt_ne hs (b := .sig d) (by simp), cnt_ne hs (b := .cwait d) (by simp)]
  iintro ⟨⟨#HC, HO, HL⟩, Hk⟩
  ihave HL := (lane_send m c d p h1 h2 h3 h4 h5) $$ HL
  icases HL with ⟨⟨Hp, Hd, Ht, Hr⟩, Hb⟩
  isplitl [HO Hp Hd Ht Hr]
  · isplitr; · iexact HC
    isplitl [HO]; · iexact HO
    isplitl [Hp]; · iexact Hp
    isplitl [Hd]; · iexact Hd
    isplitl [Ht]; · iexact Ht
    iexact Hr
  iintro ⟨Hs, HO⟩
  ihave HL := Hb $$ Hs
  iapply Hk
  isplitl [HO]; · iexact HO
  iexact HL

theorem st_recv (d : Dir) (p : Pc) (h : ℕ) (hs : script[n]? = some (.recv d p) := by decide +kernel) (hh : cnt n (.recv d p) = h := by decide +kernel)
    {src dst : Memref sig .tc .vmem p.shape .fp8e5m2} {sR : DmaSem sig}
    (hsR : sR = rSem d p h := by rfl) (hN : dst.view.dmaCredit = N p := by rfl) {hsrc : src.view.WordExact} {hdst : dst.view.WordExact}
    (K : St m c (n + 1) kk ⊢ wp frame (wpE (defs₀ (F := F)) 𝒱₀ (c : Thread nD τ) none) Set.univ (k ⟨⟩) Q) :
    St m c n kk ⊢ wp frame (wpE (defs₀ (F := F)) 𝒱₀ (c : Thread nD τ) none) Set.univ (.op (.waitDma2 sR src dst hsrc hdst) k) Q := by
  obtain ⟨h1, h2, h3, h4⟩ := ok_at hs
  subst hh
  refine st_via ((st_lane m c d p (κ' := cnt (n + 1)) fun a _ h _ => cnt_ne hs h).trans ?_)
    (step_recv m c d p (cnt n (.recv d p)) (paid (cnt n)) h1 h4 hsR hN) K
  unfold freed at h3
  unfold laneOf freed
  rw [cnt_eq hs, paid_succ hs, cnt_ne hs (b := .send d p) (by simp), cnt_ne hs (b := .swait d p) (by simp), cnt_ne hs (b := .spend d) (by simp),
    cnt_ne hs (b := .sig d) (by simp), cnt_ne hs (b := .cwait d) (by simp)]
  iintro ⟨⟨#HC, HO, HL⟩, Hk⟩
  ihave HL := (lane_recv m c d p h1 h2 h3) $$ HL
  icases HL with ⟨⟨Hp, Hd⟩, Hb⟩
  isplitl [HO Hp Hd]
  · isplitr; · iexact HC
    isplitl [HO]; · iexact HO
    isplitl [Hp] <;> iassumption
  iintro ⟨HO, Hs⟩
  ihave HL := Hb $$ Hs
  iapply Hk
  isplitl [HO]; · iexact HO
  iexact HL

theorem st_swait (d : Dir) (p : Pc) (h : ℕ) (hs : script[n]? = some (.swait d p) := by decide +kernel) (hh : cnt n (.swait d p) = h := by decide +kernel)
    {src dst : Memref sig .tc .vmem p.shape .fp8e5m2} {sS : DmaSem sig}
    (hsS : sS = sSem d p h := by rfl) (hN : dst.view.dmaCredit = N p := by rfl) {hsrc : src.view.WordExact} {hdst : dst.view.WordExact}
    (K : St m c (n + 1) kk ⊢ wp frame (wpE (defs₀ (F := F)) 𝒱₀ (c : Thread nD τ) none) Set.univ (k ⟨⟩) Q) :
    St m c n kk ⊢ wp frame (wpE (defs₀ (F := F)) 𝒱₀ (c : Thread nD τ) none) Set.univ (.op (.waitDma2 sS src dst hsrc hdst) k) Q := by
  obtain ⟨h1, h2, h3, h4⟩ := ok_at hs
  subst hh
  refine st_via ((st_lane m c d p (κ' := cnt (n + 1)) fun a _ _ h => cnt_ne hs h).trans ?_)
    (step_swait m c d p (cnt n (.swait d p)) (paid (cnt n)) h1 h4 hsS hN) K
  unfold freed at h3
  unfold laneOf freed
  rw [cnt_eq hs, paid_succ hs, cnt_ne hs (b := .send d p) (by simp), cnt_ne hs (b := .recv d p) (by simp), cnt_ne hs (b := .spend d) (by simp),
    cnt_ne hs (b := .sig d) (by simp), cnt_ne hs (b := .cwait d) (by simp)]
  iintro ⟨⟨#HC, HO, HL⟩, Hk⟩
  ihave HL := (lane_swait m c d p h2 h3) $$ HL
  icases HL with ⟨⟨Hp, Hd⟩, Hb⟩
  isplitl [HO Hp Hd]
  · isplitr; · iexact HC
    isplitl [HO]; · iexact HO
    isplitl [Hp] <;> iassumption
  iintro ⟨HO, Hs⟩
  ihave HL := Hb $$ Hs
  iapply Hk
  isplitl [HO]; · iexact HO
  iexact HL

/-- The own blocks are done with. -/
theorem st_spend (d : Dir) (hs : script[n]? = some (.spend d) := by decide +kernel) : St m c n kk ⊢ St m c (n + 1) kk := by
  obtain ⟨h1, h2, h3⟩ := ok_at hs
  refine (st_dir m c d (κ' := cnt (n + 1)) fun a ha => cnt_ne hs (by rintro rfl; exact ha rfl)).trans ?_
  rw [paid_succ hs]
  have e : DirSt m c (cnt n) d ⊢ DirSt m c (cnt (n + 1)) d := by
    unfold DirSt
    rw [cnt_ne hs (b := .sig d) (by simp), cnt_ne hs (b := .cwait d) (by simp)]
    refine BIClass.sep_mono (bigSep_mono fun p _ => ?_) BIBase.Entails.refl
    unfold laneOf freed
    rw [cnt_eq hs, cnt_ne hs (b := .send d p) (by simp), cnt_ne hs (b := .recv d p) (by simp), cnt_ne hs (b := .swait d p) (by simp),
      cnt_ne hs (b := .sig d) (by simp), cnt_ne hs (b := .cwait d) (by simp), h1, h2]
    exact lane_spend m c d p (h3 p)
  iintro ⟨⟨-, HO, HD⟩, Hk⟩
  iapply Hk
  isplitl [HO]; · iexact HO
  iapply e $$ HD

theorem st_sig (d : Dir) (h : ℕ) (hs : script[n]? = some (.sig d) := by decide +kernel) (hh : cnt n (.sig d) = h := by decide +kernel) {dev : Dev nD → Dev nD} (hn : ∀ c, dev c = up d c := by decide +kernel)
    {sem : Sem sig} (hsem : sem = crSem d := by rfl) {k' : ℕ} (hk : k' = 1 := by rfl)
    (K : St m c (n + 1) kk ⊢ wp frame (wpE (defs₀ (F := F)) 𝒱₀ (c : Thread nD τ) none) Set.univ (k ⟨⟩) Q) :
    St m c n kk ⊢ wp frame (wpE (defs₀ (F := F)) 𝒱₀ (c : Thread nD τ) none) Set.univ (.op (.semSignal (Dev.tc (dev c) : Thread nD τ) sem k') k) Q := by
  obtain ⟨h1, h2, h3, h4⟩ := ok_at hs
  subst hh
  refine st_via ((st_dir m c d (κ' := cnt (n + 1)) fun a ha => cnt_ne hs (by rintro rfl; exact ha rfl)).trans ?_)
    (step_sig m c d (cnt n (.sig d)) (paid (cnt n)) h1 h3 (dev c) (hn c) hsem hk (a := 0)) K
  have hl : ∀ p : Pc, laneOf m c (cnt n) d p
      ⊢ iprop((slotAny c d p (sl (cnt n (.sig d))) ∗ reached ER (rCell c d p (cnt n (.sig d) + 3)) ((cnt n (.sig d) + 3) / 3)) ∗ laneOf m c (cnt (n + 1)) d p) := by
    intro p
    obtain ⟨a1, a2, a3⟩ := h4 p
    have e : laneOf m c (cnt (n + 1)) d p = Lane m c d p (cnt n (.recv d p)) (cnt n (.send d p)) (cnt n (.swait d p)) (cnt n (.sig d) + 1 + 1) (3 + cnt n (.cwait d)) := by
      have h2' : cnt n (.spend d) = 1 := by unfold freed at h2; omega
      unfold laneOf freed
      rw [cnt_eq hs, cnt_ne hs (b := .send d p) (by simp), cnt_ne hs (b := .recv d p) (by simp), cnt_ne hs (b := .swait d p) (by simp),
        cnt_ne hs (b := .spend d) (by simp), cnt_ne hs (b := .cwait d) (by simp), h2', Nat.add_comm 1]
    rw [e]
    unfold laneOf; rw [h2]
    refine (lane_free m c d p a1 a2 (by omega)).trans ?_
    iintro ⟨Hp, HL⟩
    ihave HL := (lane_reached m c d p (j := cnt n (.sig d) + 3) a3 (by omega)) $$ HL
    icases HL with ⟨Hr, HL⟩
    isplitl [Hp Hr]
    · isplitl [Hp]
      · iapply (piece_slot m c d p (cnt n (.sig d))) $$ Hp
      iexact Hr
    iexact HL
  have hb : (bigSep Finset.univ fun p => laneOf m c (cnt n) d p)
      ⊢ iprop(((bigSep Finset.univ fun p => slotAny c d p (sl (cnt n (.sig d))))
        ∗ (bigSep Finset.univ fun p => reached ER (rCell c d p (cnt n (.sig d) + 3)) ((cnt n (.sig d) + 3) / 3)))
        ∗ (bigSep Finset.univ fun p => laneOf m c (cnt (n + 1)) d p)) := by
    refine (bigSep_mono fun p _ => hl p).trans ?_
    refine (Entails.of_eq (bigSep_sep _ _ _)).trans ?_
    exact BIClass.sep_mono (Entails.of_eq (bigSep_sep _ _ _)) BIBase.Entails.refl
  unfold DirSt Cr
  rw [cnt_eq hs, paid_succ hs, cnt_ne hs (b := .cwait d) (by simp), bigSep_Ico_succ_bot h1 (fun i => sigR c d i)]
  iintro ⟨⟨#HC, HO, HL, ⟨Hs, Hs'⟩, #Hf, #Hcr, Hca, Hcw⟩, Hk⟩
  ihave HL := hb $$ HL
  icases HL with ⟨⟨Hp, Hr⟩, HL⟩
  isplitl [HO Hs Hp Hr]
  · isplitr; · iexact HC
    isplitl [HO]; · iexact HO
    isplitl [Hs]; · iexact Hs
    isplitl [Hp]; · iexact Hp
    isplitl [Hr]; · iexact Hr
    isplitr; · iexact Hcr
    iexact Hf
  iintro ⟨HO, Hf'⟩
  iapply Hk
  isplitl [HO]; · iexact HO
  isplitl [HL]; · iexact HL
  isplitl [Hs']; · iexact Hs'
  isplitl [Hf']; · iexact Hf'
  isplitr; · iexact Hcr
  isplitl [Hca] <;> iassumption

theorem st_cwait (d : Dir) (h : ℕ) (hs : script[n]? = some (.cwait d) := by decide +kernel) (hh : cnt n (.cwait d) = h := by decide +kernel)
    {sem : Sem sig} (hsem : sem = crSem d := by rfl) {k' : ℕ} (hk : k' = 1 := by rfl)
    (K : St m c (n + 1) kk ⊢ wp frame (wpE (defs₀ (F := F)) 𝒱₀ (c : Thread nD τ) none) Set.univ (k ⟨⟩) Q) :
    St m c n kk ⊢ wp frame (wpE (defs₀ (F := F)) 𝒱₀ (c : Thread nD τ) none) Set.univ (.op (.semWait sem k') k) Q := by
  obtain ⟨h1, h2, h3⟩ := ok_at hs
  subst hh
  refine st_via ((st_dir m c d (κ' := cnt (n + 1)) fun a ha => cnt_ne hs (by rintro rfl; exact ha rfl)).trans ?_)
    (step_cwait m c d (cnt n (.cwait d)) (paid (cnt n)) h1 h2 hsem hk) K
  have hl : ∀ p : Pc, iprop(dstP c d p (cnt n (.cwait d) + 3) ∗ laneOf m c (cnt n) d p) ⊢ laneOf m c (cnt (n + 1)) d p := by
    intro p
    unfold laneOf freed
    rw [cnt_eq hs, cnt_ne hs (b := .send d p) (by simp), cnt_ne hs (b := .recv d p) (by simp), cnt_ne hs (b := .swait d p) (by simp),
      cnt_ne hs (b := .spend d) (by simp), cnt_ne hs (b := .sig d) (by simp), Nat.add_comm (cnt n (.cwait d)) 3]
    exact lane_grant m c d p (h3 p)
  have hb : iprop((bigSep Finset.univ fun p => dstP c d p (cnt n (.cwait d) + 3)) ∗ (bigSep Finset.univ fun p => laneOf m c (cnt n) d p))
      ⊢ (bigSep Finset.univ fun p => laneOf m c (cnt (n + 1)) d p) :=
    (Entails.of_eq (bigSep_sep _ _ _).symm).trans (bigSep_mono fun p _ => hl p)
  unfold DirSt Cr
  rw [cnt_eq hs, paid_succ hs, cnt_ne hs (b := .sig d) (by simp), bigSep_Ico_succ_bot h1 (fun i => cwR c d i)]
  iintro ⟨⟨#HC, HO, HL, Hs, Hf, Hcr, Hca, Hcw, Hcw'⟩, Hk⟩
  isplitl [HO Hca Hcw]
  · isplitr; · iexact HC
    isplitl [HO]; · iexact HO
    isplitl [Hca] <;> iassumption
  iintro ⟨HO, Hca, Hd⟩
  iapply Hk
  isplitl [HO]; · iexact HO
  isplitl [HL Hd]
  · iapply hb
    isplitl [Hd] <;> iassumption
  isplitl [Hs]; · iexact Hs
  isplitl [Hf]; · iexact Hf
  isplitl [Hcr]; · iexact Hcr
  isplitl [Hca] <;> iassumption

theorem st_ostart (t : ℕ) (hs : script[n]? = some .ostart := by decide +kernel) (hh : cnt n .ostart = t := by decide +kernel) {src : Memref sig .tc .vmem S512x2048 .f32} {dst : Memref sig .tc .hbm S512x2048 .f32} {sS : DmaSem sig}
    (hs' : src = accTM (tl t) := by rfl) (hd : dst = outTM (tl t) := by rfl) (hsS : sS = oSem (fo t) := by rfl)
    {hsrc : src.view.WordExact} {hdst : dst.view.WordExact} {hsem : DmaTarget.Typed (nD := nD) (p := (Proc.tc : Proc τ)) .vmem (.dma sS) (.here dst)}
    (K : St m c (n + 1) kk ⊢ wp frame (wpE (defs₀ (F := F)) 𝒱₀ (c : Thread nD τ) none) Set.univ (k ⟨⟩) Q) :
    St m c n kk ⊢ wp frame (wpE (defs₀ (F := F)) 𝒱₀ (c : Thread nD τ) none) Set.univ (.op (.enqueueDma src (.here dst) (.dma sS) hsrc hdst hsem) k) Q := by
  obtain ⟨h1, h2, h3, h4⟩ := ok_at hs
  subst hh
  refine st_via ((st_tiles m c (κ' := cnt (n + 1)) (k' := kk) fun a ha => cnt_ne hs (by rintro rfl; exact ha rfl)).trans ?_)
    (step_ostart m c (cnt n .ostart) h2 hs' hd hsS) K
  rw [cnt_eq hs, paid_succ hs, cnt_ne hs (b := .loop) (by simp), cnt_ne hs (b := .fin) (by simp), cnt_ne hs (b := .owait) (by simp)]
  have e := tiles_ostart m c (j := cnt n .loop) (k := kk) (n := cnt n .fin) (a := cnt n .ostart) (b := cnt n .owait) h1 h2 h3 h4
  unfold oCred at e
  iintro ⟨⟨#HC, HO, HT⟩, Hk⟩
  ihave HT := e $$ HT
  icases HT with ⟨H, Hb⟩
  isplitl [H]
  · isplitr; · iexact HC
    iexact H
  iintro Hc
  ihave HT := Hb $$ Hc
  iapply Hk
  isplitl [HO]; · iexact HO
  iexact HT

theorem st_owait (t : ℕ) (hs : script[n]? = some .owait := by decide +kernel) (hh : cnt n .owait = t := by decide +kernel) {src : Memref sig .tc .vmem S512x2048 .f32} {dst : Memref sig .tc .hbm S512x2048 .f32} {sS : DmaSem sig}
    (hd : dst = outTM (tl t) := by rfl) (hsS : sS = oSem (fo t) := by rfl) {hsrc : src.view.WordExact} {hdst : dst.view.WordExact}
    (K : St m c (n + 1) kk ⊢ wp frame (wpE (defs₀ (F := F)) 𝒱₀ (c : Thread nD τ) none) Set.univ (k ⟨⟩) Q) :
    St m c n kk ⊢ wp frame (wpE (defs₀ (F := F)) 𝒱₀ (c : Thread nD τ) none) Set.univ (.op (.waitDma2 sS src dst hsrc hdst) k) Q := by
  obtain ⟨h1, h2, h3⟩ := ok_at hs
  subst hh
  refine st_via ((st_tiles m c (κ' := cnt (n + 1)) (k' := kk) fun a ha => cnt_ne hs (by rintro rfl; exact ha rfl)).trans ?_)
    (step_owait m c (cnt n .owait) (paid (cnt n)) h2 h3 hd hsS) K
  rw [cnt_eq hs, paid_succ hs, cnt_ne hs (b := .loop) (by simp), cnt_ne hs (b := .fin) (by simp), cnt_ne hs (b := .ostart) (by simp)]
  have e := tiles_owait m c (j := cnt n .loop) (k := kk) (n := cnt n .fin) (a := cnt n .ostart) (b := cnt n .owait) h1
  unfold oCred at e
  iintro ⟨⟨#HC, HO, HT⟩, Hk⟩
  ihave HT := e $$ HT
  icases HT with ⟨⟨Hc, Ha⟩, Hb⟩
  isplitl [HO Hc Ha]
  · isplitr; · iexact HC
    isplitl [HO]; · iexact HO
    isplitl [Hc] <;> iassumption
  iintro ⟨HO, Hp⟩
  ihave HT := Hb $$ Hp
  iapply Hk
  isplitl [HO]; · iexact HO
  iexact HT

/-- A pass done. -/
theorem st_next (hs : script[n]? = some .loop := by decide +kernel) : St m c n 8 ⊢ St m c (n + 1) 0 := by
  refine (st_tiles m c (κ' := cnt (n + 1)) (k' := 0) fun a ha => cnt_ne hs (by rintro rfl; exact ha rfl)).trans ?_
  rw [cnt_eq hs, paid_succ hs, cnt_ne hs (b := .fin) (by simp), cnt_ne hs (b := .ostart) (by simp), cnt_ne hs (b := .owait) (by simp)]
  iintro ⟨⟨-, HO, HT⟩, Hk⟩
  iapply Hk
  isplitl [HO]; · iexact HO
  iapply (tiles_next m c _ _ _ _) $$ HT

end Unit
end Steps

end Cert.KernelIdealPf

end
-- ==== Proof.KernelIdealReads.lean ====
/-
# Loads and stores between two steps

Within a pass, and while a tile is being finished, the program loads pieces and running sums and stores the new sums.
The loads leave the state as it is.
-/
module

public import proofs.«01_k».proof.Proof.KernelIdealState

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

section Steps
variable {α : Type} {Q : α → sProp (MT nD τ sig ℕ (Elt F) ℕ UU ℕ)} (c : Dev nD) {n kk : ℕ}

/-- A piece still there. -/
theorem st_piece (d : Dir) (p : Pc) (i : ℕ) (h : freed (cnt n) d ≤ i) (h' : i ≤ cnt n (.recv d p)) :
    St m c n kk ⊢ iprop(piece m c d p i fullShare.right ∗ (piece m c d p i fullShare.right -∗ St m c n kk)) := by
  refine (st_lane m c d p (κ' := cnt n) fun a _ _ _ => rfl).trans ?_
  have e : laneOf m c (cnt n) d p ⊢ iprop(piece m c d p i fullShare.right ∗ (piece m c d p i fullShare.right -∗ laneOf m c (cnt n) d p)) := by
    unfold laneOf; exact lane_read m c d p h h'
  iintro ⟨⟨-, HO, HL⟩, Hk⟩
  ihave HL := e $$ HL
  icases HL with ⟨Hp, Hb⟩
  isplitl [Hp]; · iexact Hp
  iintro Hp
  iapply Hk
  isplitl [HO]; · iexact HO
  iapply Hb $$ Hp

/-- The direction of pass `j`. -/
abbrev dj (j : ℕ) : Dir := if j % 2 = 0 then .cw else .ccw

theorem loop_piece (j : ℕ) (hs : script[n]? = some .loop) (hj : cnt n .loop = j) (p : Pc) :
    St m c n kk ⊢ iprop(piece m c (dj j) p (j / 2) fullShare.right ∗ (piece m c (dj j) p (j / 2) fullShare.right -∗ St m c n kk)) := by
  obtain ⟨-, -, -, h⟩ := ok_at hs
  subst hj
  exact st_piece m c _ p _ (h p).1 (h p).2

/-- Pass `j` of the first two reads the own blocks, … -/
theorem st_ownx (j : ℕ) (hs : script[n]? = some .loop := by decide +kernel) (hj : cnt n .loop = j := by decide +kernel) (h0 : j / 2 = 0) (t : Fin 8) {off : Fin 2 → ℕ} (hoff : off = ![512 * t.val, 0] := by rfl)
    {inb : ∀ a, off a + S512x256.size a ≤ S4096x256.size a} {M : Memref sig .tc .vmem S4096x256 .fp8e5m2} (hM : M = oxM (dj j) := by rfl)
    {hl : M.view.LoadsAt (Rect.unit (s := S4096x256) off S512x256.size inb)} {k : (S512x256.Idx → Elt F .fp8e5m2) → Prog (TpuEff nD τ sig (Elt F) Λ₀ .tc) α}
    (K : St m c n kk ⊢ wp frame (wpE (defs₀ (F := F)) 𝒱₀ (c : Thread nD τ) none) Set.univ (k (xT m (dj j) c t)) Q) :
    St m c n kk ⊢ wp frame (wpE (defs₀ (F := F)) 𝒱₀ (c : Thread nD τ) none) Set.univ (.op (.load M (Rect.unit (s := S4096x256) off S512x256.size inb).toLoadRect hl) k) Q := by
  have e := loop_piece m c (kk := kk) j hs hj (xp t.val)
  rw [h0] at e
  exact st_via e (step_ownx m c (dj j) t hoff hM) K

theorem st_ownw (j : ℕ) (hs : script[n]? = some .loop := by decide +kernel) (hj : cnt n .loop = j := by decide +kernel) (h0 : j / 2 = 0)
    {inb : ∀ a, (![0, 0] : Fin 2 → Nat) a + S256x2048.size a ≤ S256x2048.size a} {M : Memref sig .tc .vmem S256x2048 .fp8e5m2} (hM : M = owM (dj j) := by rfl)
    {hl : M.view.LoadsAt (Rect.unit (s := S256x2048) ![0, 0] S256x2048.size inb)} {k : (S256x2048.Idx → Elt F .fp8e5m2) → Prog (TpuEff nD τ sig (Elt F) Λ₀ .tc) α}
    (K : St m c n kk ⊢ wp frame (wpE (defs₀ (F := F)) 𝒱₀ (c : Thread nD τ) none) Set.univ (k (oW m (dj j) c)) Q) :
    St m c n kk ⊢ wp frame (wpE (defs₀ (F := F)) 𝒱₀ (c : Thread nD τ) none) Set.univ (.op (.load M (Rect.unit (s := S256x2048) ![0, 0] S256x2048.size inb).toLoadRect hl) k) Q := by
  have e := loop_piece m c (kk := kk) j hs hj .w
  rw [h0] at e
  exact st_via e (step_ownw m c (dj j) hM) K

/-- … a later one blocks that have arrived. -/
theorem st_slotx (j i : ℕ) (hs : script[n]? = some .loop := by decide +kernel) (hj : cnt n .loop = j := by decide +kernel) (hi : j / 2 = i + 1) (t : Fin 8) {off : Fin 2 → ℕ} (hoff : off = ![512 * t.val, 0] := by rfl)
    {inb : ∀ a, off a + S512x256.size a ≤ S4096x256.size a} {M : Memref sig .tc .vmem S4096x256 .fp8e5m2}
    (hM : M = ((cxM (dj j)).slice (Rect.unit (s := S3x4096x256) ![(sl i).val, 0, 0] S1x4096x256.size (inbSlotF (sl i))) (fun _ => rfl)).squeeze S4096x256 squeezes_S1x4096x256_S4096x256)
    {hl : M.view.LoadsAt (Rect.unit (s := S4096x256) off S512x256.size inb)} {k : (S512x256.Idx → Elt F .fp8e5m2) → Prog (TpuEff nD τ sig (Elt F) Λ₀ .tc) α}
    (K : St m c n kk ⊢ wp frame (wpE (defs₀ (F := F)) 𝒱₀ (c : Thread nD τ) none) Set.univ (k (xT m (dj j) (back (dj j) (j / 2) c) t)) Q) :
    St m c n kk ⊢ wp frame (wpE (defs₀ (F := F)) 𝒱₀ (c : Thread nD τ) none) Set.univ (.op (.load M (Rect.unit (s := S4096x256) off S512x256.size inb).toLoadRect hl) k) Q := by
  have e := loop_piece m c (kk := kk) j hs hj (xp t.val)
  rw [hi] at e K
  exact st_via e (step_slotx m c (dj j) i t hoff hM) K

theorem st_slotw (j i : ℕ) (hs : script[n]? = some .loop := by decide +kernel) (hj : cnt n .loop = j := by decide +kernel) (hi : j / 2 = i + 1)
    {inb : ∀ a, (![0, 0] : Fin 2 → Nat) a + S256x2048.size a ≤ S256x2048.size a} {M : Memref sig .tc .vmem S256x2048 .fp8e5m2} (hM : M = slotM (dj j) .w (sl i) := by rfl)
    {hl : M.view.LoadsAt (Rect.unit (s := S256x2048) ![0, 0] S256x2048.size inb)} {k : (S256x2048.Idx → Elt F .fp8e5m2) → Prog (TpuEff nD τ sig (Elt F) Λ₀ .tc) α}
    (K : St m c n kk ⊢ wp frame (wpE (defs₀ (F := F)) 𝒱₀ (c : Thread nD τ) none) Set.univ (k (oW m (dj j) (back (dj j) (j / 2) c))) Q) :
    St m c n kk ⊢ wp frame (wpE (defs₀ (F := F)) 𝒱₀ (c : Thread nD τ) none) Set.univ (.op (.load M (Rect.unit (s := S256x2048) ![0, 0] S256x2048.size inb).toLoadRect hl) k) Q := by
  have e := loop_piece m c (kk := kk) j hs hj .w
  rw [hi] at e K
  exact st_via e (step_slotw m c (dj j) i hM) K

/-- Finishing a tile reads the last blocks to arrive. -/
theorem st_tailx (d : Dir) (t : Fin 8) (hs : script[n]? = some .fin := by decide +kernel) (ht : cnt n .fin = t.val := by decide +kernel) {off : Fin 3 → ℕ} (hoff : off = ![(sl 6).val, 512 * t.val, 0] := by rfl)
    {inb : ∀ a, off a + S1x512x256.size a ≤ S3x4096x256.size a} {M : Memref sig .tc .vmem S3x4096x256 .fp8e5m2} (hM : M = cxM d := by rfl)
    {hl : M.view.LoadsAt (Rect.unit (s := S3x4096x256) off S1x512x256.size inb)} {k : (S1x512x256.Idx → Elt F .fp8e5m2) → Prog (TpuEff nD τ sig (Elt F) Λ₀ .tc) α}
    (K : St m c n kk ⊢ wp frame (wpE (defs₀ (F := F)) 𝒱₀ (c : Thread nD τ) none) Set.univ (k (shapeCast S1x512x256 (xT m d (back d 7 c) t) castX)) Q) :
    St m c n kk ⊢ wp frame (wpE (defs₀ (F := F)) 𝒱₀ (c : Thread nD τ) none) Set.univ (.op (.load M (Rect.unit (s := S3x4096x256) off S1x512x256.size inb).toLoadRect hl) k) Q := by
  obtain ⟨-, -, -, h⟩ := ok_at hs
  obtain ⟨h1, h2, h3, h4⟩ := h d
  rw [ht] at h4
  have hr : 7 ≤ cnt n (.recv d (xp t.val)) := by
    unfold xp
    by_cases h : t.val < 4
    · rw [if_pos h, h3]
    · rw [if_neg h, h4.resolve_left h]
  exact st_via (st_piece m c d (xp t.val) 7 h1 hr) (step_tailx m c d 6 t hoff hM) K

theorem st_tailw (d : Dir) (hs : script[n]? = some .fin := by decide +kernel) {off : Fin 3 → ℕ} (hoff : off = ![(sl 6).val, 0, 0] := by rfl)
    {inb : ∀ a, off a + S1x256x2048.size a ≤ S3x256x2048.size a} {M : Memref sig .tc .vmem S3x256x2048 .fp8e5m2} (hM : M = cwM d := by rfl)
    {hl : M.view.LoadsAt (Rect.unit (s := S3x256x2048) off S1x256x2048.size inb)} {k : (S1x256x2048.Idx → Elt F .fp8e5m2) → Prog (TpuEff nD τ sig (Elt F) Λ₀ .tc) α}
    (K : St m c n kk ⊢ wp frame (wpE (defs₀ (F := F)) 𝒱₀ (c : Thread nD τ) none) Set.univ (k (shapeCast S1x256x2048 (oW m d (back d 7 c)) castW)) Q) :
    St m c n kk ⊢ wp frame (wpE (defs₀ (F := F)) 𝒱₀ (c : Thread nD τ) none) Set.univ (.op (.load M (Rect.unit (s := S3x256x2048) off S1x256x2048.size inb).toLoadRect hl) k) Q := by
  obtain ⟨-, -, -, h⟩ := ok_at hs
  obtain ⟨h1, h2, h3, h4⟩ := h d
  exact st_via (st_piece m c d .w 7 h1 (by rw [h2])) (step_tailw m c d 6 hoff hM) K

/-! ## The running sums -/

/-- A tile's part, at a step that changes no count. -/
theorem st_hold {k' j : ℕ} (t : Fin 8) (hj : cnt n .loop = j := by decide +kernel) (ha : cnt n .ostart ≤ t.val)
    (h : ∀ u, u ≠ t.val → Hold m c j kk (cnt n .fin) u = Hold m c j k' (cnt n .fin) u) :
    St m c n kk ⊢ iprop(Hold m c j kk (cnt n .fin) t.val ∗ (Hold m c j k' (cnt n .fin) t.val -∗ St m c n k')) := by
  subst hj
  refine (st_tiles m c (κ' := cnt n) (k' := k') fun a ha => rfl).trans ?_
  have e := tiles_upd m c (j := cnt n .loop) (j' := cnt n .loop) (k := kk) (k' := k') (n := cnt n .fin) (n' := cnt n .fin) (a := cnt n .ostart) (b := cnt n .owait) ha t.isLt h
  iintro ⟨⟨-, HO, HT⟩, Hk⟩
  ihave HT := e $$ HT
  icases HT with ⟨Hp, Hb⟩
  isplitl [Hp]; · iexact Hp
  iintro Hp
  iapply Hk
  isplitl [HO]; · iexact HO
  iapply Hb $$ Hp

theorem st_acc (j : ℕ) (t : Fin 8) (hj : cnt n .loop = j := by decide +kernel) (ha : cnt n .ostart ≤ t.val) (hf : cnt n .fin ≤ t.val) (hk : kk ≤ t.val := by rfl) :
    St m c n kk ⊢ iprop(tileAcc m c t j ∗ (tileAcc m c t j -∗ St m c n kk)) := by
  refine (st_hold m c (k' := kk) t hj ha (fun _ _ => rfl)).trans ?_
  have e := hold_acc m c (j := j) (k := kk) (n := cnt n .fin) (j' := j) (k' := kk) (n' := cnt n .fin) (t := t.val)
  rw [if_neg (by omega), if_neg (by omega), tl_val] at e
  iintro ⟨H, Hb⟩
  ihave H := e $$ H
  icases H with ⟨Ha, H⟩
  isplitl [Ha]; · iexact Ha
  iintro Ha
  ihave H := H $$ Ha
  iapply Hb $$ H

/-- The first pass reads whatever the tile holds, … -/
theorem st_accld0 (hs : script[n]? = some .loop := by decide +kernel) (hj : cnt n .loop = 0 := by decide +kernel) (t : Fin 8) {off : Fin 2 → ℕ} (hoff : off = ![512 * t.val, 0] := by rfl)
    {inb : ∀ a, off a + S512x2048.size a ≤ S4096x2048.size a} {M : Memref sig .tc .vmem S4096x2048 .f32} (hM : M = accM := by rfl)
    {hl : M.view.LoadsAt (Rect.unit (s := S4096x2048) off S512x2048.size inb)} {k : (S512x2048.Idx → Elt F .f32) → Prog (TpuEff nD τ sig (Elt F) Λ₀ .tc) α}
    (K : ∀ X, St m c n t.val ⊢ wp frame (wpE (defs₀ (F := F)) 𝒱₀ (c : Thread nD τ) none) Set.univ (k X) Q) :
    St m c n t.val ⊢ wp frame (wpE (defs₀ (F := F)) 𝒱₀ (c : Thread nD τ) none) Set.univ (.op (.load M (Rect.unit (s := S4096x2048) off S512x2048.size inb).toLoadRect hl) k) Q := by
  obtain ⟨-, h1, h2, -⟩ := ok_at hs
  refine (st_acc m c (kk := t.val) 0 t hj (by omega) (by omega) le_rfl).trans ?_
  unfold tileAcc
  iintro ⟨⟨%X, H⟩, Hb⟩
  iapply (step_accld c t X hoff hM) $$ H
  iintro H
  iapply (K X)
  iapply Hb
  iexists X; iexact H

/-- … a later one the sum so far. -/
theorem st_accld (j : ℕ) (hs : script[n]? = some .loop := by decide +kernel) (hj : cnt n .loop = j + 1 := by decide +kernel) (t : Fin 8) {off : Fin 2 → ℕ} (hoff : off = ![512 * t.val, 0] := by rfl)
    {inb : ∀ a, off a + S512x2048.size a ≤ S4096x2048.size a} {M : Memref sig .tc .vmem S4096x2048 .f32} (hM : M = accM := by rfl)
    {hl : M.view.LoadsAt (Rect.unit (s := S4096x2048) off S512x2048.size inb)} {k : (S512x2048.Idx → Elt F .f32) → Prog (TpuEff nD τ sig (Elt F) Λ₀ .tc) α}
    (K : St m c n t.val ⊢ wp frame (wpE (defs₀ (F := F)) 𝒱₀ (c : Thread nD τ) none) Set.univ (k (accT m c t j)) Q) :
    St m c n t.val ⊢ wp frame (wpE (defs₀ (F := F)) 𝒱₀ (c : Thread nD τ) none) Set.univ (.op (.load M (Rect.unit (s := S4096x2048) off S512x2048.size inb).toLoadRect hl) k) Q := by
  obtain ⟨-, h1, h2, -⟩ := ok_at hs
  have e := st_acc m c (kk := t.val) (j + 1) t hj (by omega) (by omega) le_rfl
  unfold tileAcc at e
  exact st_via e (step_accld c t _ hoff hM) K

/-- The new sum of a tile. -/
theorem st_accst (j : ℕ) (hs : script[n]? = some .loop := by decide +kernel) (hj : cnt n .loop = j := by decide +kernel) (t : Fin 8) {off : Fin 2 → ℕ} (hoff : off = ![512 * t.val, 0] := by rfl)
    {inb : ∀ a, off a + S512x2048.size a ≤ S4096x2048.size a} {M : Memref sig .tc .vmem S4096x2048 .f32} (hM : M = accM := by rfl)
    {w : S512x2048.Idx → Elt F .f32} (hw : w = accT m c t j := by rfl)
    {hx : (M.access (Rect.unit (s := S4096x2048) off S512x2048.size inb)).Stores Finset.univ}
    {hm : (Finset.univ : Finset (Rect.unit (s := S4096x2048) off S512x2048.size inb).shape.Idx) = Finset.univ ∨ ∀ a, (Rect.unit (s := S4096x2048) off S512x2048.size inb).stride a = 1}
    {k : PUnit.{1} → Prog (TpuEff nD τ sig (Elt F) Λ₀ .tc) α}
    (K : St m c n (t.val + 1) ⊢ wp frame (wpE (defs₀ (F := F)) 𝒱₀ (c : Thread nD τ) none) Set.univ (k ⟨⟩) Q) :
    St m c n t.val ⊢ wp frame (wpE (defs₀ (F := F)) 𝒱₀ (c : Thread nD τ) none) Set.univ (.op (.store M (Rect.unit (s := S4096x2048) off S512x2048.size inb) w Finset.univ hx hm) k) Q := by
  obtain ⟨-, h1, h2, -⟩ := ok_at hs
  refine (st_hold m c (kk := t.val) (k' := t.val + 1) t hj (by omega) (fun u hu => by
    unfold Hold
    by_cases h : u < t.val
    · rw [if_pos h, if_pos (show u < t.val + 1 by omega)]
    · rw [if_neg h, if_neg (show ¬ u < t.val + 1 by omega)])).trans ?_
  have e := hold_acc m c (j := j) (k := t.val) (n := cnt n .fin) (j' := j) (k' := t.val + 1) (n' := cnt n .fin) (t := t.val)
  rw [if_neg (by omega), if_neg (by omega), if_neg (by omega), if_pos (by omega), tl_val] at e
  have ha : tileAcc m c t j ⊢ iprop(∃ X, ownsTc c (accTM t) fullShare X) := by
    cases j with
    | zero => exact BIBase.Entails.refl
    | succ j => unfold tileAcc; iintro H; iexists _; iexact H
  have hb : tileAcc m c t (j + 1) = ownsTc c (accTM t) fullShare (accT m c t j) := rfl
  rw [hb] at e
  iintro ⟨H, Hb⟩
  ihave H := e $$ H
  icases H with ⟨Ha, H⟩
  ihave Ha := ha $$ Ha
  icases Ha with ⟨%X, Ha⟩
  iapply (step_accst c t X _ hoff hM hw) $$ Ha
  iintro Ha
  iapply K
  ihave H := H $$ Ha
  iapply Hb $$ H

/-- Finishing a tile reads its sum, … -/
theorem st_finld (t : Fin 8) (hs : script[n]? = some .fin := by decide +kernel) (ht : cnt n .fin = t.val := by decide +kernel) (hkk : kk = 0 := by rfl) {off : Fin 2 → ℕ} (hoff : off = ![512 * t.val, 0] := by rfl)
    {inb : ∀ a, off a + S512x2048.size a ≤ S4096x2048.size a} {M : Memref sig .tc .vmem S4096x2048 .f32} (hM : M = accM := by rfl)
    {hl : M.view.LoadsAt (Rect.unit (s := S4096x2048) off S512x2048.size inb)} {k : (S512x2048.Idx → Elt F .f32) → Prog (TpuEff nD τ sig (Elt F) Λ₀ .tc) α}
    (K : St m c n kk ⊢ wp frame (wpE (defs₀ (F := F)) 𝒱₀ (c : Thread nD τ) none) Set.univ (k (accT m c t 13)) Q) :
    St m c n kk ⊢ wp frame (wpE (defs₀ (F := F)) 𝒱₀ (c : Thread nD τ) none) Set.univ (.op (.load M (Rect.unit (s := S4096x2048) off S512x2048.size inb).toLoadRect hl) k) Q := by
  obtain ⟨h1, h2, h3, -⟩ := ok_at hs
  have e := st_acc m c (kk := kk) 14 t h1 (by omega) (by omega) (by omega)
  have hb : tileAcc m c t 14 = ownsTc c (accTM t) fullShare (accT m c t 13) := rfl
  rw [hb] at e
  exact st_via e (step_accld c t _ hoff hM) K

/-- … and stores the finished tile. -/
theorem st_fin (t : Fin 8) (hs : script[n]? = some .fin := by decide +kernel) (ht : cnt n .fin = t.val := by decide +kernel) {off : Fin 2 → ℕ} (hoff : off = ![512 * t.val, 0] := by rfl)
    {inb : ∀ a, off a + S512x2048.size a ≤ S4096x2048.size a} {M : Memref sig .tc .vmem S4096x2048 .f32} (hM : M = accM := by rfl)
    {w : S512x2048.Idx → Elt F .f32} (hw : w = outT m c t := by rfl)
    {hx : (M.access (Rect.unit (s := S4096x2048) off S512x2048.size inb)).Stores Finset.univ}
    {hm : (Finset.univ : Finset (Rect.unit (s := S4096x2048) off S512x2048.size inb).shape.Idx) = Finset.univ ∨ ∀ a, (Rect.unit (s := S4096x2048) off S512x2048.size inb).stride a = 1}
    {k : PUnit.{1} → Prog (TpuEff nD τ sig (Elt F) Λ₀ .tc) α}
    (K : St m c (n + 1) 0 ⊢ wp frame (wpE (defs₀ (F := F)) 𝒱₀ (c : Thread nD τ) none) Set.univ (k ⟨⟩) Q) :
    St m c n 0 ⊢ wp frame (wpE (defs₀ (F := F)) 𝒱₀ (c : Thread nD τ) none) Set.univ (.op (.store M (Rect.unit (s := S4096x2048) off S512x2048.size inb) w Finset.univ hx hm) k) Q := by
  obtain ⟨h1, h2, h3, -⟩ := ok_at hs
  refine (st_tiles m c (κ' := cnt (n + 1)) (k' := 0) fun a ha => cnt_ne hs (by rintro rfl; exact ha rfl)).trans ?_
  rw [cnt_eq hs, paid_succ hs, cnt_ne hs (b := .loop) (by simp), cnt_ne hs (b := .ostart) (by simp), cnt_ne hs (b := .owait) (by simp), h1, ht]
  have e0 := tiles_upd m c (j := 14) (j' := 14) (k := 0) (k' := 0) (n := t.val) (n' := t.val + 1) (a := cnt n .ostart) (b := cnt n .owait) (t := t.val) (by omega) t.isLt (fun u hu => by
    unfold Hold
    by_cases h : u < t.val
    · rw [if_pos h, if_pos (show u < t.val + 1 by omega)]
    · rw [if_neg h, if_neg (show ¬ u < t.val + 1 by omega)])
  have e := hold_acc m c (j := 14) (k := 0) (n := t.val) (j' := 14) (k' := 0) (n' := t.val + 1) (t := t.val)
  rw [if_neg (by omega), if_neg (by omega), if_pos (by omega), tl_val] at e
  have hb : tileAcc m c t 14 = ownsTc c (accTM t) fullShare (accT m c t 13) := rfl
  rw [hb] at e
  iintro ⟨⟨-, HO, HT⟩, Hk⟩
  ihave HT := e0 $$ HT
  icases HT with ⟨H, Hb⟩
  ihave H := e $$ H
  icases H with ⟨Ha, H⟩
  iapply (step_accst c t _ _ hoff hM hw) $$ Ha
  iintro Ha
  iapply K
  ihave H := H $$ Ha
  iapply Hk
  isplitl [HO]; · iexact HO
  iapply Hb $$ H

/-! ## The scales -/

theorem st_win : St m c n kk ⊢ iprop(Win m c ∗ (Win m c -∗ St m c n kk)) := by
  unfold St StK
  iintro ⟨HC, HW, H⟩
  isplitl [HW]; · iexact HW
  iintro HW
  isplitl [HC]; · iexact HC
  isplitl [HW] <;> iassumption

theorem st_sx {M : Memref sig .tc .smem S1 .f32} (hM : M = sxM := by rfl)
    {inb : ∀ a, (![0] : Fin 1 → Nat) a + S1.size a ≤ S1.size a}
    {hl : M.view.LoadsAt (Rect.unit (s := S1) ![0] S1.size inb)} {k : (S1.Idx → Elt F .f32) → Prog (TpuEff nD τ sig (Elt F) Λ₀ .tc) α}
    (K : St m c n kk ⊢ wp frame (wpE (defs₀ (F := F)) 𝒱₀ (c : Thread nD τ) none) Set.univ (k ((sxM.access (Rect.unit (s := S1) ![0] S1.size inb)).read (Elt F) (sxstg m c))) Q) :
    St m c n kk ⊢ wp frame (wpE (defs₀ (F := F)) 𝒱₀ (c : Thread nD τ) none) Set.univ (.op (.load M (Rect.unit (s := S1) ![0] S1.size inb).toLoadRect hl) k) Q := by
  refine (st_win m c).trans ?_
  unfold Win
  iintro ⟨⟨H1, H2⟩, Hb⟩
  iapply (step_sx c hM (X := sxstg m c)) $$ H1
  iintro H1
  iapply K
  iapply Hb
  isplitl [H1] <;> iassumption
theorem st_sw {M : Memref sig .tc .smem S1 .f32} (hM : M = swM := by rfl)
    {inb : ∀ a, (![0] : Fin 1 → Nat) a + S1.size a ≤ S1.size a}
    {hl : M.view.LoadsAt (Rect.unit (s := S1) ![0] S1.size inb)} {k : (S1.Idx → Elt F .f32) → Prog (TpuEff nD τ sig (Elt F) Λ₀ .tc) α}
    (K : St m c n kk ⊢ wp frame (wpE (defs₀ (F := F)) 𝒱₀ (c : Thread nD τ) none) Set.univ (k ((swM.access (Rect.unit (s := S1) ![0] S1.size inb)).read (Elt F) (swstg m c))) Q) :
    St m c n kk ⊢ wp frame (wpE (defs₀ (F := F)) 𝒱₀ (c : Thread nD τ) none) Set.univ (.op (.load M (Rect.unit (s := S1) ![0] S1.size inb).toLoadRect hl) k) Q := by
  refine (st_win m c).trans ?_
  unfold Win
  iintro ⟨⟨H1, H2⟩, Hb⟩
  iapply (step_sw c hM (X := swstg m c)) $$ H2
  iintro H2
  iapply K
  iapply Hb
  isplitl [H1] <;> iassumption

end Steps

end Cert.KernelIdealPf

end
-- ==== Proof.KernelIdealLoops.lean ====
/-
# The passes over the tiles

Each of the fourteen loops adds one product to every tile of the running sum: the first two with the device's own
blocks, the others with blocks that have arrived.
-/
module

public import proofs.«01_k».proof.Proof.KernelIdealReads

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-- A part of the program, at the buffers and semaphores it runs with. -/
@[reducible] def ap {T : Type*} (f : (arg0 : Memref sig .tc .vmem S4096x512 .fp8e5m2) → arg0.IsWhole → (arg1 : Memref sig .tc .vmem S512x2048 .fp8e5m2) → arg1.IsWhole
    → (arg2 : Memref sig .tc .smem S1 .f32) → arg2.IsWhole → (arg3 : Memref sig .tc .smem S1 .f32) → arg3.IsWhole
    → (arg4 : Memref sig .tc .hbm S4096x2048 .f32) → arg4.IsWhole → (arg5 : Memref sig .tc .vmem S4096x2048 .f32) → arg5.IsWhole
    → (arg6 : Memref sig .tc .vmem S4096x256 .fp8e5m2) → arg6.IsWhole → (arg7 : Memref sig .tc .vmem S4096x256 .fp8e5m2) → arg7.IsWhole
    → (arg8 : Memref sig .tc .vmem S256x2048 .fp8e5m2) → arg8.IsWhole → (arg9 : Memref sig .tc .vmem S256x2048 .fp8e5m2) → arg9.IsWhole
    → (arg10 : Memref sig .tc .vmem S3x4096x256 .fp8e5m2) → arg10.IsWhole → (arg11 : Memref sig .tc .vmem S3x256x2048 .fp8e5m2) → arg11.IsWhole
    → (arg12 : Memref sig .tc .vmem S3x4096x256 .fp8e5m2) → arg12.IsWhole → (arg13 : Memref sig .tc .vmem S3x256x2048 .fp8e5m2) → arg13.IsWhole
    → DmaSems sig S6 → DmaSems sig S6 → DmaSems sig S3 → DmaSems sig S3 → DmaSems sig S6 → DmaSems sig S6 → DmaSems sig S3 → DmaSems sig S3
    → DmaSems sig S4 → Sems sig S_ → Sems sig S_ → T) : T :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19

section Steps
variable {α : Type} {Q : α → sProp (MT nD τ sig ℕ (Elt F) ℕ UU ℕ)} (c : Dev nD) {n : ℕ}

/-- The program is at its end. -/
theorem wp_done {P : sProp 𝕄} {a : α} (h : P ⊢ Q a) : P ⊢ wp frame (wpE (defs₀ (F := F)) 𝒱₀ (c : Thread nD τ) none) Set.univ (.ret a) Q := by
  rw [wp_ret]; exact h.trans fupd_intro

/-- A pass is its eight tiles, one after the other. -/
theorem loop_pass (hs : script[n]? = some .loop) (lp : Scf.Loop 32) (hok : lp.OK) (h8 : lp.trips = 8)
    (body : Fin lp.trips → Unit → Prog (TpuEff nD τ sig (Elt F) Λ₀ .tc) Unit) (k : Unit → Prog (TpuEff nD τ sig (Elt F) Λ₀ .tc) α)
    (hb : ∀ t acc, St m c n t.val ⊢ wp frame (wpE (defs₀ (F := F)) 𝒱₀ (c : Thread nD τ) none) Set.univ (body t acc) (fun _ => St m c n (t.val + 1)))
    (K : St m c (n + 1) 0 ⊢ wp frame (wpE (defs₀ (F := F)) 𝒱₀ (c : Thread nD τ) none) Set.univ (k ⟨⟩) Q) : St m c n 0 ⊢ wp frame (wpE (defs₀ (F := F)) 𝒱₀ (c : Thread nD τ) none) Set.univ (Scf.Loop.for lp hok ⟨⟩ body >>= k) Q := by
  have h8' : Scf.trips lp.lb lp.ub lp.st = 8 := h8
  iintro H
  iapply (Scf.wp_for_bind frame (wpE (defs₀ (F := F)) 𝒱₀ (c : Thread nD τ) none) Set.univ lp.lb lp.ub lp.st hok ⟨⟩ body (fun j _ => St m c n j) hb) $$ H
  iintro %acc H
  have e : St m c n (Scf.trips lp.lb lp.ub lp.st) ⊢ wp frame (wpE (defs₀ (F := F)) 𝒱₀ (c : Thread nD τ) none) Set.univ (k acc) Q := by rw [h8']; exact (st_next m c hs).trans K
  iapply e $$ H

/-- One tile of the first pass. -/
theorem body_first (hs : script[n]? = some .loop) (hj : cnt n .loop = 0) (t : Fin 8)
    {off off' : Fin 2 → ℕ} (hoff : off = ![512 * t.val, 0]) (hoff' : off' = ![512 * t.val, 0])
    {inb : ∀ a, off a + S512x256.size a ≤ S4096x256.size a} {inb2 : ∀ a, (![0, 0] : Fin 2 → Nat) a + S256x2048.size a ≤ S256x2048.size a}
    {inb3 : ∀ a, off' a + S512x2048.size a ≤ S4096x2048.size a}
    {M1 : Memref sig .tc .vmem S4096x256 .fp8e5m2} {M2 : Memref sig .tc .vmem S256x2048 .fp8e5m2} {M3 : Memref sig .tc .vmem S4096x2048 .f32}
    (h1 : M1 = oxM .cw) (h2 : M2 = owM .cw) (h3 : M3 = accM)
    {l1 : M1.view.LoadsAt (Rect.unit (s := S4096x256) off S512x256.size inb)} {l2 : M2.view.LoadsAt (Rect.unit (s := S256x2048) ![0, 0] S256x2048.size inb2)}
    {l3 : M3.view.LoadsAt (Rect.unit (s := S4096x2048) off' S512x2048.size inb3)}
    {hx : (M3.access (Rect.unit (s := S4096x2048) off' S512x2048.size inb3)).Stores Finset.univ}
    {hm : (Finset.univ : Finset (Rect.unit (s := S4096x2048) off' S512x2048.size inb3).shape.Idx) = Finset.univ ∨ ∀ a, (Rect.unit (s := S4096x2048) off' S512x2048.size inb3).stride a = 1} :
    St m c n t.val ⊢ wp frame (wpE (defs₀ (F := F)) 𝒱₀ (c : Thread nD τ) none) Set.univ
      (.op (.load M1 (Rect.unit (s := S4096x256) off S512x256.size inb).toLoadRect l1) fun x =>
        .op (.load M2 (Rect.unit (s := S256x2048) ![0, 0] S256x2048.size inb2).toLoadRect l2) fun w =>
        .op (.load M3 (Rect.unit (s := S4096x2048) off' S512x2048.size inb3).toLoadRect l3) fun _ =>
        .op (.store M3 (Rect.unit (s := S4096x2048) off' S512x2048.size inb3) (k0_pay6 x w) Finset.univ hx hm) fun _ => .ret ⟨⟩)
      (fun _ : Unit => St m c n (t.val + 1)) := by
  refine st_ownx m c 0 hs hj rfl t hoff h1 ?_
  refine st_ownw m c 0 hs hj rfl h2 ?_
  refine st_accld0 m c hs hj t hoff' h3 fun X => ?_
  refine st_accst m c 0 hs hj t hoff' h3 rfl ?_
  exact wp_done c BIBase.Entails.refl

/-- One tile of the second pass. -/
theorem body_second (hs : script[n]? = some .loop) (hj : cnt n .loop = 1) (t : Fin 8)
    {off off' : Fin 2 → ℕ} (hoff : off = ![512 * t.val, 0]) (hoff' : off' = ![512 * t.val, 0])
    {inb : ∀ a, off a + S512x256.size a ≤ S4096x256.size a} {inb2 : ∀ a, (![0, 0] : Fin 2 → Nat) a + S256x2048.size a ≤ S256x2048.size a}
    {inb3 : ∀ a, off' a + S512x2048.size a ≤ S4096x2048.size a}
    {M1 : Memref sig .tc .vmem S4096x256 .fp8e5m2} {M2 : Memref sig .tc .vmem S256x2048 .fp8e5m2} {M3 : Memref sig .tc .vmem S4096x2048 .f32}
    (h1 : M1 = oxM .ccw) (h2 : M2 = owM .ccw) (h3 : M3 = accM)
    {l1 : M1.view.LoadsAt (Rect.unit (s := S4096x256) off S512x256.size inb)} {l2 : M2.view.LoadsAt (Rect.unit (s := S256x2048) ![0, 0] S256x2048.size inb2)}
    {l3 l4 : M3.view.LoadsAt (Rect.unit (s := S4096x2048) off' S512x2048.size inb3)}
    {hx : (M3.access (Rect.unit (s := S4096x2048) off' S512x2048.size inb3)).Stores Finset.univ}
    {hm : (Finset.univ : Finset (Rect.unit (s := S4096x2048) off' S512x2048.size inb3).shape.Idx) = Finset.univ ∨ ∀ a, (Rect.unit (s := S4096x2048) off' S512x2048.size inb3).stride a = 1} :
    St m c n t.val ⊢ wp frame (wpE (defs₀ (F := F)) 𝒱₀ (c : Thread nD τ) none) Set.univ
      (.op (.load M1 (Rect.unit (s := S4096x256) off S512x256.size inb).toLoadRect l1) fun x =>
        .op (.load M2 (Rect.unit (s := S256x2048) ![0, 0] S256x2048.size inb2).toLoadRect l2) fun w =>
        .op (.load M3 (Rect.unit (s := S4096x2048) off' S512x2048.size inb3).toLoadRect l3) fun a =>
        .op (.load M3 (Rect.unit (s := S4096x2048) off' S512x2048.size inb3).toLoadRect l4) fun _ =>
        .op (.store M3 (Rect.unit (s := S4096x2048) off' S512x2048.size inb3) (k0_pay7 x w a) Finset.univ hx hm) fun _ => .ret ⟨⟩)
      (fun _ : Unit => St m c n (t.val + 1)) := by
  refine st_ownx m c 1 hs hj rfl t hoff h1 ?_
  refine st_ownw m c 1 hs hj rfl h2 ?_
  refine st_accld m c 0 hs hj t hoff' h3 ?_
  refine st_accld m c 0 hs hj t hoff' h3 ?_
  refine st_accst m c 1 hs hj t hoff' h3 rfl ?_
  exact wp_done c BIBase.Entails.refl

/-- One tile of a later pass. -/
theorem body_slot (j i : ℕ) (hs : script[n]? = some .loop) (hj : cnt n .loop = j + 1) (hi : (j + 1) / 2 = i + 1) (t : Fin 8)
    {off off' : Fin 2 → ℕ} (hoff : off = ![512 * t.val, 0]) (hoff' : off' = ![512 * t.val, 0])
    {inb : ∀ a, off a + S512x256.size a ≤ S4096x256.size a} {inb2 : ∀ a, (![0, 0] : Fin 2 → Nat) a + S256x2048.size a ≤ S256x2048.size a}
    {inb3 : ∀ a, off' a + S512x2048.size a ≤ S4096x2048.size a}
    {M1 : Memref sig .tc .vmem S4096x256 .fp8e5m2} {M2 : Memref sig .tc .vmem S256x2048 .fp8e5m2} {M3 : Memref sig .tc .vmem S4096x2048 .f32}
    (h1 : M1 = ((cxM (dj (j + 1))).slice (Rect.unit (s := S3x4096x256) ![(sl i).val, 0, 0] S1x4096x256.size (inbSlotF (sl i))) (fun _ => rfl)).squeeze S4096x256 squeezes_S1x4096x256_S4096x256)
    (h2 : M2 = slotM (dj (j + 1)) .w (sl i)) (h3 : M3 = accM)
    {pay : (S512x256.Idx → Elt F .fp8e5m2) → (S256x2048.Idx → Elt F .fp8e5m2) → (S512x2048.Idx → Elt F .f32) → S512x2048.Idx → Elt F .f32}
    (hpay : pay = k0_pay7)
    {l1 : M1.view.LoadsAt (Rect.unit (s := S4096x256) off S512x256.size inb)} {l2 : M2.view.LoadsAt (Rect.unit (s := S256x2048) ![0, 0] S256x2048.size inb2)}
    {l3 l4 : M3.view.LoadsAt (Rect.unit (s := S4096x2048) off' S512x2048.size inb3)}
    {hx : (M3.access (Rect.unit (s := S4096x2048) off' S512x2048.size inb3)).Stores Finset.univ}
    {hm : (Finset.univ : Finset (Rect.unit (s := S4096x2048) off' S512x2048.size inb3).shape.Idx) = Finset.univ ∨ ∀ a, (Rect.unit (s := S4096x2048) off' S512x2048.size inb3).stride a = 1} :
    St m c n t.val ⊢ wp frame (wpE (defs₀ (F := F)) 𝒱₀ (c : Thread nD τ) none) Set.univ
      (.op (.load M1 (Rect.unit (s := S4096x256) off S512x256.size inb).toLoadRect l1) fun x =>
        .op (.load M2 (Rect.unit (s := S256x2048) ![0, 0] S256x2048.size inb2).toLoadRect l2) fun w =>
        .op (.load M3 (Rect.unit (s := S4096x2048) off' S512x2048.size inb3).toLoadRect l3) fun a =>
        .op (.load M3 (Rect.unit (s := S4096x2048) off' S512x2048.size inb3).toLoadRect l4) fun _ =>
        .op (.store M3 (Rect.unit (s := S4096x2048) off' S512x2048.size inb3) (pay x w a) Finset.univ hx hm) fun _ => .ret ⟨⟩)
      (fun _ : Unit => St m c n (t.val + 1)) := by
  subst hpay
  refine st_slotx m c (j + 1) i hs hj hi t hoff h1 ?_
  refine st_slotw m c (j + 1) i hs hj hi h2 ?_
  refine st_accld m c j hs hj t hoff' h3 ?_
  refine st_accld m c j hs hj t hoff' h3 ?_
  refine st_accst m c (j + 1) hs hj t hoff' h3 rfl ?_
  exact wp_done c BIBase.Entails.refl

theorem off1_eq : ∀ t : Fin k0_t1_loop.trips, k0_off1 t = ![512 * t.val, 0] := by decide +kernel
theorem off2_eq : ∀ t : Fin k0_t1_loop.trips, k0_off2 t = ![512 * t.val, 0] := by decide +kernel
theorem loop1 (d0 : Dev nD) (v7 : BitVec 32) (k : Unit → Prog (TpuEff nD τ sig (Elt F) Λ₀ .tc) α) (K : St m c 7 0 ⊢ wp frame (wpE (defs₀ (F := F)) 𝒱₀ (c : Thread nD τ) none) Set.univ (k ⟨⟩) Q) :
    St m c 6 0 ⊢ wp frame (wpE (defs₀ (F := F)) 𝒱₀ (c : Thread nD τ) none) Set.univ (Scf.Loop.for k0_t1_loop k0_t1_ok ⟨⟩ (ap (k0_t1_body (F := F)) d0 v7) >>= k) Q :=
  loop_pass m c (by decide +kernel) k0_t1_loop k0_t1_ok (by decide +kernel) _ k
    (fun t _ => body_first m c (by decide +kernel) (by decide +kernel) ⟨t.val, Nat.lt_of_lt_of_eq t.isLt (by decide +kernel)⟩ (off1_eq t) (off2_eq t) rfl rfl rfl) K

theorem off3_eq : ∀ t : Fin k0_t2_loop.trips, k0_off3 t = ![512 * t.val, 0] := by decide +kernel
theorem off4_eq : ∀ t : Fin k0_t2_loop.trips, k0_off4 t = ![512 * t.val, 0] := by decide +kernel
theorem loop2 (d0 : Dev nD) (v7 : BitVec 32) (k : Unit → Prog (TpuEff nD τ sig (Elt F) Λ₀ .tc) α) (K : St m c 8 0 ⊢ wp frame (wpE (defs₀ (F := F)) 𝒱₀ (c : Thread nD τ) none) Set.univ (k ⟨⟩) Q) :
    St m c 7 0 ⊢ wp frame (wpE (defs₀ (F := F)) 𝒱₀ (c : Thread nD τ) none) Set.univ (Scf.Loop.for k0_t2_loop k0_t2_ok ⟨⟩ (ap (k0_t2_body (F := F)) d0 v7) >>= k) Q :=
  loop_pass m c (by decide +kernel) k0_t2_loop k0_t2_ok (by decide +kernel) _ k
    (fun t _ => body_second m c (by decide +kernel) (by decide +kernel) ⟨t.val, Nat.lt_of_lt_of_eq t.isLt (by decide +kernel)⟩ (off3_eq t) (off4_eq t) rfl rfl rfl) K

theorem off5_eq : ∀ t : Fin k0_t3_loop.trips, k0_off5 t = ![512 * t.val, 0] := by decide +kernel
theorem off6_eq : ∀ t : Fin k0_t3_loop.trips, k0_off6 t = ![512 * t.val, 0] := by decide +kernel
theorem loop3 (d0 : Dev nD) (k : Unit → Prog (TpuEff nD τ sig (Elt F) Λ₀ .tc) α) (K : St m c 41 0 ⊢ wp frame (wpE (defs₀ (F := F)) 𝒱₀ (c : Thread nD τ) none) Set.univ (k ⟨⟩) Q) :
    St m c 40 0 ⊢ wp frame (wpE (defs₀ (F := F)) 𝒱₀ (c : Thread nD τ) none) Set.univ (Scf.Loop.for k0_t3_loop k0_t3_ok ⟨⟩ (ap (k0_t3_body (F := F)) d0) >>= k) Q :=
  loop_pass m c (by decide +kernel) k0_t3_loop k0_t3_ok (by decide +kernel) _ k
    (fun t _ => body_slot m c 1 0 (by decide +kernel) (by decide +kernel) rfl ⟨t.val, Nat.lt_of_lt_of_eq t.isLt (by decide +kernel)⟩ (off5_eq t) (off6_eq t) rfl rfl rfl rfl) K

theorem off7_eq : ∀ t : Fin k0_t4_loop.trips, k0_off7 t = ![512 * t.val, 0] := by decide +kernel
theorem off8_eq : ∀ t : Fin k0_t4_loop.trips, k0_off8 t = ![512 * t.val, 0] := by decide +kernel
theorem loop4 (d0 : Dev nD) (k : Unit → Prog (TpuEff nD τ sig (Elt F) Λ₀ .tc) α) (K : St m c 42 0 ⊢ wp frame (wpE (defs₀ (F := F)) 𝒱₀ (c : Thread nD τ) none) Set.univ (k ⟨⟩) Q) :
    St m c 41 0 ⊢ wp frame (wpE (defs₀ (F := F)) 𝒱₀ (c : Thread nD τ) none) Set.univ (Scf.Loop.for k0_t4_loop k0_t4_ok ⟨⟩ (ap (k0_t4_body (F := F)) d0) >>= k) Q :=
  loop_pass m c (by decide +kernel) k0_t4_loop k0_t4_ok (by decide +kernel) _ k
    (fun t _ => body_slot m c 2 0 (by decide +kernel) (by decide +kernel) rfl ⟨t.val, Nat.lt_of_lt_of_eq t.isLt (by decide +kernel)⟩ (off7_eq t) (off8_eq t) rfl rfl rfl rfl) K

theorem off9_eq : ∀ t : Fin k0_t5_loop.trips, k0_off9 t = ![512 * t.val, 0] := by decide +kernel
theorem off10_eq : ∀ t : Fin k0_t5_loop.trips, k0_off10 t = ![512 * t.val, 0] := by decide +kernel
theorem loop5 (d0 : Dev nD) (v5 : BitVec 32) (k : Unit → Prog (TpuEff nD τ sig (Elt F) Λ₀ .tc) α) (K : St m c 65 0 ⊢ wp frame (wpE (defs₀ (F := F)) 𝒱₀ (c : Thread nD τ) none) Set.univ (k ⟨⟩) Q) :
    St m c 64 0 ⊢ wp frame (wpE (defs₀ (F := F)) 𝒱₀ (c : Thread nD τ) none) Set.univ (Scf.Loop.for k0_t5_loop k0_t5_ok ⟨⟩ (ap (k0_t5_body (F := F)) d0 v5) >>= k) Q :=
  loop_pass m c (by decide +kernel) k0_t5_loop k0_t5_ok (by decide +kernel) _ k
    (fun t _ => body_slot m c 3 1 (by decide +kernel) (by decide +kernel) rfl ⟨t.val, Nat.lt_of_lt_of_eq t.isLt (by decide +kernel)⟩ (off9_eq t) (off10_eq t) rfl rfl rfl rfl) K

theorem off11_eq : ∀ t : Fin k0_t6_loop.trips, k0_off11 t = ![512 * t.val, 0] := by decide +kernel
theorem off12_eq : ∀ t : Fin k0_t6_loop.trips, k0_off12 t = ![512 * t.val, 0] := by decide +kernel
theorem loop6 (d0 : Dev nD) (v5 : BitVec 32) (k : Unit → Prog (TpuEff nD τ sig (Elt F) Λ₀ .tc) α) (K : St m c 66 0 ⊢ wp frame (wpE (defs₀ (F := F)) 𝒱₀ (c : Thread nD τ) none) Set.univ (k ⟨⟩) Q) :
    St m c 65 0 ⊢ wp frame (wpE (defs₀ (F := F)) 𝒱₀ (c : Thread nD τ) none) Set.univ (Scf.Loop.for k0_t6_loop k0_t6_ok ⟨⟩ (ap (k0_t6_body (F := F)) d0 v5) >>= k) Q :=
  loop_pass m c (by decide +kernel) k0_t6_loop k0_t6_ok (by decide +kernel) _ k
    (fun t _ => body_slot m c 4 1 (by decide +kernel) (by decide +kernel) rfl ⟨t.val, Nat.lt_of_lt_of_eq t.isLt (by decide +kernel)⟩ (off11_eq t) (off12_eq t) rfl rfl rfl rfl) K

theorem off13_eq : ∀ t : Fin k0_t7_loop.trips, k0_off13 t = ![512 * t.val, 0] := by decide +kernel
theorem off14_eq : ∀ t : Fin k0_t7_loop.trips, k0_off14 t = ![512 * t.val, 0] := by decide +kernel
theorem loop7 (d0 : Dev nD) (v5 : BitVec 32) (k : Unit → Prog (TpuEff nD τ sig (Elt F) Λ₀ .tc) α) (K : St m c 89 0 ⊢ wp frame (wpE (defs₀ (F := F)) 𝒱₀ (c : Thread nD τ) none) Set.univ (k ⟨⟩) Q) :
    St m c 88 0 ⊢ wp frame (wpE (defs₀ (F := F)) 𝒱₀ (c : Thread nD τ) none) Set.univ (Scf.Loop.for k0_t7_loop k0_t7_ok ⟨⟩ (ap (k0_t7_body (F := F)) d0 v5) >>= k) Q :=
  loop_pass m c (by decide +kernel) k0_t7_loop k0_t7_ok (by decide +kernel) _ k
    (fun t _ => body_slot m c 5 2 (by decide +kernel) (by decide +kernel) rfl ⟨t.val, Nat.lt_of_lt_of_eq t.isLt (by decide +kernel)⟩ (off13_eq t) (off14_eq t) rfl rfl rfl rfl) K

theorem off15_eq : ∀ t : Fin k0_t8_loop.trips, k0_off15 t = ![512 * t.val, 0] := by decide +kernel
theorem off16_eq : ∀ t : Fin k0_t8_loop.trips, k0_off16 t = ![512 * t.val, 0] := by decide +kernel
theorem loop8 (d0 : Dev nD) (v5 : BitVec 32) (k : Unit → Prog (TpuEff nD τ sig (Elt F) Λ₀ .tc) α) (K : St m c 90 0 ⊢ wp frame (wpE (defs₀ (F := F)) 𝒱₀ (c : Thread nD τ) none) Set.univ (k ⟨⟩) Q) :
    St m c 89 0 ⊢ wp frame (wpE (defs₀ (F := F)) 𝒱₀ (c : Thread nD τ) none) Set.univ (Scf.Loop.for k0_t8_loop k0_t8_ok ⟨⟩ (ap (k0_t8_body (F := F)) d0 v5) >>= k) Q :=
  loop_pass m c (by decide +kernel) k0_t8_loop k0_t8_ok (by decide +kernel) _ k
    (fun t _ => body_slot m c 6 2 (by decide +kernel) (by decide +kernel) rfl ⟨t.val, Nat.lt_of_lt_of_eq t.isLt (by decide +kernel)⟩ (off15_eq t) (off16_eq t) rfl rfl rfl rfl) K

theorem off17_eq : ∀ t : Fin k0_t9_loop.trips, k0_off17 t = ![512 * t.val, 0] := by decide +kernel
theorem off18_eq : ∀ t : Fin k0_t9_loop.trips, k0_off18 t = ![512 * t.val, 0] := by decide +kernel
theorem loop9 (d0 : Dev nD) (v5 : BitVec 32) (k : Unit → Prog (TpuEff nD τ sig (Elt F) Λ₀ .tc) α) (K : St m c 113 0 ⊢ wp frame (wpE (defs₀ (F := F)) 𝒱₀ (c : Thread nD τ) none) Set.univ (k ⟨⟩) Q) :
    St m c 112 0 ⊢ wp frame (wpE (defs₀ (F := F)) 𝒱₀ (c : Thread nD τ) none) Set.univ (Scf.Loop.for k0_t9_loop k0_t9_ok ⟨⟩ (ap (k0_t9_body (F := F)) d0 v5) >>= k) Q :=
  loop_pass m c (by decide +kernel) k0_t9_loop k0_t9_ok (by decide +kernel) _ k
    (fun t _ => body_slot m c 7 3 (by decide +kernel) (by decide +kernel) rfl ⟨t.val, Nat.lt_of_lt_of_eq t.isLt (by decide +kernel)⟩ (off17_eq t) (off18_eq t) rfl rfl rfl rfl) K

theorem off19_eq : ∀ t : Fin k0_t10_loop.trips, k0_off19 t = ![512 * t.val, 0] := by decide +kernel
theorem off20_eq : ∀ t : Fin k0_t10_loop.trips, k0_off20 t = ![512 * t.val, 0] := by decide +kernel
theorem loop10 (d0 : Dev nD) (v5 : BitVec 32) (k : Unit → Prog (TpuEff nD τ sig (Elt F) Λ₀ .tc) α) (K : St m c 114 0 ⊢ wp frame (wpE (defs₀ (F := F)) 𝒱₀ (c : Thread nD τ) none) Set.univ (k ⟨⟩) Q) :
    St m c 113 0 ⊢ wp frame (wpE (defs₀ (F := F)) 𝒱₀ (c : Thread nD τ) none) Set.univ (Scf.Loop.for k0_t10_loop k0_t10_ok ⟨⟩ (ap (k0_t10_body (F := F)) d0 v5) >>= k) Q :=
  loop_pass m c (by decide +kernel) k0_t10_loop k0_t10_ok (by decide +kernel) _ k
    (fun t _ => body_slot m c 8 3 (by decide +kernel) (by decide +kernel) rfl ⟨t.val, Nat.lt_of_lt_of_eq t.isLt (by decide +kernel)⟩ (off19_eq t) (off20_eq t) rfl rfl rfl rfl) K

theorem off21_eq : ∀ t : Fin k0_t11_loop.trips, k0_off21 t = ![512 * t.val, 0] := by decide +kernel
theorem off22_eq : ∀ t : Fin k0_t11_loop.trips, k0_off22 t = ![512 * t.val, 0] := by decide +kernel
theorem loop11 (d0 : Dev nD) (v5 : BitVec 32) (k : Unit → Prog (TpuEff nD τ sig (Elt F) Λ₀ .tc) α) (K : St m c 137 0 ⊢ wp frame (wpE (defs₀ (F := F)) 𝒱₀ (c : Thread nD τ) none) Set.univ (k ⟨⟩) Q) :
    St m c 136 0 ⊢ wp frame (wpE (defs₀ (F := F)) 𝒱₀ (c : Thread nD τ) none) Set.univ (Scf.Loop.for k0_t11_loop k0_t11_ok ⟨⟩ (ap (k0_t11_body (F := F)) d0 v5) >>= k) Q :=
  loop_pass m c (by decide +kernel) k0_t11_loop k0_t11_ok (by decide +kernel) _ k
    (fun t _ => body_slot m c 9 4 (by decide +kernel) (by decide +kernel) rfl ⟨t.val, Nat.lt_of_lt_of_eq t.isLt (by decide +kernel)⟩ (off21_eq t) (off22_eq t) rfl rfl rfl rfl) K

theorem off23_eq : ∀ t : Fin k0_t12_loop.trips, k0_off23 t = ![512 * t.val, 0] := by decide +kernel
theorem off24_eq : ∀ t : Fin k0_t12_loop.trips, k0_off24 t = ![512 * t.val, 0] := by decide +kernel
theorem loop12  (k : Unit → Prog (TpuEff nD τ sig (Elt F) Λ₀ .tc) α) (K : St m c 138 0 ⊢ wp frame (wpE (defs₀ (F := F)) 𝒱₀ (c : Thread nD τ) none) Set.univ (k ⟨⟩) Q) :
    St m c 137 0 ⊢ wp frame (wpE (defs₀ (F := F)) 𝒱₀ (c : Thread nD τ) none) Set.univ (Scf.Loop.for k0_t12_loop k0_t12_ok ⟨⟩ (ap (k0_t12_body (F := F)) ) >>= k) Q :=
  loop_pass m c (by decide +kernel) k0_t12_loop k0_t12_ok (by decide +kernel) _ k
    (fun t _ => body_slot m c 10 4 (by decide +kernel) (by decide +kernel) rfl ⟨t.val, Nat.lt_of_lt_of_eq t.isLt (by decide +kernel)⟩ (off23_eq t) (off24_eq t) rfl rfl rfl rfl) K

theorem off25_eq : ∀ t : Fin k0_t13_loop.trips, k0_off25 t = ![512 * t.val, 0] := by decide +kernel
theorem off26_eq : ∀ t : Fin k0_t13_loop.trips, k0_off26 t = ![512 * t.val, 0] := by decide +kernel
theorem loop13  (k : Unit → Prog (TpuEff nD τ sig (Elt F) Λ₀ .tc) α) (K : St m c 149 0 ⊢ wp frame (wpE (defs₀ (F := F)) 𝒱₀ (c : Thread nD τ) none) Set.univ (k ⟨⟩) Q) :
    St m c 148 0 ⊢ wp frame (wpE (defs₀ (F := F)) 𝒱₀ (c : Thread nD τ) none) Set.univ (Scf.Loop.for k0_t13_loop k0_t13_ok ⟨⟩ (ap (k0_t13_body (F := F)) ) >>= k) Q :=
  loop_pass m c (by decide +kernel) k0_t13_loop k0_t13_ok (by decide +kernel) _ k
    (fun t _ => body_slot m c 11 5 (by decide +kernel) (by decide +kernel) rfl ⟨t.val, Nat.lt_of_lt_of_eq t.isLt (by decide +kernel)⟩ (off25_eq t) (off26_eq t) rfl rfl rfl rfl) K

theorem off27_eq : ∀ t : Fin k0_t14_loop.trips, k0_off27 t = ![512 * t.val, 0] := by decide +kernel
theorem off28_eq : ∀ t : Fin k0_t14_loop.trips, k0_off28 t = ![512 * t.val, 0] := by decide +kernel
theorem loop14  (k : Unit → Prog (TpuEff nD τ sig (Elt F) Λ₀ .tc) α) (K : St m c 150 0 ⊢ wp frame (wpE (defs₀ (F := F)) 𝒱₀ (c : Thread nD τ) none) Set.univ (k ⟨⟩) Q) :
    St m c 149 0 ⊢ wp frame (wpE (defs₀ (F := F)) 𝒱₀ (c : Thread nD τ) none) Set.univ (Scf.Loop.for k0_t14_loop k0_t14_ok ⟨⟩ (ap (k0_t14_body (F := F)) ) >>= k) Q :=
  loop_pass m c (by decide +kernel) k0_t14_loop k0_t14_ok (by decide +kernel) _ k
    (fun t _ => body_slot m c 12 5 (by decide +kernel) (by decide +kernel) rfl ⟨t.val, Nat.lt_of_lt_of_eq t.isLt (by decide +kernel)⟩ (off27_eq t) (off28_eq t) rfl rfl rfl rfl) K

end Steps

end Cert.KernelIdealPf

end
-- ==== Proof.KernelIdealTail.lean ====
/-
# The end of the program

The last hop is not passed on: its blocks finish the tiles, which are copied out.
-/
module

public import proofs.«01_k».proof.Proof.KernelIdealLoops

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-- The blocks of the last hop, as the slots' buffers show them. -/
def XT (c : Dev nD) (d : Dir) (t : Fin 8) : Vec F S1x512x256 .fp8e5m2 := shapeCast S1x512x256 (xT m d (back d 7 c) t) castX
def WT (c : Dev nD) (d : Dir) : Vec F S1x256x2048 .fp8e5m2 := shapeCast S1x256x2048 (oW m d (back d 7 c)) castW

section Steps
variable (c : Dev nD)

theorem part42 {Q : (Σ' (v1033 : F .f32), Vec F S512x2048 .f32) → sProp (MT nD τ sig ℕ (Elt F) ℕ UU ℕ)}  (hK : St m c 156 0 ⊢ Q ⟨scl m c, accT m c 0 13⟩) : St m c 152 0 ⊢ wp frame (wpE (defs₀ (F := F)) 𝒱₀ (c : Thread nD τ) none) Set.univ (ap (k0_part42 (F := F)) ) Q := by
  rw [k0_part42_eq_skeleton]; unfold ap k0_part42_skel
  simp only [semSignalWord, semWaitWord, smemLoad, smemLoadElt, Prog.lift, Prog.bind_op, Prog.bind_ret, Prog.pure_eq_ret, Prog.bind_assoc]
  refine st_swait m c .cw .x1 6 (K := ?_)
  refine st_swait m c .ccw .w 6 (K := ?_)
  refine st_swait m c .ccw .x0 6 (K := ?_)
  refine st_swait m c .ccw .x1 6 (K := ?_)
  refine st_sx m c (K := ?_)
  refine st_sw m c (K := ?_)
  refine st_finld m c 0 (K := ?_)
  exact wp_done c hK

theorem part43 {Q : (Σ' (v1058 : Vec F S512x2048 .f32) (v1060 : FVec F S512x256 .fp8e5m2) (v1062 : FVec F S256x2048 .fp8e5m2), FVec F S512x2048 .f32) → sProp (MT nD τ sig ℕ (Elt F) ℕ UU ℕ)}  (hK : St m c 158 0 ⊢ Q ⟨accT m c 1 13, k0_pay22 (XT m c .cw 1), k0_pay23 (WT m c .cw), constant S512x2048 .f32 0x00000000#32⟩) : St m c 156 0 ⊢ wp frame (wpE (defs₀ (F := F)) 𝒱₀ (c : Thread nD τ) none) Set.univ (ap (k0_part43 (F := F)) (scl m c) (accT m c 0 13)) Q := by
  rw [k0_part43_eq_skeleton]; unfold ap k0_part43_skel
  simp only [semSignalWord, semWaitWord, smemLoad, smemLoadElt, Prog.lift, Prog.bind_op, Prog.bind_ret, Prog.pure_eq_ret, Prog.bind_assoc]
  refine st_tailx m c .cw 0 (K := ?_)
  refine st_tailw m c .cw (K := ?_)
  refine st_tailx m c .ccw 0 (K := ?_)
  refine st_tailw m c .ccw (K := ?_)
  refine st_finld m c 0 (K := ?_)
  refine st_fin m c 0 (K := ?_)
  refine st_ostart m c 0 (K := ?_)
  refine st_finld m c 1 (K := ?_)
  refine st_tailx m c .cw 1 (K := ?_)
  refine st_tailw m c .cw (K := ?_)
  exact wp_done c hK

theorem part44 {Q : (Σ' (v1088 : FVec F S512x2048 .f32) (v1090 : FVec F S512x256 .fp8e5m2), Vec F S1x256x2048 .fp8e5m2) → sProp (MT nD τ sig ℕ (Elt F) ℕ UU ℕ)}  (hK : St m c 160 0 ⊢ Q ⟨k0_pay25 (accT m c 2 13) (XT m c .cw 2) (WT m c .cw), k0_pay26 (XT m c .ccw 2), WT m c .ccw⟩) : St m c 158 0 ⊢ wp frame (wpE (defs₀ (F := F)) 𝒱₀ (c : Thread nD τ) none) Set.univ (ap (k0_part44 (F := F)) (scl m c) (accT m c 1 13) (k0_pay22 (XT m c .cw 1)) (k0_pay23 (WT m c .cw)) (constant S512x2048 .f32 0x00000000#32)) Q := by
  rw [k0_part44_eq_skeleton]; unfold ap k0_part44_skel
  simp only [semSignalWord, semWaitWord, smemLoad, smemLoadElt, Prog.lift, Prog.bind_op, Prog.bind_ret, Prog.pure_eq_ret, Prog.bind_assoc]
  refine st_tailx m c .ccw 1 (K := ?_)
  refine st_tailw m c .ccw (K := ?_)
  refine st_finld m c 1 (K := ?_)
  refine st_fin m c 1 (K := ?_)
  refine st_ostart m c 1 (K := ?_)
  refine st_finld m c 2 (K := ?_)
  refine st_tailx m c .cw 2 (K := ?_)
  refine st_tailw m c .cw (K := ?_)
  refine st_tailx m c .ccw 2 (K := ?_)
  refine st_tailw m c .ccw (K := ?_)
  exact wp_done c hK

theorem part45 {Q : (Σ' (v1122 : FVec F S512x2048 .f32), Vec F S512x2048 .f32) → sProp (MT nD τ sig ℕ (Elt F) ℕ UU ℕ)}  (hK : St m c 162 0 ⊢ Q ⟨k0_pay28 (scl m c) (accT m c 3 13) (XT m c .cw 3) (WT m c .cw) (XT m c .ccw 3) (WT m c .ccw), accT m c 3 13⟩) : St m c 160 0 ⊢ wp frame (wpE (defs₀ (F := F)) 𝒱₀ (c : Thread nD τ) none) Set.univ (ap (k0_part45 (F := F)) (scl m c) (k0_pay25 (accT m c 2 13) (XT m c .cw 2) (WT m c .cw)) (k0_pay26 (XT m c .ccw 2)) (WT m c .ccw)) Q := by
  rw [k0_part45_eq_skeleton]; unfold ap k0_part45_skel
  simp only [semSignalWord, semWaitWord, smemLoad, smemLoadElt, Prog.lift, Prog.bind_op, Prog.bind_ret, Prog.pure_eq_ret, Prog.bind_assoc]
  refine st_finld m c 2 (K := ?_)
  refine st_fin m c 2 (K := ?_)
  refine st_ostart m c 2 (K := ?_)
  refine st_finld m c 3 (K := ?_)
  refine st_tailx m c .cw 3 (K := ?_)
  refine st_tailw m c .cw (K := ?_)
  refine st_tailx m c .ccw 3 (K := ?_)
  refine st_tailw m c .ccw (K := ?_)
  refine st_finld m c 3 (K := ?_)
  exact wp_done c hK

theorem part46 {Q : (Σ' (v1146 : Vec F S512x2048 .f32), FVec F S512x256 .fp8e5m2) → sProp (MT nD τ sig ℕ (Elt F) ℕ UU ℕ)} (v5 : BitVec 32) (v7 : BitVec 32) (hK : St m c 166 0 ⊢ Q ⟨accT m c 4 13, k0_pay30 (XT m c .cw 4)⟩) : St m c 162 0 ⊢ wp frame (wpE (defs₀ (F := F)) 𝒱₀ (c : Thread nD τ) none) Set.univ (ap (k0_part46 (F := F)) v5 v7 (k0_pay28 (scl m c) (accT m c 3 13) (XT m c .cw 3) (WT m c .cw) (XT m c .ccw 3) (WT m c .ccw)) (accT m c 3 13)) Q := by
  rw [k0_part46_eq_skeleton]; unfold ap k0_part46_skel
  simp only [semSignalWord, semWaitWord, smemLoad, smemLoadElt, Prog.lift, Prog.bind_op, Prog.bind_ret, Prog.pure_eq_ret, Prog.bind_assoc]
  refine st_fin m c 3 (K := ?_)
  refine st_ostart m c 3 (K := ?_)
  refine st_recv m c .cw .x1 6 (K := ?_)
  refine st_recv m c .ccw .x1 6 (K := ?_)
  refine st_finld m c 4 (K := ?_)
  refine st_tailx m c .cw 4 (K := ?_)
  exact wp_done c hK

theorem part47 {Q : (Σ' (v1174 : Vec F S512x2048 .f32), FVec F S512x256 .fp8e5m2) → sProp (MT nD τ sig ℕ (Elt F) ℕ UU ℕ)}  (hK : St m c 169 0 ⊢ Q ⟨accT m c 5 13, k0_pay32 (XT m c .cw 5)⟩) : St m c 166 0 ⊢ wp frame (wpE (defs₀ (F := F)) 𝒱₀ (c : Thread nD τ) none) Set.univ (ap (k0_part47 (F := F)) (scl m c) (accT m c 4 13) (k0_pay30 (XT m c .cw 4))) Q := by
  rw [k0_part47_eq_skeleton]; unfold ap k0_part47_skel
  simp only [semSignalWord, semWaitWord, smemLoad, smemLoadElt, Prog.lift, Prog.bind_op, Prog.bind_ret, Prog.pure_eq_ret, Prog.bind_assoc]
  refine st_tailw m c .cw (K := ?_)
  refine st_tailx m c .ccw 4 (K := ?_)
  refine st_tailw m c .ccw (K := ?_)
  refine st_finld m c 4 (K := ?_)
  refine st_fin m c 4 (K := ?_)
  refine st_owait m c 0 (K := ?_)
  refine st_ostart m c 4 (K := ?_)
  refine st_finld m c 5 (K := ?_)
  refine st_tailx m c .cw 5 (K := ?_)
  exact wp_done c hK

theorem part48 {Q : (Σ' (v1202 : Vec F S512x2048 .f32), FVec F S512x256 .fp8e5m2) → sProp (MT nD τ sig ℕ (Elt F) ℕ UU ℕ)}  (hK : St m c 172 0 ⊢ Q ⟨accT m c 6 13, k0_pay34 (XT m c .cw 6)⟩) : St m c 169 0 ⊢ wp frame (wpE (defs₀ (F := F)) 𝒱₀ (c : Thread nD τ) none) Set.univ (ap (k0_part48 (F := F)) (scl m c) (accT m c 5 13) (k0_pay32 (XT m c .cw 5))) Q := by
  rw [k0_part48_eq_skeleton]; unfold ap k0_part48_skel
  simp only [semSignalWord, semWaitWord, smemLoad, smemLoadElt, Prog.lift, Prog.bind_op, Prog.bind_ret, Prog.pure_eq_ret, Prog.bind_assoc]
  refine st_tailw m c .cw (K := ?_)
  refine st_tailx m c .ccw 5 (K := ?_)
  refine st_tailw m c .ccw (K := ?_)
  refine st_finld m c 5 (K := ?_)
  refine st_fin m c 5 (K := ?_)
  refine st_owait m c 1 (K := ?_)
  refine st_ostart m c 5 (K := ?_)
  refine st_finld m c 6 (K := ?_)
  refine st_tailx m c .cw 6 (K := ?_)
  exact wp_done c hK

theorem part49 {Q : (Σ' (v1230 : Vec F S512x2048 .f32) (v1232 : FVec F S512x256 .fp8e5m2), Vec F S1x256x2048 .fp8e5m2) → sProp (MT nD τ sig ℕ (Elt F) ℕ UU ℕ)}  (hK : St m c 175 0 ⊢ Q ⟨accT m c 7 13, k0_pay36 (XT m c .cw 7), WT m c .cw⟩) : St m c 172 0 ⊢ wp frame (wpE (defs₀ (F := F)) 𝒱₀ (c : Thread nD τ) none) Set.univ (ap (k0_part49 (F := F)) (scl m c) (accT m c 6 13) (k0_pay34 (XT m c .cw 6))) Q := by
  rw [k0_part49_eq_skeleton]; unfold ap k0_part49_skel
  simp only [semSignalWord, semWaitWord, smemLoad, smemLoadElt, Prog.lift, Prog.bind_op, Prog.bind_ret, Prog.pure_eq_ret, Prog.bind_assoc]
  refine st_tailw m c .cw (K := ?_)
  refine st_tailx m c .ccw 6 (K := ?_)
  refine st_tailw m c .ccw (K := ?_)
  refine st_finld m c 6 (K := ?_)
  refine st_fin m c 6 (K := ?_)
  refine st_owait m c 2 (K := ?_)
  refine st_ostart m c 6 (K := ?_)
  refine st_finld m c 7 (K := ?_)
  refine st_tailx m c .cw 7 (K := ?_)
  refine st_tailw m c .cw (K := ?_)
  exact wp_done c hK

theorem part50 {Q : PUnit.{1} → sProp (MT nD τ sig ℕ (Elt F) ℕ UU ℕ)}  (hK : St m c 179 0 ⊢ Q ⟨⟩) : St m c 175 0 ⊢ wp frame (wpE (defs₀ (F := F)) 𝒱₀ (c : Thread nD τ) none) Set.univ (ap (k0_part50 (F := F)) (scl m c) (accT m c 7 13) (k0_pay36 (XT m c .cw 7)) (WT m c .cw)) Q := by
  rw [k0_part50_eq_skeleton]; unfold ap k0_part50_skel
  simp only [semSignalWord, semWaitWord, smemLoad, smemLoadElt, Prog.lift, Prog.bind_op, Prog.bind_ret, Prog.pure_eq_ret, Prog.bind_assoc]
  refine st_tailx m c .ccw 7 (K := ?_)
  refine st_tailw m c .ccw (K := ?_)
  refine st_finld m c 7 (K := ?_)
  refine st_fin m c 7 (K := ?_)
  refine st_owait m c 3 (K := ?_)
  refine st_ostart m c 7 (K := ?_)
  refine st_owait m c 4 (K := ?_)
  exact wp_done c hK

end Steps

end Cert.KernelIdealPf

end
-- ==== Proof.KernelIdealPartsA.lean ====
/-
# The program up to the first credits

Each part of the program takes the script from one place to a later one.
-/
module

public import proofs.«01_k».proof.Proof.KernelIdealLoops

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

section Steps
variable {Q : PUnit.{1} → sProp (MT nD τ sig ℕ (Elt F) ℕ UU ℕ)} (c : Dev nD)

theorem part3 (v5 : BitVec 32) (hK : ∀ r, St m c 6 0 ⊢ Q r) : St m c 2 0 ⊢ wp frame (wpE (defs₀ (F := F)) 𝒱₀ (c : Thread nD τ) none) Set.univ (ap (k0_part3 (F := F)) c v5) Q := by
  rw [k0_part3_eq_skeleton]; unfold ap k0_part3_skel
  simp only [semSignalWord, semWaitWord, Prog.lift, Prog.bind_op, Prog.bind_ret, Prog.pure_eq_ret, Prog.bind_assoc]
  refine st_send m c .cw .x1 0 (dev := fun c => ⟨k0_dev5 c, k0_dev5_lt c⟩) (K := ?_)
  refine st_send m c .ccw .w 0 (dev := fun c => ⟨k0_dev6 c, k0_dev6_lt c⟩) (K := ?_)
  refine st_send m c .ccw .x0 0 (dev := fun c => ⟨k0_dev7 c, k0_dev7_lt c⟩) (K := ?_)
  refine st_send m c .ccw .x1 0 (dev := fun c => ⟨k0_dev8 c, k0_dev8_lt c⟩) (K := ?_)
  exact wp_done c (hK _)

theorem part4 (v7 : BitVec 32) (hK : ∀ r, St m c 10 0 ⊢ Q r) : St m c 6 0 ⊢ wp frame (wpE (defs₀ (F := F)) 𝒱₀ (c : Thread nD τ) none) Set.univ (ap (k0_part4 (F := F)) c v7) Q := by
  rw [k0_part4_eq_skeleton]; unfold ap k0_part4_skel
  simp only [semSignalWord, semWaitWord, Prog.lift, Prog.bind_op, Prog.bind_ret, Prog.pure_eq_ret, Prog.bind_assoc]
  refine loop1 m c c v7 _ ?_
  refine loop2 m c c v7 _ ?_
  refine st_recv m c .cw .w 0 (K := ?_)
  refine st_send m c .cw .w 1 (dev := fun c => ⟨k0_dev9 c, k0_dev9_lt c⟩) (K := ?_)
  exact wp_done c (hK _)

theorem part5 (v7 : BitVec 32) (hK : ∀ r, St m c 13 0 ⊢ Q r) : St m c 10 0 ⊢ wp frame (wpE (defs₀ (F := F)) 𝒱₀ (c : Thread nD τ) none) Set.univ (ap (k0_part5 (F := F)) c v7) Q := by
  rw [k0_part5_eq_skeleton]; unfold ap k0_part5_skel
  simp only [semSignalWord, semWaitWord, Prog.lift, Prog.bind_op, Prog.bind_ret, Prog.pure_eq_ret, Prog.bind_assoc]
  refine st_recv m c .cw .x0 0 (K := ?_)
  refine st_send m c .cw .x0 1 (dev := fun c => ⟨k0_dev10 c, k0_dev10_lt c⟩) (K := ?_)
  refine st_recv m c .cw .x1 0 (K := ?_)
  exact wp_done c (hK _)

theorem part6 {Q : BitVec 32 → sProp (MT nD τ sig ℕ (Elt F) ℕ UU ℕ)} (v5 : BitVec 32) (hK : ∀ r, St m c 17 0 ⊢ Q r) : St m c 13 0 ⊢ wp frame (wpE (defs₀ (F := F)) 𝒱₀ (c : Thread nD τ) none) Set.univ (ap (k0_part6 (F := F)) c v5) Q := by
  rw [k0_part6_eq_skeleton]; unfold ap k0_part6_skel
  simp only [semSignalWord, semWaitWord, Prog.lift, Prog.bind_op, Prog.bind_ret, Prog.pure_eq_ret, Prog.bind_assoc]
  refine st_send m c .cw .x1 1 (dev := fun c => ⟨k0_dev11 c, k0_dev11_lt c⟩) (K := ?_)
  refine st_recv m c .ccw .w 0 (K := ?_)
  refine st_send m c .ccw .w 1 (dev := fun c => ⟨k0_dev12 c, k0_dev12_lt c⟩) (K := ?_)
  refine st_recv m c .ccw .x0 0 (K := ?_)
  exact wp_done c (hK _)

theorem part7 (v5 : BitVec 32) (c1_i32_165 : BitVec 32) (hK : ∀ r, St m c 20 0 ⊢ Q r) : St m c 17 0 ⊢ wp frame (wpE (defs₀ (F := F)) 𝒱₀ (c : Thread nD τ) none) Set.univ (ap (k0_part7 (F := F)) c v5 c1_i32_165) Q := by
  rw [k0_part7_eq_skeleton]; unfold ap k0_part7_skel
  simp only [semSignalWord, semWaitWord, Prog.lift, Prog.bind_op, Prog.bind_ret, Prog.pure_eq_ret, Prog.bind_assoc]
  refine st_send m c .ccw .x0 1 (dev := fun c => ⟨k0_dev13 c, k0_dev13_lt c⟩) (K := ?_)
  refine st_recv m c .ccw .x1 0 (K := ?_)
  refine st_send m c .ccw .x1 1 (dev := fun c => ⟨k0_dev14 c, k0_dev14_lt c⟩) (K := ?_)
  exact wp_done c (hK _)

theorem part8 (hK : ∀ r, St m c 25 0 ⊢ Q r) : St m c 20 0 ⊢ wp frame (wpE (defs₀ (F := F)) 𝒱₀ (c : Thread nD τ) none) Set.univ (ap (k0_part8 (F := F))) Q := by
  rw [k0_part8_eq_skeleton]; unfold ap k0_part8_skel
  simp only [semSignalWord, semWaitWord, Prog.lift, Prog.bind_op, Prog.bind_ret, Prog.pure_eq_ret, Prog.bind_assoc]
  refine st_swait m c .cw .w 0 (K := ?_)
  refine st_swait m c .cw .x0 0 (K := ?_)
  refine st_swait m c .cw .x1 0 (K := ?_)
  refine st_swait m c .ccw .w 0 (K := ?_)
  refine st_swait m c .ccw .x0 0 (K := ?_)
  exact wp_done c (hK _)

theorem part9 (v7 : BitVec 32) (hK : ∀ r, St m c 30 0 ⊢ Q r) : St m c 25 0 ⊢ wp frame (wpE (defs₀ (F := F)) 𝒱₀ (c : Thread nD τ) none) Set.univ (ap (k0_part9 (F := F)) c v7) Q := by
  rw [k0_part9_eq_skeleton]; unfold ap k0_part9_skel
  simp only [semSignalWord, semWaitWord, Prog.lift, Prog.bind_op, Prog.bind_ret, Prog.pure_eq_ret, Prog.bind_assoc]
  refine st_swait m c .ccw .x1 0 (K := ?_)
  refine BIBase.Entails.trans (st_spend m c .cw) ?_
  refine BIBase.Entails.trans (st_spend m c .ccw) ?_
  refine st_recv m c .cw .w 1 (K := ?_)
  refine st_send m c .cw .w 2 (dev := fun c => ⟨k0_dev15 c, k0_dev15_lt c⟩) (K := ?_)
  exact wp_done c (hK _)

theorem part10 (v7 : BitVec 32) (hK : ∀ r, St m c 33 0 ⊢ Q r) : St m c 30 0 ⊢ wp frame (wpE (defs₀ (F := F)) 𝒱₀ (c : Thread nD τ) none) Set.univ (ap (k0_part10 (F := F)) c v7) Q := by
  rw [k0_part10_eq_skeleton]; unfold ap k0_part10_skel
  simp only [semSignalWord, semWaitWord, Prog.lift, Prog.bind_op, Prog.bind_ret, Prog.pure_eq_ret, Prog.bind_assoc]
  refine st_recv m c .cw .x0 1 (K := ?_)
  refine st_send m c .cw .x0 2 (dev := fun c => ⟨k0_dev16 c, k0_dev16_lt c⟩) (K := ?_)
  refine st_recv m c .cw .x1 1 (K := ?_)
  exact wp_done c (hK _)

theorem part11 (v5 : BitVec 32) (hK : ∀ r, St m c 36 0 ⊢ Q r) : St m c 33 0 ⊢ wp frame (wpE (defs₀ (F := F)) 𝒱₀ (c : Thread nD τ) none) Set.univ (ap (k0_part11 (F := F)) c v5) Q := by
  rw [k0_part11_eq_skeleton]; unfold ap k0_part11_skel
  simp only [semSignalWord, semWaitWord, Prog.lift, Prog.bind_op, Prog.bind_ret, Prog.pure_eq_ret, Prog.bind_assoc]
  refine st_send m c .cw .x1 2 (dev := fun c => ⟨k0_dev17 c, k0_dev17_lt c⟩) (K := ?_)
  refine st_recv m c .ccw .w 1 (K := ?_)
  refine st_send m c .ccw .w 2 (dev := fun c => ⟨k0_dev18 c, k0_dev18_lt c⟩) (K := ?_)
  exact wp_done c (hK _)

theorem part12 (v5 : BitVec 32) (hK : ∀ r, St m c 39 0 ⊢ Q r) : St m c 36 0 ⊢ wp frame (wpE (defs₀ (F := F)) 𝒱₀ (c : Thread nD τ) none) Set.univ (ap (k0_part12 (F := F)) c v5) Q := by
  rw [k0_part12_eq_skeleton]; unfold ap k0_part12_skel
  simp only [semSignalWord, semWaitWord, Prog.lift, Prog.bind_op, Prog.bind_ret, Prog.pure_eq_ret, Prog.bind_assoc]
  refine st_recv m c .ccw .x0 1 (K := ?_)
  refine st_send m c .ccw .x0 2 (dev := fun c => ⟨k0_dev19 c, k0_dev19_lt c⟩) (K := ?_)
  refine st_recv m c .ccw .x1 1 (K := ?_)
  exact wp_done c (hK _)

theorem part13 (hK : ∀ r, St m c 44 0 ⊢ Q r) : St m c 39 0 ⊢ wp frame (wpE (defs₀ (F := F)) 𝒱₀ (c : Thread nD τ) none) Set.univ (ap (k0_part13 (F := F)) c) Q := by
  rw [k0_part13_eq_skeleton]; unfold ap k0_part13_skel
  simp only [semSignalWord, semWaitWord, Prog.lift, Prog.bind_op, Prog.bind_ret, Prog.pure_eq_ret, Prog.bind_assoc]
  refine st_send m c .ccw .x1 2 (dev := fun c => ⟨k0_dev20 c, k0_dev20_lt c⟩) (K := ?_)
  refine loop3 m c c _ ?_
  refine loop4 m c c _ ?_
  refine st_swait m c .cw .w 1 (K := ?_)
  refine st_swait m c .cw .x0 1 (K := ?_)
  exact wp_done c (hK _)

theorem part14 (hK : ∀ r, St m c 47 0 ⊢ Q r) : St m c 44 0 ⊢ wp frame (wpE (defs₀ (F := F)) 𝒱₀ (c : Thread nD τ) none) Set.univ (ap (k0_part14 (F := F))) Q := by
  rw [k0_part14_eq_skeleton]; unfold ap k0_part14_skel
  simp only [semSignalWord, semWaitWord, Prog.lift, Prog.bind_op, Prog.bind_ret, Prog.pure_eq_ret, Prog.bind_assoc]
  refine st_swait m c .cw .x1 1 (K := ?_)
  refine st_swait m c .ccw .w 1 (K := ?_)
  refine st_swait m c .ccw .x0 1 (K := ?_)
  exact wp_done c (hK _)

theorem part15 (v5 : BitVec 32) (v7 : BitVec 32) (hK : ∀ r, St m c 53 0 ⊢ Q r) : St m c 47 0 ⊢ wp frame (wpE (defs₀ (F := F)) 𝒱₀ (c : Thread nD τ) none) Set.univ (ap (k0_part15 (F := F)) c v5 v7) Q := by
  rw [k0_part15_eq_skeleton]; unfold ap k0_part15_skel
  simp only [semSignalWord, semWaitWord, Prog.lift, Prog.bind_op, Prog.bind_ret, Prog.pure_eq_ret, Prog.bind_assoc]
  refine st_swait m c .ccw .x1 1 (K := ?_)
  refine st_sig m c .cw 0 (dev := fun c => ⟨k0_dev21 c, k0_dev21_lt c⟩) (K := ?_)
  refine st_sig m c .ccw 0 (dev := fun c => ⟨k0_dev22 c, k0_dev22_lt c⟩) (K := ?_)
  refine st_cwait m c .cw 0 (K := ?_)
  refine st_cwait m c .ccw 0 (K := ?_)
  refine st_recv m c .cw .w 2 (K := ?_)
  exact wp_done c (hK _)

theorem part16 (v7 : BitVec 32) (hK : ∀ r, St m c 56 0 ⊢ Q r) : St m c 53 0 ⊢ wp frame (wpE (defs₀ (F := F)) 𝒱₀ (c : Thread nD τ) none) Set.univ (ap (k0_part16 (F := F)) c v7) Q := by
  rw [k0_part16_eq_skeleton]; unfold ap k0_part16_skel
  simp only [semSignalWord, semWaitWord, Prog.lift, Prog.bind_op, Prog.bind_ret, Prog.pure_eq_ret, Prog.bind_assoc]
  refine st_send m c .cw .w 3 (dev := fun c => ⟨k0_dev23 c, k0_dev23_lt c⟩) (K := ?_)
  refine st_recv m c .cw .x0 2 (K := ?_)
  refine st_send m c .cw .x0 3 (dev := fun c => ⟨k0_dev24 c, k0_dev24_lt c⟩) (K := ?_)
  exact wp_done c (hK _)

theorem part17 (v5 : BitVec 32) (v7 : BitVec 32) (hK : ∀ r, St m c 59 0 ⊢ Q r) : St m c 56 0 ⊢ wp frame (wpE (defs₀ (F := F)) 𝒱₀ (c : Thread nD τ) none) Set.univ (ap (k0_part17 (F := F)) c v5 v7) Q := by
  rw [k0_part17_eq_skeleton]; unfold ap k0_part17_skel
  simp only [semSignalWord, semWaitWord, Prog.lift, Prog.bind_op, Prog.bind_ret, Prog.pure_eq_ret, Prog.bind_assoc]
  refine st_recv m c .cw .x1 2 (K := ?_)
  refine st_send m c .cw .x1 3 (dev := fun c => ⟨k0_dev25 c, k0_dev25_lt c⟩) (K := ?_)
  refine st_recv m c .ccw .w 2 (K := ?_)
  exact wp_done c (hK _)

end Steps

end Cert.KernelIdealPf

end
-- ==== Proof.KernelIdealPartsB.lean ====
/-
# The program up to the last hop

Each part of the program takes the script from one place to a later one.
-/
module

public import proofs.«01_k».proof.Proof.KernelIdealLoops

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

section Steps
variable {Q : PUnit.{1} → sProp (MT nD τ sig ℕ (Elt F) ℕ UU ℕ)} (c : Dev nD)

theorem part18 (v5 : BitVec 32) (hK : ∀ r, St m c 62 0 ⊢ Q r) : St m c 59 0 ⊢ wp frame (wpE (defs₀ (F := F)) 𝒱₀ (c : Thread nD τ) none) Set.univ (ap (k0_part18 (F := F)) c v5) Q := by
  rw [k0_part18_eq_skeleton]; unfold ap k0_part18_skel
  simp only [semSignalWord, semWaitWord, Prog.lift, Prog.bind_op, Prog.bind_ret, Prog.pure_eq_ret, Prog.bind_assoc]
  refine st_send m c .ccw .w 3 (dev := fun c => ⟨k0_dev26 c, k0_dev26_lt c⟩) (K := ?_)
  refine st_recv m c .ccw .x0 2 (K := ?_)
  refine st_send m c .ccw .x0 3 (dev := fun c => ⟨k0_dev27 c, k0_dev27_lt c⟩) (K := ?_)
  exact wp_done c (hK _)

theorem part19 (v5 : BitVec 32) (hK : ∀ r, St m c 67 0 ⊢ Q r) : St m c 62 0 ⊢ wp frame (wpE (defs₀ (F := F)) 𝒱₀ (c : Thread nD τ) none) Set.univ (ap (k0_part19 (F := F)) c v5) Q := by
  rw [k0_part19_eq_skeleton]; unfold ap k0_part19_skel
  simp only [semSignalWord, semWaitWord, Prog.lift, Prog.bind_op, Prog.bind_ret, Prog.pure_eq_ret, Prog.bind_assoc]
  refine st_recv m c .ccw .x1 2 (K := ?_)
  refine st_send m c .ccw .x1 3 (dev := fun c => ⟨k0_dev28 c, k0_dev28_lt c⟩) (K := ?_)
  refine loop5 m c c v5 _ ?_
  refine loop6 m c c v5 _ ?_
  refine st_swait m c .cw .w 2 (K := ?_)
  exact wp_done c (hK _)

theorem part20 (hK : ∀ r, St m c 71 0 ⊢ Q r) : St m c 67 0 ⊢ wp frame (wpE (defs₀ (F := F)) 𝒱₀ (c : Thread nD τ) none) Set.univ (ap (k0_part20 (F := F))) Q := by
  rw [k0_part20_eq_skeleton]; unfold ap k0_part20_skel
  simp only [semSignalWord, semWaitWord, Prog.lift, Prog.bind_op, Prog.bind_ret, Prog.pure_eq_ret, Prog.bind_assoc]
  refine st_swait m c .cw .x0 2 (K := ?_)
  refine st_swait m c .cw .x1 2 (K := ?_)
  refine st_swait m c .ccw .w 2 (K := ?_)
  refine st_swait m c .ccw .x0 2 (K := ?_)
  exact wp_done c (hK _)

theorem part21 (v5 : BitVec 32) (v7 : BitVec 32) (hK : ∀ r, St m c 77 0 ⊢ Q r) : St m c 71 0 ⊢ wp frame (wpE (defs₀ (F := F)) 𝒱₀ (c : Thread nD τ) none) Set.univ (ap (k0_part21 (F := F)) c v5 v7) Q := by
  rw [k0_part21_eq_skeleton]; unfold ap k0_part21_skel
  simp only [semSignalWord, semWaitWord, Prog.lift, Prog.bind_op, Prog.bind_ret, Prog.pure_eq_ret, Prog.bind_assoc]
  refine st_swait m c .ccw .x1 2 (K := ?_)
  refine st_sig m c .cw 1 (dev := fun c => ⟨k0_dev29 c, k0_dev29_lt c⟩) (K := ?_)
  refine st_sig m c .ccw 1 (dev := fun c => ⟨k0_dev30 c, k0_dev30_lt c⟩) (K := ?_)
  refine st_cwait m c .cw 1 (K := ?_)
  refine st_cwait m c .ccw 1 (K := ?_)
  refine st_recv m c .cw .w 3 (K := ?_)
  exact wp_done c (hK _)

theorem part22 (v7 : BitVec 32) (hK : ∀ r, St m c 80 0 ⊢ Q r) : St m c 77 0 ⊢ wp frame (wpE (defs₀ (F := F)) 𝒱₀ (c : Thread nD τ) none) Set.univ (ap (k0_part22 (F := F)) c v7) Q := by
  rw [k0_part22_eq_skeleton]; unfold ap k0_part22_skel
  simp only [semSignalWord, semWaitWord, Prog.lift, Prog.bind_op, Prog.bind_ret, Prog.pure_eq_ret, Prog.bind_assoc]
  refine st_send m c .cw .w 4 (dev := fun c => ⟨k0_dev31 c, k0_dev31_lt c⟩) (K := ?_)
  refine st_recv m c .cw .x0 3 (K := ?_)
  refine st_send m c .cw .x0 4 (dev := fun c => ⟨k0_dev32 c, k0_dev32_lt c⟩) (K := ?_)
  exact wp_done c (hK _)

theorem part23 (v5 : BitVec 32) (v7 : BitVec 32) (hK : ∀ r, St m c 83 0 ⊢ Q r) : St m c 80 0 ⊢ wp frame (wpE (defs₀ (F := F)) 𝒱₀ (c : Thread nD τ) none) Set.univ (ap (k0_part23 (F := F)) c v5 v7) Q := by
  rw [k0_part23_eq_skeleton]; unfold ap k0_part23_skel
  simp only [semSignalWord, semWaitWord, Prog.lift, Prog.bind_op, Prog.bind_ret, Prog.pure_eq_ret, Prog.bind_assoc]
  refine st_recv m c .cw .x1 3 (K := ?_)
  refine st_send m c .cw .x1 4 (dev := fun c => ⟨k0_dev33 c, k0_dev33_lt c⟩) (K := ?_)
  refine st_recv m c .ccw .w 3 (K := ?_)
  exact wp_done c (hK _)

theorem part24 (v5 : BitVec 32) (hK : ∀ r, St m c 86 0 ⊢ Q r) : St m c 83 0 ⊢ wp frame (wpE (defs₀ (F := F)) 𝒱₀ (c : Thread nD τ) none) Set.univ (ap (k0_part24 (F := F)) c v5) Q := by
  rw [k0_part24_eq_skeleton]; unfold ap k0_part24_skel
  simp only [semSignalWord, semWaitWord, Prog.lift, Prog.bind_op, Prog.bind_ret, Prog.pure_eq_ret, Prog.bind_assoc]
  refine st_send m c .ccw .w 4 (dev := fun c => ⟨k0_dev34 c, k0_dev34_lt c⟩) (K := ?_)
  refine st_recv m c .ccw .x0 3 (K := ?_)
  refine st_send m c .ccw .x0 4 (dev := fun c => ⟨k0_dev35 c, k0_dev35_lt c⟩) (K := ?_)
  exact wp_done c (hK _)

theorem part25 (v5 : BitVec 32) (hK : ∀ r, St m c 90 0 ⊢ Q r) : St m c 86 0 ⊢ wp frame (wpE (defs₀ (F := F)) 𝒱₀ (c : Thread nD τ) none) Set.univ (ap (k0_part25 (F := F)) c v5) Q := by
  rw [k0_part25_eq_skeleton]; unfold ap k0_part25_skel
  simp only [semSignalWord, semWaitWord, Prog.lift, Prog.bind_op, Prog.bind_ret, Prog.pure_eq_ret, Prog.bind_assoc]
  refine st_recv m c .ccw .x1 3 (K := ?_)
  refine st_send m c .ccw .x1 4 (dev := fun c => ⟨k0_dev36 c, k0_dev36_lt c⟩) (K := ?_)
  refine loop7 m c c v5 _ ?_
  refine loop8 m c c v5 _ ?_
  exact wp_done c (hK _)

theorem part26 (hK : ∀ r, St m c 94 0 ⊢ Q r) : St m c 90 0 ⊢ wp frame (wpE (defs₀ (F := F)) 𝒱₀ (c : Thread nD τ) none) Set.univ (ap (k0_part26 (F := F))) Q := by
  rw [k0_part26_eq_skeleton]; unfold ap k0_part26_skel
  simp only [semSignalWord, semWaitWord, Prog.lift, Prog.bind_op, Prog.bind_ret, Prog.pure_eq_ret, Prog.bind_assoc]
  refine st_swait m c .cw .w 3 (K := ?_)
  refine st_swait m c .cw .x0 3 (K := ?_)
  refine st_swait m c .cw .x1 3 (K := ?_)
  refine st_swait m c .ccw .w 3 (K := ?_)
  exact wp_done c (hK _)

theorem part27 (v5 : BitVec 32) (v7 : BitVec 32) (hK : ∀ r, St m c 100 0 ⊢ Q r) : St m c 94 0 ⊢ wp frame (wpE (defs₀ (F := F)) 𝒱₀ (c : Thread nD τ) none) Set.univ (ap (k0_part27 (F := F)) c v5 v7) Q := by
  rw [k0_part27_eq_skeleton]; unfold ap k0_part27_skel
  simp only [semSignalWord, semWaitWord, Prog.lift, Prog.bind_op, Prog.bind_ret, Prog.pure_eq_ret, Prog.bind_assoc]
  refine st_swait m c .ccw .x0 3 (K := ?_)
  refine st_swait m c .ccw .x1 3 (K := ?_)
  refine st_sig m c .cw 2 (dev := fun c => ⟨k0_dev37 c, k0_dev37_lt c⟩) (K := ?_)
  refine st_sig m c .ccw 2 (dev := fun c => ⟨k0_dev38 c, k0_dev38_lt c⟩) (K := ?_)
  refine st_cwait m c .cw 2 (K := ?_)
  refine st_cwait m c .ccw 2 (K := ?_)
  exact wp_done c (hK _)

theorem part28 (v7 : BitVec 32) (hK : ∀ r, St m c 103 0 ⊢ Q r) : St m c 100 0 ⊢ wp frame (wpE (defs₀ (F := F)) 𝒱₀ (c : Thread nD τ) none) Set.univ (ap (k0_part28 (F := F)) c v7) Q := by
  rw [k0_part28_eq_skeleton]; unfold ap k0_part28_skel
  simp only [semSignalWord, semWaitWord, Prog.lift, Prog.bind_op, Prog.bind_ret, Prog.pure_eq_ret, Prog.bind_assoc]
  refine st_recv m c .cw .w 4 (K := ?_)
  refine st_send m c .cw .w 5 (dev := fun c => ⟨k0_dev39 c, k0_dev39_lt c⟩) (K := ?_)
  refine st_recv m c .cw .x0 4 (K := ?_)
  exact wp_done c (hK _)

theorem part29 (v5 : BitVec 32) (v7 : BitVec 32) (hK : ∀ r, St m c 106 0 ⊢ Q r) : St m c 103 0 ⊢ wp frame (wpE (defs₀ (F := F)) 𝒱₀ (c : Thread nD τ) none) Set.univ (ap (k0_part29 (F := F)) c v5 v7) Q := by
  rw [k0_part29_eq_skeleton]; unfold ap k0_part29_skel
  simp only [semSignalWord, semWaitWord, Prog.lift, Prog.bind_op, Prog.bind_ret, Prog.pure_eq_ret, Prog.bind_assoc]
  refine st_send m c .cw .x0 5 (dev := fun c => ⟨k0_dev40 c, k0_dev40_lt c⟩) (K := ?_)
  refine st_recv m c .cw .x1 4 (K := ?_)
  refine st_send m c .cw .x1 5 (dev := fun c => ⟨k0_dev41 c, k0_dev41_lt c⟩) (K := ?_)
  exact wp_done c (hK _)

theorem part30 (v5 : BitVec 32) (hK : ∀ r, St m c 109 0 ⊢ Q r) : St m c 106 0 ⊢ wp frame (wpE (defs₀ (F := F)) 𝒱₀ (c : Thread nD τ) none) Set.univ (ap (k0_part30 (F := F)) c v5) Q := by
  rw [k0_part30_eq_skeleton]; unfold ap k0_part30_skel
  simp only [semSignalWord, semWaitWord, Prog.lift, Prog.bind_op, Prog.bind_ret, Prog.pure_eq_ret, Prog.bind_assoc]
  refine st_recv m c .ccw .w 4 (K := ?_)
  refine st_send m c .ccw .w 5 (dev := fun c => ⟨k0_dev42 c, k0_dev42_lt c⟩) (K := ?_)
  refine st_recv m c .ccw .x0 4 (K := ?_)
  exact wp_done c (hK _)

theorem part31 (v5 : BitVec 32) (hK : ∀ r, St m c 114 0 ⊢ Q r) : St m c 109 0 ⊢ wp frame (wpE (defs₀ (F := F)) 𝒱₀ (c : Thread nD τ) none) Set.univ (ap (k0_part31 (F := F)) c v5) Q := by
  rw [k0_part31_eq_skeleton]; unfold ap k0_part31_skel
  simp only [semSignalWord, semWaitWord, Prog.lift, Prog.bind_op, Prog.bind_ret, Prog.pure_eq_ret, Prog.bind_assoc]
  refine st_send m c .ccw .x0 5 (dev := fun c => ⟨k0_dev43 c, k0_dev43_lt c⟩) (K := ?_)
  refine st_recv m c .ccw .x1 4 (K := ?_)
  refine st_send m c .ccw .x1 5 (dev := fun c => ⟨k0_dev44 c, k0_dev44_lt c⟩) (K := ?_)
  refine loop9 m c c v5 _ ?_
  refine loop10 m c c v5 _ ?_
  exact wp_done c (hK _)

theorem part32 (hK : ∀ r, St m c 117 0 ⊢ Q r) : St m c 114 0 ⊢ wp frame (wpE (defs₀ (F := F)) 𝒱₀ (c : Thread nD τ) none) Set.univ (ap (k0_part32 (F := F))) Q := by
  rw [k0_part32_eq_skeleton]; unfold ap k0_part32_skel
  simp only [semSignalWord, semWaitWord, Prog.lift, Prog.bind_op, Prog.bind_ret, Prog.pure_eq_ret, Prog.bind_assoc]
  refine st_swait m c .cw .w 4 (K := ?_)
  refine st_swait m c .cw .x0 4 (K := ?_)
  refine st_swait m c .cw .x1 4 (K := ?_)
  exact wp_done c (hK _)

theorem part33 (v5 : BitVec 32) (v7 : BitVec 32) (hK : ∀ r, St m c 124 0 ⊢ Q r) : St m c 117 0 ⊢ wp frame (wpE (defs₀ (F := F)) 𝒱₀ (c : Thread nD τ) none) Set.univ (ap (k0_part33 (F := F)) c v5 v7) Q := by
  rw [k0_part33_eq_skeleton]; unfold ap k0_part33_skel
  simp only [semSignalWord, semWaitWord, Prog.lift, Prog.bind_op, Prog.bind_ret, Prog.pure_eq_ret, Prog.bind_assoc]
  refine st_swait m c .ccw .w 4 (K := ?_)
  refine st_swait m c .ccw .x0 4 (K := ?_)
  refine st_swait m c .ccw .x1 4 (K := ?_)
  refine st_sig m c .cw 3 (dev := fun c => ⟨k0_dev45 c, k0_dev45_lt c⟩) (K := ?_)
  refine st_sig m c .ccw 3 (dev := fun c => ⟨k0_dev46 c, k0_dev46_lt c⟩) (K := ?_)
  refine st_cwait m c .cw 3 (K := ?_)
  refine st_cwait m c .ccw 3 (K := ?_)
  exact wp_done c (hK _)

theorem part34 (v7 : BitVec 32) (hK : ∀ r, St m c 127 0 ⊢ Q r) : St m c 124 0 ⊢ wp frame (wpE (defs₀ (F := F)) 𝒱₀ (c : Thread nD τ) none) Set.univ (ap (k0_part34 (F := F)) c v7) Q := by
  rw [k0_part34_eq_skeleton]; unfold ap k0_part34_skel
  simp only [semSignalWord, semWaitWord, Prog.lift, Prog.bind_op, Prog.bind_ret, Prog.pure_eq_ret, Prog.bind_assoc]
  refine st_recv m c .cw .w 5 (K := ?_)
  refine st_send m c .cw .w 6 (dev := fun c => ⟨k0_dev47 c, k0_dev47_lt c⟩) (K := ?_)
  refine st_recv m c .cw .x0 5 (K := ?_)
  exact wp_done c (hK _)

theorem part35 (v5 : BitVec 32) (v7 : BitVec 32) (hK : ∀ r, St m c 130 0 ⊢ Q r) : St m c 127 0 ⊢ wp frame (wpE (defs₀ (F := F)) 𝒱₀ (c : Thread nD τ) none) Set.univ (ap (k0_part35 (F := F)) c v5 v7) Q := by
  rw [k0_part35_eq_skeleton]; unfold ap k0_part35_skel
  simp only [semSignalWord, semWaitWord, Prog.lift, Prog.bind_op, Prog.bind_ret, Prog.pure_eq_ret, Prog.bind_assoc]
  refine st_send m c .cw .x0 6 (dev := fun c => ⟨k0_dev48 c, k0_dev48_lt c⟩) (K := ?_)
  refine st_recv m c .cw .x1 5 (K := ?_)
  refine st_send m c .cw .x1 6 (dev := fun c => ⟨k0_dev49 c, k0_dev49_lt c⟩) (K := ?_)
  exact wp_done c (hK _)

theorem part36 (v5 : BitVec 32) (hK : ∀ r, St m c 133 0 ⊢ Q r) : St m c 130 0 ⊢ wp frame (wpE (defs₀ (F := F)) 𝒱₀ (c : Thread nD τ) none) Set.univ (ap (k0_part36 (F := F)) c v5) Q := by
  rw [k0_part36_eq_skeleton]; unfold ap k0_part36_skel
  simp only [semSignalWord, semWaitWord, Prog.lift, Prog.bind_op, Prog.bind_ret, Prog.pure_eq_ret, Prog.bind_assoc]
  refine st_recv m c .ccw .w 5 (K := ?_)
  refine st_send m c .ccw .w 6 (dev := fun c => ⟨k0_dev50 c, k0_dev50_lt c⟩) (K := ?_)
  refine st_recv m c .ccw .x0 5 (K := ?_)
  exact wp_done c (hK _)

theorem part37 (v5 : BitVec 32) (hK : ∀ r, St m c 137 0 ⊢ Q r) : St m c 133 0 ⊢ wp frame (wpE (defs₀ (F := F)) 𝒱₀ (c : Thread nD τ) none) Set.univ (ap (k0_part37 (F := F)) c v5) Q := by
  rw [k0_part37_eq_skeleton]; unfold ap k0_part37_skel
  simp only [semSignalWord, semWaitWord, Prog.lift, Prog.bind_op, Prog.bind_ret, Prog.pure_eq_ret, Prog.bind_assoc]
  refine st_send m c .ccw .x0 6 (dev := fun c => ⟨k0_dev51 c, k0_dev51_lt c⟩) (K := ?_)
  refine st_recv m c .ccw .x1 5 (K := ?_)
  refine st_send m c .ccw .x1 6 (dev := fun c => ⟨k0_dev52 c, k0_dev52_lt c⟩) (K := ?_)
  refine loop11 m c c v5 _ ?_
  exact wp_done c (hK _)

theorem part38 (hK : ∀ r, St m c 141 0 ⊢ Q r) : St m c 137 0 ⊢ wp frame (wpE (defs₀ (F := F)) 𝒱₀ (c : Thread nD τ) none) Set.univ (ap (k0_part38 (F := F))) Q := by
  rw [k0_part38_eq_skeleton]; unfold ap k0_part38_skel
  simp only [semSignalWord, semWaitWord, Prog.lift, Prog.bind_op, Prog.bind_ret, Prog.pure_eq_ret, Prog.bind_assoc]
  refine loop12 m c  _ ?_
  refine st_swait m c .cw .w 5 (K := ?_)
  refine st_swait m c .cw .x0 5 (K := ?_)
  refine st_swait m c .cw .x1 5 (K := ?_)
  exact wp_done c (hK _)

theorem part39 (v7 : BitVec 32) (hK : ∀ r, St m c 144 0 ⊢ Q r) : St m c 141 0 ⊢ wp frame (wpE (defs₀ (F := F)) 𝒱₀ (c : Thread nD τ) none) Set.univ (ap (k0_part39 (F := F)) v7) Q := by
  rw [k0_part39_eq_skeleton]; unfold ap k0_part39_skel
  simp only [semSignalWord, semWaitWord, Prog.lift, Prog.bind_op, Prog.bind_ret, Prog.pure_eq_ret, Prog.bind_assoc]
  refine st_swait m c .ccw .w 5 (K := ?_)
  refine st_swait m c .ccw .x0 5 (K := ?_)
  refine st_swait m c .ccw .x1 5 (K := ?_)
  exact wp_done c (hK _)

theorem part40 (v5 : BitVec 32) (v7 : BitVec 32) (hK : ∀ r, St m c 148 0 ⊢ Q r) : St m c 144 0 ⊢ wp frame (wpE (defs₀ (F := F)) 𝒱₀ (c : Thread nD τ) none) Set.univ (ap (k0_part40 (F := F)) v5 v7) Q := by
  rw [k0_part40_eq_skeleton]; unfold ap k0_part40_skel
  simp only [semSignalWord, semWaitWord, Prog.lift, Prog.bind_op, Prog.bind_ret, Prog.pure_eq_ret, Prog.bind_assoc]
  refine st_recv m c .cw .w 6 (K := ?_)
  refine st_recv m c .cw .x0 6 (K := ?_)
  refine st_recv m c .ccw .w 6 (K := ?_)
  refine st_recv m c .ccw .x0 6 (K := ?_)
  exact wp_done c (hK _)

theorem part41 (hK : ∀ r, St m c 152 0 ⊢ Q r) : St m c 148 0 ⊢ wp frame (wpE (defs₀ (F := F)) 𝒱₀ (c : Thread nD τ) none) Set.univ (ap (k0_part41 (F := F))) Q := by
  rw [k0_part41_eq_skeleton]; unfold ap k0_part41_skel
  simp only [semSignalWord, semWaitWord, Prog.lift, Prog.bind_op, Prog.bind_ret, Prog.pure_eq_ret, Prog.bind_assoc]
  refine loop13 m c  _ ?_
  refine loop14 m c  _ ?_
  refine st_swait m c .cw .w 6 (K := ?_)
  refine st_swait m c .cw .x0 6 (K := ?_)
  exact wp_done c (hK _)

end Steps

end Cert.KernelIdealPf

end
-- ==== Proof.KernelIdealRun.lean ====
/-
# The program

Its parts, one after the other.
-/
module

public import proofs.«01_k».proof.Proof.KernelIdealTail
public import proofs.«01_k».proof.Proof.KernelIdealPartsA
public import proofs.«01_k».proof.Proof.KernelIdealPartsB

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

theorem pure_sep {φ : Prop} {P Q : sProp 𝕄} (h : φ → P ⊢ Q) : iprop(⌜φ⌝ ∗ P) ⊢ Q := by
  iintro ⟨%hd, H⟩
  iapply (h hd) $$ H
section Steps
variable {Q : PUnit.{1} → sProp (MT nD τ sig ℕ (Elt F) ℕ UU ℕ)} (c : Dev nD)

/-- The program, given its first two parts; `Ex` stays aside from there on. -/
theorem body_run {P Ex : sProp 𝕄} {R : BitVec 32 → BitVec 32 → FVec F S256x2048 .fp8e5m2 → sProp 𝕄}
    (h1 : P ⊢ wp frame (wpE (defs₀ (F := F)) 𝒱₀ (c : Thread nD τ) none) Set.univ (ap (k0_part1 (F := F))) (fun r => iprop(⌜r.1 = c⌝ ∗ R r.2.1 r.2.2.1 r.2.2.2)))
    (h2 : ∀ v5 v7 v24, R v5 v7 v24 ⊢ wp frame (wpE (defs₀ (F := F)) 𝒱₀ (c : Thread nD τ) none) Set.univ (ap (k0_part2 (F := F)) c v7 v24) (fun _ => iprop(St m c 2 0 ∗ Ex)))
    (hQ : iprop(St m c 182 0 ∗ Ex) ⊢ Q ⟨⟩) :
    P ⊢ wp frame (wpE (defs₀ (F := F)) 𝒱₀ (c : Thread nD τ) none) Set.univ (ap (cc0_body (F := F))) Q := by
  unfold ap at h1 ⊢
  rw [cc0_body_eq_skeleton]; unfold cc0_body_skel
  rw [k0_part51_eq_skeleton]; unfold k0_part51_skel
  rw [wp_bind, wp_bind]
  refine h1.trans (wp_mono _ _ _ ?_)
  rintro ⟨d0, v5, v7, v24⟩
  dsimp only
  refine pure_sep fun (hd : d0 = c) => ?_
  subst d0
  rw [wp_bind]; refine (h2 v5 v7 v24).trans (wp_mono _ _ _ fun _ => ?_)
  refine BIBase.Entails.trans (BIClass.sep_mono ?_ BIBase.Entails.refl) ((wp_frame_r _ _ _).trans (wp_mono _ _ _ fun v =>
    (wp_frame_r _ _ _ (Q := fun _ : PUnit.{1} => St m c 182 0)).trans (wp_mono _ _ _ fun _ => hQ)))
  rw [wp_bind]; refine part3 m c v5 fun _ => ?_
  rw [wp_bind]; refine part4 m c v7 fun _ => ?_
  rw [wp_bind]; refine part5 m c v7 fun _ => ?_
  rw [wp_bind]; refine part6 m c v5 fun _ => ?_
  rw [wp_bind]; refine part7 m c v5 _ fun _ => ?_
  rw [wp_bind]; refine part8 m c fun _ => ?_
  rw [wp_bind]; refine part9 m c v7 fun _ => ?_
  rw [wp_bind]; refine part10 m c v7 fun _ => ?_
  rw [wp_bind]; refine part11 m c v5 fun _ => ?_
  rw [wp_bind]; refine part12 m c v5 fun _ => ?_
  rw [wp_bind]; refine part13 m c fun _ => ?_
  rw [wp_bind]; refine part14 m c fun _ => ?_
  rw [wp_bind]; refine part15 m c v5 v7 fun _ => ?_
  rw [wp_bind]; refine part16 m c v7 fun _ => ?_
  rw [wp_bind]; refine part17 m c v5 v7 fun _ => ?_
  rw [wp_bind]; refine part18 m c v5 fun _ => ?_
  rw [wp_bind]; refine part19 m c v5 fun _ => ?_
  rw [wp_bind]; refine part20 m c fun _ => ?_
  rw [wp_bind]; refine part21 m c v5 v7 fun _ => ?_
  rw [wp_bind]; refine part22 m c v7 fun _ => ?_
  rw [wp_bind]; refine part23 m c v5 v7 fun _ => ?_
  rw [wp_bind]; refine part24 m c v5 fun _ => ?_
  rw [wp_bind]; refine part25 m c v5 fun _ => ?_
  rw [wp_bind]; refine part26 m c fun _ => ?_
  rw [wp_bind]; refine part27 m c v5 v7 fun _ => ?_
  rw [wp_bind]; refine part28 m c v7 fun _ => ?_
  rw [wp_bind]; refine part29 m c v5 v7 fun _ => ?_
  rw [wp_bind]; refine part30 m c v5 fun _ => ?_
  rw [wp_bind]; refine part31 m c v5 fun _ => ?_
  rw [wp_bind]; refine part32 m c fun _ => ?_
  rw [wp_bind]; refine part33 m c v5 v7 fun _ => ?_
  rw [wp_bind]; refine part34 m c v7 fun _ => ?_
  rw [wp_bind]; refine part35 m c v5 v7 fun _ => ?_
  rw [wp_bind]; refine part36 m c v5 fun _ => ?_
  rw [wp_bind]; refine part37 m c v5 fun _ => ?_
  rw [wp_bind]; refine part38 m c fun _ => ?_
  rw [wp_bind]; refine part39 m c v7 fun _ => ?_
  rw [wp_bind]; refine part40 m c v5 v7 fun _ => ?_
  rw [wp_bind]; refine part41 m c fun _ => ?_
  rw [wp_bind]; refine part42 m c ?_
  rw [wp_bind]; refine part43 m c ?_
  rw [wp_bind]; refine part44 m c ?_
  rw [wp_bind]; refine part45 m c ?_
  rw [wp_bind]; refine part46 m c v5 v7 ?_
  rw [wp_bind]; refine part47 m c ?_
  rw [wp_bind]; refine part48 m c ?_
  rw [wp_bind]; refine part49 m c ?_
  rw [wp_bind]; refine part50 m c ?_
  simp only [Prog.lift, Prog.bind_op, Prog.bind_ret, Prog.pure_eq_ret, Prog.bind_assoc]
  refine st_owait m c 5 (K := ?_)
  refine wp_done c ?_
  refine st_owait m c 6 (K := ?_)
  refine st_owait m c 7 (K := ?_)
  exact wp_done c BIBase.Entails.refl
end Steps

end Cert.KernelIdealPf

end
-- ==== Proof.KernelIdealBuf.lean ====
/-
# Whole buffers and their parts

A buffer is its rows, its slots, or its tiles: cut at the start, put together again at the end.
-/
module

public import proofs.«01_k».proof.Proof.KernelIdealTiles

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-! ## Families of rectangles -/
section Rects
variable {T : Type} [Fintype T] [DecidableEq T] (c : Dev nD) {sp : Space} {sh : Shape} {e : EltTy} (M : Memref sig .tc sp sh e)
  (r : T → Rect sh) (hr : ∀ t, ∀ a, (r t).stride a = 1) (hd : ∀ t t', t ≠ t' → Disjoint (r t).set (r t').set)
  (hcov : (Finset.univ : Finset T).biUnion (fun t => (r t).set) = Finset.univ)

omit [Fintype T] in
include hd in
/-- Contents given part by part are the parts of contents. -/
theorem glue (Y : (t : T) → (r t).shape.Idx → Elt F e) : ∃ X : sh.Idx → Elt F e, ∀ t j, X ((r t).emb j) = Y t j := by
  classical
  refine ⟨fun i => if h : ∃ x : Σ t, (r t).shape.Idx, (r x.1).emb x.2 = i then Y h.choose.1 h.choose.2 else Classical.arbitrary _, fun t j => ?_⟩
  have hex : ∃ x : Σ t, (r t).shape.Idx, (r x.1).emb x.2 = (r t).emb j := ⟨⟨t, j⟩, rfl⟩
  have hu : ∀ x : Σ t, (r t).shape.Idx, (r x.1).emb x.2 = (r t).emb j → x = ⟨t, j⟩ := by
    rintro ⟨t', j'⟩ hx
    have ht : t' = t := by
      by_contra hne
      have hdj := Finset.disjoint_left.mp (hd t' t hne)
      refine @hdj ((r t').emb j') ?_ ?_
      · rw [← (r t').map_emb_univ]; exact Finset.mem_map_of_mem _ (Finset.mem_univ j')
      · rw [show (r t').emb j' = (r t).emb j from hx]; rw [← (r t).map_emb_univ]; exact Finset.mem_map_of_mem _ (Finset.mem_univ j)
    subst ht
    exact congrArg (Sigma.mk t') ((r t').emb.injective hx)
  show (if h : ∃ x : Σ t, (r t).shape.Idx, (r x.1).emb x.2 = (r t).emb j then Y h.choose.1 h.choose.2 else Classical.arbitrary _) = Y t j
  rw [dif_pos hex, hu _ hex.choose_spec]

include hd hcov in
theorem any_split : iprop(∃ X : sh.Idx → Elt F e, ownsTc c M fullShare X) ⊢ (bigSep Finset.univ fun t => iprop(∃ X, ownsTc c (M.slice (r t) (hr t)) fullShare X) : sProp 𝕄) := by
  iintro ⟨%X, H⟩
  have h : ownsTc c M fullShare X ⊢ (bigSep Finset.univ fun t => iprop(∃ X, ownsTc c (M.slice (r t) (hr t)) fullShare X) : sProp 𝕄) := by
    refine (owns_rects (c : Thread nD τ) M fullShare r hr hd hcov X).trans (bigSep_mono fun t _ => ?_)
    show ownsTc c (M.slice (r t) (hr t)) fullShare (fun j => X ((r t).emb j)) ⊢ iprop(∃ X, ownsTc c (M.slice (r t) (hr t)) fullShare X)
    iintro H; iexists _; iexact H
  iapply h $$ H

include hd hcov in
theorem any_join : (bigSep Finset.univ fun t => iprop(∃ X, ownsTc c (M.slice (r t) (hr t)) fullShare X)) ⊢ (iprop(∃ X : sh.Idx → Elt F e, ownsTc c M fullShare X) : sProp 𝕄) := by
  refine (bigSep_exists_pi Finset.univ (fun t (X : (r t).shape.Idx → Elt F e) => (ownsTc c (M.slice (r t) (hr t)) fullShare X : sProp 𝕄))).trans ?_
  iintro ⟨%Y, H⟩
  obtain ⟨X, hX⟩ := glue (F := F) (e := e) r hd Y
  iexists X
  have h : (bigSep Finset.univ fun t => ownsTc c (M.slice (r t) (hr t)) fullShare (Y t)) ⊢ (ownsTc c M fullShare X : sProp 𝕄) := by
    rw [show Y = fun t j => X ((r t).emb j) from funext fun t => funext fun j => (hX t j).symm]
    exact owns_of_rects (c : Thread nD τ) M fullShare r hr hd hcov X
  iapply h $$ H
end Rects

/-! ## Squeezed views -/
theorem any_squeeze (c : Dev nD) {sp : Space} {s s' : Shape} {e : EltTy} (M : Memref sig .tc sp s e) (h : s.Squeezes s') :
    (iprop(∃ X : s'.Idx → Elt F e, ownsTc c (M.squeeze s' h) fullShare X) : sProp 𝕄) = iprop(∃ X : s.Idx → Elt F e, ownsTc c M fullShare X) := by
  have hs : (M.squeeze s' h).view.set = M.view.set := View.set_reshape _ _
  refine BI.equiv_iff.mp ⟨(?_ : (_ : sProp 𝕄) ⊢ _), (?_ : (_ : sProp 𝕄) ⊢ _)⟩
  · unfold ownsTc owns
    iintro ⟨%X, %f, -, H⟩
    iexists (M.view.read (Elt F) f), f
    isplitr; · ipureintro; rfl
    have e : ((M.squeeze s' h).view.loc (c : Thread nD τ) ↦[(M.squeeze s' h).view.set]{fullShare} f) ⊢ (M.view.loc (c : Thread nD τ) ↦[M.view.set]{fullShare} f : sProp 𝕄) := by
      rw [hs]
    iapply e $$ H
  · unfold ownsTc owns
    iintro ⟨%X, %f, -, H⟩
    iexists ((M.squeeze s' h).view.read (Elt F) f), f
    isplitr; · ipureintro; rfl
    have e : (M.view.loc (c : Thread nD τ) ↦[M.view.set]{fullShare} f) ⊢ ((M.squeeze s' h).view.loc (c : Thread nD τ) ↦[(M.squeeze s' h).view.set]{fullShare} f : sProp 𝕄) := by
      rw [hs]
    iapply e $$ H

/-! ## The families -/

/-- A buffer's upper and lower rows. -/
def ro : Bool → ℕ | false => 0 | true => 2048
theorem ro_or (b : Bool) : ro b = 0 ∨ ro b = 2048 := by cases b <;> simp [ro]

def rOwn (b : Bool) : Rect S4096x256 := Rect.unit (s := S4096x256) ![ro b, 0] S2048x256.size (inbOwn _ (ro_or b))
def rSlot (x : Fin 3 × Bool) : Rect S3x4096x256 := Rect.unit (s := S3x4096x256) ![x.1.val, ro x.2, 0] S1x2048x256.size (inbSlotX x.1 _ (ro_or x.2))
def rSlotW (k : Fin 3) : Rect S3x256x2048 := Rect.unit (s := S3x256x2048) ![k.val, 0, 0] S1x256x2048.size (inbSlotW k)
def rTile (t : Fin 8) : Rect S4096x2048 := Rect.unit (s := S4096x2048) ![512 * t.val, 0] S512x2048.size (inbTA t)

theorem cover {T : Type} [Fintype T] {s : Shape} (r : T → Rect s) (h : ∀ i, ∃ t, i ∈ (r t).set) :
    (Finset.univ : Finset T).biUnion (fun t => (r t).set) = Finset.univ := by
  classical
  ext i
  simp only [Finset.mem_biUnion, Finset.mem_univ, true_and, iff_true]
  exact h i

theorem rOwn_disj : ∀ t t', t ≠ t' → Disjoint (rOwn t).set (rOwn t').set := by
  intro t t' h
  refine Rect.unit_disjoint (0 : Fin 2) ?_
  cases t <;> cases t' <;> first | exact absurd rfl h | (left; decide) | (right; decide)
theorem rOwn_cov : (Finset.univ : Finset Bool).biUnion (fun t => (rOwn t).set) = Finset.univ := by
  refine cover _ fun i => ?_
  have h0 : (i 0).val < 4096 := (i 0).isLt
  have h1 : (i 1).val < 256 := (i 1).isLt
  by_cases h : (i 0).val < 2048
  · refine ⟨false, Rect.mem_set_unit.mpr fun a => ?_⟩
    fin_cases a
    · exact ⟨Nat.zero_le _, by show (i 0).val < 0 + 2048; omega⟩
    · exact ⟨Nat.zero_le _, by show (i 1).val < 0 + 256; omega⟩
  · refine ⟨true, Rect.mem_set_unit.mpr fun a => ?_⟩
    fin_cases a
    · exact ⟨by show 2048 ≤ (i 0).val; omega, by show (i 0).val < 2048 + 2048; omega⟩
    · exact ⟨Nat.zero_le _, by show (i 1).val < 0 + 256; omega⟩

theorem rSlot_disj : ∀ t t', t ≠ t' → Disjoint (rSlot t).set (rSlot t').set := by
  rintro ⟨k, b⟩ ⟨k', b'⟩ h
  by_cases hk : k = k'
  · subst hk
    refine Rect.unit_disjoint (1 : Fin 3) ?_
    show ro b + 2048 ≤ ro b' ∨ ro b' + 2048 ≤ ro b
    revert h
    cases b <;> cases b' <;> simp [ro]
  · refine Rect.unit_disjoint (0 : Fin 3) ?_
    have : k.val ≠ k'.val := fun e => hk (Fin.ext e)
    show k.val + 1 ≤ k'.val ∨ k'.val + 1 ≤ k.val
    omega
theorem rSlot_cov : (Finset.univ : Finset (Fin 3 × Bool)).biUnion (fun t => (rSlot t).set) = Finset.univ := by
  refine cover _ fun i => ?_
  have h0 : (i 0).val < 3 := (i 0).isLt
  have h1 : (i 1).val < 4096 := (i 1).isLt
  have h2 : (i 2).val < 256 := (i 2).isLt
  by_cases h : (i 1).val < 2048
  · refine ⟨(⟨(i 0).val, h0⟩, false), Rect.mem_set_unit.mpr fun a => ?_⟩
    fin_cases a
    · exact ⟨le_refl (i 0).val, by show (i 0).val < (i 0).val + 1; omega⟩
    · exact ⟨Nat.zero_le _, by show (i 1).val < 0 + 2048; omega⟩
    · exact ⟨Nat.zero_le _, by show (i 2).val < 0 + 256; omega⟩
  · refine ⟨(⟨(i 0).val, h0⟩, true), Rect.mem_set_unit.mpr fun a => ?_⟩
    fin_cases a
    · exact ⟨le_refl (i 0).val, by show (i 0).val < (i 0).val + 1; omega⟩
    · exact ⟨by show 2048 ≤ (i 1).val; omega, by show (i 1).val < 2048 + 2048; omega⟩
    · exact ⟨Nat.zero_le _, by show (i 2).val < 0 + 256; omega⟩

theorem rSlotW_disj : ∀ t t', t ≠ t' → Disjoint (rSlotW t).set (rSlotW t').set := by
  intro k k' h
  refine Rect.unit_disjoint (0 : Fin 3) ?_
  have : k.val ≠ k'.val := fun e => h (Fin.ext e)
  show k.val + 1 ≤ k'.val ∨ k'.val + 1 ≤ k.val
  omega
theorem rSlotW_cov : (Finset.univ : Finset (Fin 3)).biUnion (fun t => (rSlotW t).set) = Finset.univ := by
  refine cover _ fun i => ?_
  have h0 : (i 0).val < 3 := (i 0).isLt
  have h1 : (i 1).val < 256 := (i 1).isLt
  have h2 : (i 2).val < 2048 := (i 2).isLt
  refine ⟨⟨(i 0).val, h0⟩, Rect.mem_set_unit.mpr fun a => ?_⟩
  fin_cases a
  · exact ⟨le_refl (i 0).val, by show (i 0).val < (i 0).val + 1; omega⟩
  · exact ⟨Nat.zero_le _, by show (i 1).val < 0 + 256; omega⟩
  · exact ⟨Nat.zero_le _, by show (i 2).val < 0 + 2048; omega⟩

theorem rTile_disj : ∀ t t', t ≠ t' → Disjoint (rTile t).set (rTile t').set := by
  intro k k' h
  refine Rect.unit_disjoint (0 : Fin 2) ?_
  have : k.val ≠ k'.val := fun e => h (Fin.ext e)
  show 512 * k.val + 512 ≤ 512 * k'.val ∨ 512 * k'.val + 512 ≤ 512 * k.val
  omega
theorem rTile_cov : (Finset.univ : Finset (Fin 8)).biUnion (fun t => (rTile t).set) = Finset.univ := by
  refine cover _ fun i => ?_
  have h0 : (i 0).val < 4096 := (i 0).isLt
  have h1 : (i 1).val < 2048 := (i 1).isLt
  refine ⟨⟨(i 0).val / 512, by omega⟩, Rect.mem_set_unit.mpr fun a => ?_⟩
  fin_cases a
  · exact ⟨by show 512 * ((i 0).val / 512) ≤ (i 0).val; omega, by show (i 0).val < 512 * ((i 0).val / 512) + 512; omega⟩
  · exact ⟨Nat.zero_le _, by show (i 1).val < 0 + 2048; omega⟩

/-! ## A direction's buffers -/
theorem bs_pc (Φ : Pc → sProp 𝕄) : bigSep Finset.univ Φ = iprop(Φ .w ∗ Φ .x0 ∗ Φ .x1) := bigSep_univ_eq_bigSepL [Pc.w, Pc.x0, Pc.x1] (by decide) (by decide) Φ
theorem bs_dir (Φ : Dir → sProp 𝕄) : bigSep Finset.univ Φ = iprop(Φ .cw ∗ Φ .ccw) := bigSep_univ_eq_bigSepL [Dir.cw, Dir.ccw] (by decide) (by decide) Φ
theorem bs_bool (Φ : Bool → sProp 𝕄) : bigSep Finset.univ Φ = iprop(Φ false ∗ Φ true) := bigSep_univ_eq_bigSepL [false, true] (by decide) (by decide) Φ

/-- The two receiving buffers of a direction. -/
def recvBuf (c : Dev nD) (d : Dir) : sProp 𝕄 :=
  iprop((∃ X : S3x4096x256.Idx → Elt F .fp8e5m2, ownsTc c (cxM d) fullShare X) ∗ ∃ X : S3x256x2048.Idx → Elt F .fp8e5m2, ownsTc c (cwM d) fullShare X)

theorem slots_eq (c : Dev nD) (d : Dir) :
    (bigSep Finset.univ fun k : Fin 3 => bigSep Finset.univ fun p : Pc => slotAny (F := F) c d p k)
      = iprop((bigSep Finset.univ fun k => iprop(∃ X : (rSlotW k).shape.Idx → Elt F .fp8e5m2, ownsTc c ((cwM d).slice (rSlotW k) (fun _ => rfl)) fullShare X))
        ∗ bigSep Finset.univ fun x => iprop(∃ X : (rSlot x).shape.Idx → Elt F .fp8e5m2, ownsTc c ((cxM d).slice (rSlot x) (fun _ => rfl)) fullShare X)) := by
  rw [bigSep_univ_prod]
  rw [show iprop((bigSep Finset.univ fun k => iprop(∃ X : (rSlotW k).shape.Idx → Elt F .fp8e5m2, ownsTc c ((cwM d).slice (rSlotW k) (fun _ => rfl)) fullShare X))
        ∗ bigSep Finset.univ fun k => bigSep Finset.univ fun b => iprop(∃ X : (rSlot (k, b)).shape.Idx → Elt F .fp8e5m2, ownsTc c ((cxM d).slice (rSlot (k, b)) (fun _ => rfl)) fullShare X))
      = (bigSep Finset.univ fun k => iprop((∃ X : (rSlotW k).shape.Idx → Elt F .fp8e5m2, ownsTc c ((cwM d).slice (rSlotW k) (fun _ => rfl)) fullShare X)
        ∗ bigSep Finset.univ fun b => iprop(∃ X : (rSlot (k, b)).shape.Idx → Elt F .fp8e5m2, ownsTc c ((cxM d).slice (rSlot (k, b)) (fun _ => rfl)) fullShare X)) : sProp 𝕄) from (bigSep_sep _ _ _).symm]
  refine bigSep_congr fun k _ => ?_
  rw [bs_pc, bs_bool]
  have e1 : slotAny (F := F) c d .w k = iprop(∃ X : (rSlotW k).shape.Idx → Elt F .fp8e5m2, ownsTc c ((cwM d).slice (rSlotW k) (fun _ => rfl)) fullShare X) :=
    any_squeeze c ((cwM d).slice (rSlotW k) (fun _ => rfl)) squeezes_S1x256x2048_S256x2048
  have e2 : slotAny (F := F) c d .x0 k = iprop(∃ X : (rSlot (k, false)).shape.Idx → Elt F .fp8e5m2, ownsTc c ((cxM d).slice (rSlot (k, false)) (fun _ => rfl)) fullShare X) :=
    any_squeeze c ((cxM d).slice (rSlot (k, false)) (fun _ => rfl)) squeezes_S1x2048x256_S2048x256
  have e3 : slotAny (F := F) c d .x1 k = iprop(∃ X : (rSlot (k, true)).shape.Idx → Elt F .fp8e5m2, ownsTc c ((cxM d).slice (rSlot (k, true)) (fun _ => rfl)) fullShare X) :=
    any_squeeze c ((cxM d).slice (rSlot (k, true)) (fun _ => rfl)) squeezes_S1x2048x256_S2048x256
  rw [e1, e2, e3]

theorem recv_split (c : Dev nD) (d : Dir) : recvBuf (F := F) c d ⊢ bigSep Finset.univ fun k : Fin 3 => bigSep Finset.univ fun p : Pc => slotAny (F := F) c d p k := by
  rw [slots_eq]
  unfold recvBuf
  iintro ⟨H1, H2⟩
  isplitl [H2]
  · iapply (any_split c (cwM d) rSlotW (fun _ _ => rfl) rSlotW_disj rSlotW_cov) $$ H2
  · iapply (any_split c (cxM d) rSlot (fun _ _ => rfl) rSlot_disj rSlot_cov) $$ H1
theorem recv_join (c : Dev nD) (d : Dir) : (bigSep Finset.univ fun k : Fin 3 => bigSep Finset.univ fun p : Pc => slotAny (F := F) c d p k) ⊢ recvBuf (F := F) c d := by
  rw [slots_eq]
  unfold recvBuf
  iintro ⟨H2, H1⟩
  isplitl [H1]
  · iapply (any_join c (cxM d) rSlot (fun _ _ => rfl) rSlot_disj rSlot_cov) $$ H1
  · iapply (any_join c (cwM d) rSlotW (fun _ _ => rfl) rSlotW_disj rSlotW_cov) $$ H2

theorem piece_w (c : Dev nD) (d : Dir) : piece m c d .w 0 fullShare = ownsTc c (owM d) fullShare (oW m d c) := rfl
theorem piece_x0 (c : Dev nD) (d : Dir) : piece m c d .x0 0 fullShare = ownsTc c ((oxM d).slice (rOwn false) (fun _ => rfl)) fullShare (orig m d c .x0) := rfl
theorem piece_x1 (c : Dev nD) (d : Dir) : piece m c d .x1 0 fullShare = ownsTc c ((oxM d).slice (rOwn true) (fun _ => rfl)) fullShare (orig m d c .x1) := rfl
theorem own_split (c : Dev nD) (d : Dir) :
    iprop(ownsTc c (oxM d) fullShare (oX m d c) ∗ ownsTc c (owM d) fullShare (oW m d c)) ⊢ bigSep Finset.univ fun p => piece m c d p 0 fullShare := by
  rw [bs_pc, piece_w]
  have h : ownsTc c (oxM d) fullShare (oX m d c) ⊢ iprop(piece m c d .x0 0 fullShare ∗ piece m c d .x1 0 fullShare) := by
    have h := owns_rects (Ix := ℕ) (Name := ℕ) (U := UU) (Lvl := ℕ) (c : Thread nD τ) (oxM d) fullShare rOwn (fun _ _ => rfl) rOwn_disj rOwn_cov (oX m d c)
    rw [bs_bool] at h
    exact h
  iintro ⟨H1, H2⟩
  isplitl [H2]; · iexact H2
  iapply h $$ H1

/-- Both of them back, whatever they hold. -/
theorem own_join (c : Dev nD) (d : Dir) :
    (bigSep Finset.univ fun p => piece m c d p 0 fullShare)
      ⊢ iprop((∃ X : S4096x256.Idx → Elt F .fp8e5m2, ownsTc c (oxM d) fullShare X) ∗ ∃ X : S256x2048.Idx → Elt F .fp8e5m2, ownsTc c (owM d) fullShare X) := by
  rw [bs_pc, piece_w, piece_x0, piece_x1]
  have h := any_join (F := F) c (oxM d) rOwn (fun _ _ => rfl) rOwn_disj rOwn_cov
  rw [bs_bool] at h
  iintro ⟨H0, H1, H2⟩
  isplitl [H1 H2]
  · iapply h
    isplitl [H1]
    · iexists (orig m d c .x0); iexact H1
    · iexists (orig m d c .x1); iexact H2
  · iexists _; iexact H0

theorem acc_split (c : Dev nD) : iprop(∃ X : S4096x2048.Idx → Elt F .f32, ownsTc c accM fullShare X) ⊢ (bigSep Finset.univ fun t => iprop(∃ X, ownsTc c (accTM t) fullShare X) : sProp 𝕄) :=
  any_split c accM rTile (fun _ _ => rfl) rTile_disj rTile_cov
theorem acc_join (c : Dev nD) : (bigSep Finset.univ fun t => iprop(∃ X, ownsTc c (accTM t) fullShare X)) ⊢ (iprop(∃ X : S4096x2048.Idx → Elt F .f32, ownsTc c accM fullShare X) : sProp 𝕄) :=
  any_join c accM rTile (fun _ _ => rfl) rTile_disj rTile_cov
theorem out_split (c : Dev nD) : iprop(∃ X : S4096x2048.Idx → Elt F .f32, ownsTc c outM fullShare X) ⊢ (bigSep Finset.univ fun t => iprop(∃ X, ownsTc c (outTM t) fullShare X) : sProp 𝕄) :=
  any_split c outM rTile (fun _ _ => rfl) rTile_disj rTile_cov

/-- The result, tile by tile. -/
def res (c : Dev nD) : S4096x2048.Idx → Elt F .f32 := (glue (F := F) (e := .f32) rTile rTile_disj (fun t => outT m c t)).choose
theorem res_tile (c : Dev nD) (t : Fin 8) (j : S512x2048.Idx) : res m c ((rTile t).emb j) = outT m c t j :=
  (glue (F := F) (e := .f32) rTile rTile_disj (fun t => outT m c t)).choose_spec t j

theorem out_join (c : Dev nD) : (bigSep Finset.univ fun t => ownsTc c (outTM t) fullShare (outT m c t)) ⊢ (ownsTc c outM fullShare (res m c) : sProp 𝕄) := by
  have h := owns_of_rects (Val := Elt F) (Ix := ℕ) (Name := ℕ) (U := UU) (Lvl := ℕ) (c : Thread nD τ) outM fullShare rTile (fun _ _ => rfl) rTile_disj rTile_cov (res m c)
  refine BIBase.Entails.trans (Entails.of_eq (bigSep_congr fun t _ => ?_)) h
  rw [show outT m c t = fun j => res m c ((rTile t).emb j) from funext fun j => (res_tile m c t j).symm]
  rfl

end Cert.KernelIdealPf

end
-- ==== Proof.KernelIdealExit.lean ====
/-
# The end of the program

What a device is left with: its semaphores at zero, its buffers whole, and the result.
-/
module

public import proofs.«01_k».proof.Proof.KernelIdealState
public import proofs.«01_k».proof.Proof.KernelIdealBuf

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-! ## Lanes -/
omit [FloatOps F] in
theorem bs_fin3 (Φ : Fin 3 → sProp 𝕄) : bigSep Finset.univ Φ = iprop(Φ 0 ∗ Φ 1 ∗ Φ 2) := bigSep_univ_eq_bigSepL [(0 : Fin 3), (1 : Fin 3), (2 : Fin 3)] (by decide) (by decide) Φ
omit [FloatOps F] in
theorem bs_ico3 (a : ℕ) (Φ : ℕ → sProp 𝕄) : bigSep (Finset.Ico a (a + 3)) Φ = iprop(Φ a ∗ Φ (a + 1) ∗ Φ (a + 2)) := by
  rw [bigSep_Ico_succ_bot (by omega), bigSep_Ico_succ_bot (by omega), bigSep_Ico_succ_bot (by omega), show a + 1 + 1 + 1 = a + 3 by omega, Finset.Ico_self, bigSep_empty]
  refine congrArg (fun P => iprop(Φ a ∗ P)) (congrArg (fun P => iprop(Φ (a + 1) ∗ P)) ?_)
  exact BI.equiv_iff.mp sep_emp

/-- What has arrived is in a slot. -/
theorem piece_any (c : Dev nD) (d : Dir) (p : Pc) (i : ℕ) : piece m c d p (i + 1) fullShare ⊢ slotAny (F := F) c d p (sl i) := by
  unfold piece slotAny
  iintro H; iexists _
  have e : ownsTc c (bufM d p (i + 1)) fullShare (orig m d (back d (i + 1) c) p) ⊢ (ownsTc c (slotM d p (sl i)) fullShare (orig m d (back d (i + 1) c) p) : sProp 𝕄) := BIBase.Entails.refl
  iapply e $$ H

/-- A lane that is done. -/
theorem lane_exit (c : Dev nD) (d : Dir) (p : Pc) :
    Lane m c d p 7 7 7 5 7 ⊢ iprop((bigSep (Finset.Ico 7 10) (fun h => rPos (F := F) c d p h) ∗ bigSep (Finset.Ico 7 10) (fun h => sPos (F := F) c d p h))
      ∗ (bigSep Finset.univ fun k : Fin 3 => slotAny (F := F) c d p k) ∗ piece m c d p 0 fullShare) := by
  unfold Lane
  rw [bs_fin3, show min 5 1 = 0 + 1 from rfl, bigSep_range_succ, show (7 + 1 : ℕ) = 5 + 3 from rfl, bs_ico3 5 (fun i => piece m c d p i fullShare.right),
    show (5 + 3 : ℕ) = 7 + 1 from rfl, bigSep_Ico_succ_bot (show 7 < 7 + 1 by omega) (fun i => piece m c d p i fullShare.left),
    bigSep_Ico_succ_bot (show 5 < 7 by omega) (fun i => piece m c d p i fullShare.left), bigSep_Ico_succ_bot (show 5 + 1 < 7 by omega) (fun i => piece m c d p i fullShare.left)]
  iintro ⟨-, -, Hr, Hs, -, -, ⟨R5, R6, R7⟩, ⟨L7, -⟩, ⟨L5, L6, -⟩, ⟨H0, -⟩⟩
  isplitl [Hr Hs]
  · isplitl [Hr] <;> iassumption
  isplitr [H0]
  · isplitl [L7 R7]
    · iapply (piece_any m c d p 6); iapply (piece_join m c d p 7)
      isplitl [L7] <;> iassumption
    isplitl [L5 R5]
    · iapply (piece_any m c d p 4); iapply (piece_join m c d p 5)
      isplitl [L5] <;> iassumption
    · iapply (piece_any m c d p 5); iapply (piece_join m c d p 6)
      isplitl [L6] <;> iassumption
  · iexact H0

/-! ## Closing the cells -/
theorem close_cell (g : Cell) (R : ℕ) (hR : ∀ r, R ≤ r → (Rd (F := F) m).duties g r = ∅) :
    iprop(CI m g ∗ atPos ER g R ∅ 0) ⊢ iprop(|={Set.univ}=> semVal g 0) := by
  unfold CI
  iintro ⟨⟨%κ, HI⟩, H⟩
  iapply (cell_close ER (Rd m) (Set.mem_univ κ) (fun h => h) (R := R) hR)
  isplitl [HI] <;> iassumption

theorem close_r (c : Dev nD) (d : Dir) (p : Pc) (h : ℕ) (h4 : 4 ≤ h) (h7 : h < 7) : iprop(Ctx m ∗ rPos (F := F) c d p (h + 3)) ⊢ iprop(|={Set.univ}=> semVal (rCell c d p h) 0) := by
  unfold rPos
  rw [rCell_add3, add3_div]
  iintro ⟨HC, H, -⟩
  iapply (close_cell m (rCell c d p h) (h / 3 + 1) (fun r hr => duties_r_end m c d p h r h4 h7 hr))
  isplitl [HC]; · iapply (ctx_r m c d p h) $$ HC
  iexact H
theorem close_s (c : Dev nD) (d : Dir) (p : Pc) (h : ℕ) (h4 : 4 ≤ h) (h7 : h < 7) : iprop(Ctx m ∗ sPos (F := F) c d p (h + 3)) ⊢ iprop(|={Set.univ}=> semVal (sCell c d p h) 0) := by
  unfold sPos
  rw [sCell_add3, add3_div]
  iintro ⟨HC, H, -⟩
  iapply (close_cell m (sCell c d p h) (h / 3 + 1) (fun r hr => duties_s_end m c d p h r h4 h7 hr))
  isplitl [HC]; · iapply (ctx_s m c d p h) $$ HC
  iexact H
theorem close_o (c : Dev nD) (t : ℕ) (h8 : 8 ≤ t) : iprop(Ctx m ∗ oPos (F := F) c t) ⊢ iprop(|={Set.univ}=> semVal (oCell c (fo t)) 0) := by
  unfold oPos
  iintro ⟨HC, H, -⟩
  iapply (close_cell m (oCell c (fo t)) (t / 4) (fun r hr => duties_o_end m c (fo t) r (by omega)))
  isplitl [HC]; · iapply (ctx_o m c (fo t)) $$ HC
  iexact H
theorem close_bar (c : Dev nD) : iprop(Ctx m ∗ atPos ER (barCell c) 1 ∅ 0) ⊢ iprop(|={Set.univ}=> semVal (barCell c) 0) := by
  iintro ⟨HC, H⟩
  iapply (close_cell m (barCell c) 1 (fun r hr => duties_bar_end m c r hr))
  isplitl [HC]; · iapply (ctx_bar m c) $$ HC
  iexact H
theorem close_cr (c : Dev nD) (d : Dir) : iprop(Ctx m ∗ crAt (F := F) c d 4) ⊢ iprop(|={Set.univ}=> semVal (crCell c d) 0) := by
  unfold crAt
  iintro ⟨#HC, ⟨%T, %hT, H, -⟩⟩
  have hT' : T = Finset.range 4 := Finset.eq_of_subset_of_card_le hT.1 (by rw [Finset.card_range]; exact hT.2)
  subst hT'
  ihave #HI := (ctx_cr m c d) $$ HC
  ihave #HI' := (ctx_cr m c d) $$ HC
  ihave HI := (show CI m (crCell c d) ⊢ iprop(∃ κ, cellInv ER (Rd m) κ (crCell c d)) from BIBase.Entails.refl) $$ HI
  icases HI with ⟨%κ, HI⟩
  imod (fupd_skip ER (Rd m) (κ := κ) (g := crCell c d) (R := 0) (m := 4) (T := Finset.range 4) (by rw [duties_cr])
    (expect_cr m c d).symm (Es := Set.univ) (Set.mem_univ _)) $$ [H] with ⟨H, -⟩
  · isplitr; · iexact HI
    iexact H
  iapply (close_cell m (crCell c d) 1 (fun r hr => duties_cr_end m c d r hr))
  isplitr; · iexact HI'
  iexact H

/-- A persistent context shared out over a family of updates. -/
theorem fup_all {ι : Type} (s : Finset ι) {Φ Ψ : ι → sProp 𝕄} (h : ∀ i ∈ s, iprop(Ctx m ∗ Φ i) ⊢ iprop(|={Set.univ}=> Ψ i)) :
    iprop(Ctx m ∗ bigSep s Φ) ⊢ iprop(|={Set.univ}=> bigSep s Ψ) := by
  classical
  induction s using Finset.induction_on with
  | empty => rw [bigSep_empty, bigSep_empty]; iintro ⟨-, -⟩; imodintro; iempintro
  | insert i s hi ih =>
    rw [bigSep_insert hi, bigSep_insert hi]
    show iprop(Ctx m ∗ (Φ i ∗ bigSep s Φ)) ⊢ iprop(|={Set.univ}=> (Ψ i ∗ bigSep s Ψ))
    iintro ⟨#HC, H, Hs⟩
    imod (h i (Finset.mem_insert_self i s)) $$ [H] with H
    · isplitr; · iexact HC
      iexact H
    imod (ih fun j hj => h j (Finset.mem_insert_of_mem hj)) $$ [Hs] with Hs
    · isplitr; · iexact HC
      iexact Hs
    imodintro
    isplitl [H] <;> iassumption

/-! ## All of a device's own semaphores -/
abbrev SIx := ((Dir × Pc × Fin 3) ⊕ (Dir × Pc × Fin 3)) ⊕ (Dir ⊕ Fin 4)
/-- Where each of them stands among the kernel's own. -/
def six : SIx → Fin 42
  | .inl (.inl (d, p, k)) => ⟨sIx d p k.val - 4, by have := sIx_lt d p k; have := sIx_ge d p k; omega⟩
  | .inl (.inr (d, p, k)) => ⟨rIx d p k.val - 4, by have := rIx_lt d p k; have := rIx_ge d p k; omega⟩
  | .inr (.inl .cw) => 40
  | .inr (.inl .ccw) => 41
  | .inr (.inr k) => ⟨36 + k.val, by omega⟩
theorem six_bij : Function.Bijective six := by
  refine (Fintype.bijective_iff_injective_and_card six).mpr ⟨?_, by decide +kernel⟩
  have h1 : ∀ x y : Dir × Pc × Fin 3, (six (.inl (.inl x)) = six (.inl (.inl y)) → x = y) ∧ (six (.inl (.inr x)) = six (.inl (.inr y)) → x = y)
    ∧ six (.inl (.inl x)) ≠ six (.inl (.inr y)) := by decide +kernel
  have h2 : ∀ (x : Dir × Pc × Fin 3) (y : Dir), six (.inl (.inl x)) ≠ six (.inr (.inl y)) ∧ six (.inl (.inr x)) ≠ six (.inr (.inl y)) := by decide +kernel
  have h3 : ∀ (x : Dir × Pc × Fin 3) (y : Fin 4), six (.inl (.inl x)) ≠ six (.inr (.inr y)) ∧ six (.inl (.inr x)) ≠ six (.inr (.inr y)) := by decide +kernel
  have h4 : ∀ x y : Dir, six (.inr (.inl x)) = six (.inr (.inl y)) → x = y := by decide +kernel
  have h5 : ∀ x y : Fin 4, six (.inr (.inr x)) = six (.inr (.inr y)) → x = y := by decide +kernel
  have h6 : ∀ (x : Dir) (y : Fin 4), six (.inr (.inl x)) ≠ six (.inr (.inr y)) := by decide +kernel
  rintro ((x | x) | (x | x)) ((y | y) | (y | y)) e
  · rw [(h1 x y).1 e]
  · exact absurd e (h1 x y).2.2
  · exact absurd e (h2 x y).1
  · exact absurd e (h3 x y).1
  · exact absurd e.symm (h1 y x).2.2
  · rw [(h1 x y).2.1 e]
  · exact absurd e (h2 x y).2
  · exact absurd e (h3 x y).2
  · exact absurd e.symm (h2 y x).1
  · exact absurd e.symm (h2 y x).2
  · rw [h4 x y e]
  · exact absurd e (h6 x y)
  · exact absurd e.symm (h3 y x).1
  · exact absurd e.symm (h3 y x).2
  · exact absurd e.symm (h6 y x)
  · rw [h5 x y e]

omit [FloatOps F] in
theorem own_cells (Φ : SemLoc sig → sProp 𝕄) :
    (bigSep Finset.univ fun i : Fin 42 => Φ (osem i))
      = iprop(((bigSep Finset.univ fun d => bigSep Finset.univ fun p => bigSep Finset.univ fun k : Fin 3 => Φ (.dma (sSem d p k.val)))
          ∗ (bigSep Finset.univ fun d => bigSep Finset.univ fun p => bigSep Finset.univ fun k : Fin 3 => Φ (.dma (rSem d p k.val))))
        ∗ ((bigSep Finset.univ fun d => Φ (.reg (crSem d))) ∗ bigSep Finset.univ fun k : Fin 4 => Φ (.dma (oSem k)))) := by
  rw [bigSep_univ_equiv (Equiv.ofBijective six six_bij) (fun i => Φ (osem i)), bigSep_univ_sum, bigSep_univ_sum, bigSep_univ_sum]
  simp only [bigSep_univ_prod]
  have e1 : ∀ d p (k : Fin 3), osem (six (.inl (.inl (d, p, k)))) = .dma (sSem d p k.val) := by decide +kernel
  have e2 : ∀ d p (k : Fin 3), osem (six (.inl (.inr (d, p, k)))) = .dma (rSem d p k.val) := by decide +kernel
  have e3 : ∀ d, osem (six (.inr (.inl d))) = .reg (crSem d) := by decide +kernel
  have e4 : ∀ k, osem (six (.inr (.inr k))) = .dma (oSem k) := by decide +kernel
  simp only [Equiv.ofBijective_apply, e1, e2, e3, e4]
  rfl

/-! ## The end -/
/-- The kernel's own buffers, whatever they hold. -/
def Bufs (c : Dev nD) : sProp 𝕄 :=
  iprop((bigSep Finset.univ fun d => iprop(((∃ X : S4096x256.Idx → Elt F .fp8e5m2, ownsTc c (oxM d) fullShare X) ∗ ∃ X : S256x2048.Idx → Elt F .fp8e5m2, ownsTc c (owM d) fullShare X) ∗ recvBuf (F := F) c d))
    ∗ ∃ X : S4096x2048.Idx → Elt F .f32, ownsTc c accM fullShare X)

/-- A device's semaphores at zero. -/
def Closed (c : Dev nD) : sProp 𝕄 := iprop((bigSep Finset.univ fun i : Fin 42 => semVal ((c : Thread nD τ), osem i) 0) ∗ semVal (barCell c) 0)

theorem dir_exit (c : Dev nD) (d : Dir) :
    iprop(Ctx m ∗ DirSt m c (cnt 182) d)
      ⊢ iprop(|={Set.univ}=> ((((bigSep Finset.univ fun p => bigSep Finset.univ fun k : Fin 3 => semVal ((c : Thread nD τ), SemLoc.dma (sSem d p k.val)) 0)
            ∗ (bigSep Finset.univ fun p => bigSep Finset.univ fun k : Fin 3 => semVal ((c : Thread nD τ), SemLoc.dma (rSem d p k.val)) 0))
          ∗ semVal ((c : Thread nD τ), SemLoc.reg (crSem d)) 0)
        ∗ ((∃ X : S4096x256.Idx → Elt F .fp8e5m2, ownsTc c (oxM d) fullShare X) ∗ ∃ X : S256x2048.Idx → Elt F .fp8e5m2, ownsTc c (owM d) fullShare X) ∗ recvBuf (F := F) c d)) := by
  unfold DirSt Cr laneOf
  have h1 : ∀ d p, cnt 182 (.recv d p) = 7 := by intro d p; cases d <;> cases p <;> decide +kernel
  have h2 : ∀ d p, cnt 182 (.send d p) = 7 := by intro d p; cases d <;> cases p <;> decide +kernel
  have h3 : ∀ d p, cnt 182 (.swait d p) = 7 := by intro d p; cases d <;> cases p <;> decide +kernel
  have h4 : ∀ d, freed (cnt 182) d = 5 := by intro d; cases d <;> decide +kernel
  have h5 : ∀ d, cnt 182 (.cwait d) = 4 := by intro d; cases d <;> decide +kernel
  simp only [h1, h2, h3, h4, h5]
  have hl : (bigSep Finset.univ fun p => Lane m c d p 7 7 7 5 (3 + 4))
      ⊢ iprop((bigSep Finset.univ fun p => iprop(bigSep (Finset.Ico 7 10) (fun h => rPos (F := F) c d p h) ∗ bigSep (Finset.Ico 7 10) (fun h => sPos (F := F) c d p h)))
        ∗ (bigSep Finset.univ fun p => bigSep Finset.univ fun k : Fin 3 => slotAny (F := F) c d p k) ∗ bigSep Finset.univ fun p => piece m c d p 0 fullShare) := by
    refine BIBase.Entails.trans (bigSep_mono fun p _ => lane_exit m c d p) (Entails.of_eq ?_)
    exact (bigSep_sep _ _ _).trans (congrArg _ (bigSep_sep _ _ _))
  have hc : ∀ p ∈ (Finset.univ : Finset Pc), iprop(Ctx m ∗ (bigSep (Finset.Ico 7 10) (fun h => rPos (F := F) c d p h) ∗ bigSep (Finset.Ico 7 10) (fun h => sPos (F := F) c d p h)))
      ⊢ iprop(|={Set.univ}=> ((bigSep Finset.univ fun k : Fin 3 => semVal ((c : Thread nD τ), SemLoc.dma (sSem d p k.val)) 0)
        ∗ (bigSep Finset.univ fun k : Fin 3 => semVal ((c : Thread nD τ), SemLoc.dma (rSem d p k.val)) 0))) := by
    intro p _
    rw [show (10 : ℕ) = 7 + 3 from rfl, bs_ico3, bs_ico3, bs_fin3, bs_fin3]
    iintro ⟨#HC, ⟨R7, R8, R9⟩, S7, S8, S9⟩
    imod (close_r m c d p 4 (by omega) (by omega)) $$ [R7] with R7
    · isplitr; · iexact HC
      iexact R7
    imod (close_r m c d p 5 (by omega) (by omega)) $$ [R8] with R8
    · isplitr; · iexact HC
      iexact R8
    imod (close_r m c d p 6 (by omega) (by omega)) $$ [R9] with R9
    · isplitr; · iexact HC
      iexact R9
    imod (close_s m c d p 4 (by omega) (by omega)) $$ [S7] with S7
    · isplitr; · iexact HC
      iexact S7
    imod (close_s m c d p 5 (by omega) (by omega)) $$ [S8] with S8
    · isplitr; · iexact HC
      iexact S8
    imod (close_s m c d p 6 (by omega) (by omega)) $$ [S9] with S9
    · isplitr; · iexact HC
      iexact S9
    imodintro
    isplitl [S7 S8 S9]
    · isplitl [S9]; · iexact S9
      isplitl [S7]; · iexact S7
      iexact S8
    · isplitl [R9]; · iexact R9
      isplitl [R7]; · iexact R7
      iexact R8
  iintro ⟨#HC, HL, -, -, -, Hcr, -⟩
  ihave HL := hl $$ HL
  icases HL with ⟨Hp, Hs, H0⟩
  imod (fup_all m Finset.univ hc) $$ [Hp] with Hp
  · isplitr; · iexact HC
    iexact Hp
  imod (close_cr m c d) $$ [Hcr] with Hcr
  · isplitr; · iexact HC
    iexact Hcr
  imodintro
  have e : (bigSep Finset.univ fun p => iprop((bigSep Finset.univ fun k : Fin 3 => semVal ((c : Thread nD τ), SemLoc.dma (sSem d p k.val)) 0)
        ∗ (bigSep Finset.univ fun k : Fin 3 => semVal ((c : Thread nD τ), SemLoc.dma (rSem d p k.val)) 0)))
      ⊢ (iprop((bigSep Finset.univ fun p => bigSep Finset.univ fun k : Fin 3 => semVal ((c : Thread nD τ), SemLoc.dma (sSem d p k.val)) 0)
            ∗ (bigSep Finset.univ fun p => bigSep Finset.univ fun k : Fin 3 => semVal ((c : Thread nD τ), SemLoc.dma (rSem d p k.val)) 0)) : sProp 𝕄) := Entails.of_eq (bigSep_sep _ _ _)
  isplitl [Hp Hcr]
  · isplitl [Hp]; · iapply e $$ Hp
    iexact Hcr
  isplitl [H0]; · iapply (own_join m c d) $$ H0
  iapply (recv_join (F := F) c d)
  have e2 : (bigSep Finset.univ fun p => bigSep Finset.univ fun k : Fin 3 => slotAny (F := F) c d p k) ⊢ (bigSep Finset.univ fun k : Fin 3 => bigSep Finset.univ fun p => slotAny (F := F) c d p k) := by
    simp only [bs_pc]
    exact Entails.of_eq ((congrArg (fun P => iprop((bigSep Finset.univ fun k : Fin 3 => slotAny (F := F) c d .w k) ∗ P)) (bigSep_sep _ _ _).symm).trans (bigSep_sep _ _ _).symm)
  iapply e2 $$ Hs

omit [FloatOps F] in
theorem bs_range (n : ℕ) (Φ : ℕ → sProp 𝕄) : bigSep (Finset.range n) Φ = bigSep Finset.univ fun t : Fin n => Φ t.val := by
  rw [← Nat.Iio_eq_range, ← Fin.map_valEmbedding_univ, bigSep_map]; rfl

/-- The tiles, all written out. -/
theorem tiles_exit (c : Dev nD) (j k n : ℕ) :
    iprop(Ctx m ∗ Tiles m c j k n 8 8) ⊢ iprop(|={Set.univ}=> ((bigSep Finset.univ fun k : Fin 4 => semVal ((c : Thread nD τ), SemLoc.dma (oSem k)) 0)
      ∗ (∃ X : S4096x2048.Idx → Elt F .f32, ownsTc c accM fullShare X) ∗ ownsTc c outM fullShare (res m c))) := by
  unfold Tiles
  have ho : (bigSep (Finset.range 8) fun t => outPay m c t)
      ⊢ iprop((bigSep Finset.univ fun t => iprop(∃ X, ownsTc c (accTM t) fullShare X)) ∗ bigSep Finset.univ fun t => ownsTc c (outTM t) fullShare (outT m c t)) := by
    rw [bs_range]
    refine Entails.of_eq ((bigSep_congr fun t _ => ?_).trans (bigSep_sep _ _ _))
    unfold outPay; rw [tl_val]; rfl
  have hp : (bigSep Finset.univ fun k : Fin 4 => semVal (oCell c (fo (8 + k.val))) 0) ⊢ (bigSep Finset.univ fun k : Fin 4 => semVal ((c : Thread nD τ), SemLoc.dma (oSem k)) 0 : sProp 𝕄) := by
    refine Entails.of_eq (bigSep_congr fun k _ => ?_)
    rw [show fo (8 + k.val) = k from Fin.ext (by show (8 + k.val) % 4 = k.val; omega)]; rfl
  have hi : (bigSep (Finset.Ico 8 (8 + 4)) fun t => oPos (F := F) c t) ⊢ bigSep Finset.univ fun k : Fin 4 => oPos (F := F) c (8 + k.val) := by
    refine Entails.of_eq ?_
    rw [show Finset.Ico 8 (8 + 4) = (Finset.range 4).map (addLeftEmbedding 8) from by decide, bigSep_map, bs_range]
    rfl
  iintro ⟨#HC, -, -, Ho, Hp⟩
  ihave Ho := ho $$ Ho
  icases Ho with ⟨Ha, Ho⟩
  ihave Hp := hi $$ Hp
  imod (fup_all m Finset.univ (Φ := fun k : Fin 4 => oPos (F := F) c (8 + k.val)) (Ψ := fun k : Fin 4 => semVal (oCell c (fo (8 + k.val))) 0)
    (fun k _ => close_o m c (8 + k.val) (by omega))) $$ [Hp] with Hp
  · isplitr; · iexact HC
    iexact Hp
  imodintro
  isplitl [Hp]; · iapply hp $$ Hp
  isplitl [Ha]; · iapply (acc_join (F := F) c) $$ Ha
  iapply (out_join m c) $$ Ho

theorem dir_sep (A B C D : Dir → sProp 𝕄) : (bigSep Finset.univ fun d => iprop(((A d ∗ B d) ∗ C d) ∗ D d))
    ⊢ iprop(((bigSep Finset.univ A ∗ bigSep Finset.univ B) ∗ bigSep Finset.univ C) ∗ bigSep Finset.univ D) := by
  rw [bs_dir (F := F), bs_dir (F := F) A, bs_dir B, bs_dir C, bs_dir D]
  iintro ⟨⟨⟨⟨A1, B1⟩, C1⟩, D1⟩, ⟨⟨A2, B2⟩, C2⟩, D2⟩
  isplitr [D1 D2]
  · isplitr [C1 C2]
    · isplitl [A1 A2]
      · isplitl [A1] <;> iassumption
      · isplitl [B1] <;> iassumption
    · isplitl [C1] <;> iassumption
  · isplitl [D1] <;> iassumption

/-- What a device is left with. -/
theorem exit_all (c : Dev nD) :
    iprop(St m c 182 0 ∗ atPos ER (barCell c) 1 ∅ 0)
      ⊢ iprop(|={Set.univ}=> ((∃ W : Waits sig ℕ, owes (c : Thread nD τ) 0 W) ∗ Win m c ∗ Closed (F := F) c ∗ Bufs (F := F) c ∗ ownsTc c outM fullShare (res m c))) := by
  unfold St StK
  have h1 : paid (cnt 182) = 52 := by decide +kernel
  have h2 : cnt 182 .ostart = 8 := by decide +kernel
  have h3 : cnt 182 .owait = 8 := by decide +kernel
  rw [h1, h2, h3]
  have h0 : owesS (F := F) c 52 ⊢ (iprop(∃ W : Waits sig ℕ, owes (c : Thread nD τ) 0 W) : sProp 𝕄) := BIBase.Entails.refl
  iintro ⟨⟨⟨#HC, HO⟩, HW, HD, HT⟩, Hb⟩
  imod (fup_all m Finset.univ (fun d _ => dir_exit m c d)) $$ [HD] with HD
  · isplitr; · iexact HC
    iexact HD
  imod (tiles_exit m c _ 0 _) $$ [HT] with ⟨Ho, Ha, Hout⟩
  · isplitr; · iexact HC
    iexact HT
  imod (close_bar m c) $$ [Hb] with Hb
  · isplitr; · iexact HC
    iexact Hb
  imodintro
  isplitl [HO]; · iapply h0 $$ HO
  isplitl [HW]; · iexact HW
  ihave HD := (dir_sep _ _ _ _) $$ HD
  icases HD with ⟨⟨⟨Hs, Hr⟩, Hc⟩, HB⟩
  unfold Closed Bufs
  rw [own_cells (fun sm => semVal ((c : Thread nD τ), sm) 0)]
  isplitl [Hs Hr Hc Ho Hb]
  · isplitr [Hb]
    · isplitl [Hs Hr]
      · isplitl [Hs] <;> iassumption
      isplitl [Hc] <;> iassumption
    · iexact Hb
  isplitl [HB Ha]
  · isplitl [HB] <;> iassumption
  iexact Hout

end Cert.KernelIdealPf

end
-- ==== Proof.KernelIdealStart.lean ====
/-
# The start of the program

The barrier with both neighbours, the device's own blocks copied out of its staged ones, and the first state of the script.
-/
module

public import proofs.«01_k».proof.Proof.KernelIdealRun
public import proofs.«01_k».proof.Proof.KernelIdealBuf
public import proofs.«01_k».proof.Proof.KernelIdealExit

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-! ## Loads and stores of whole buffers -/
section Steps
variable {α : Type} {Q : α → sProp (MT nD τ sig ℕ (Elt F) ℕ UU ℕ)}

/-- Part of a staged block. -/
theorem step_ldin {s0 : Shape} {e : EltTy} (b : Ref sig .tc) (P : Memref sig .tc .vmem s0 e) (c : Dev nD) (X : s0.Idx → Elt F e) {r : Rect s0}
    {Y : r.shape.Idx → Elt F e} (hY : Y = fun y => X (r.emb y)) {hl : P.view.LoadsAt r} {k : (r.shape.Idx → Elt F e) → Prog (TpuEff nD τ sig (Elt F) Λ₀ .tc) α} :
    ownsTc c P fullShare X ⊢ iprop((ownsTc c P fullShare X -∗ wp frame (wpE (defs₀ (F := F)) 𝒱₀ (c : Thread nD τ) none) Set.univ (k Y) Q)
      -∗ wp frame (wpE (defs₀ (F := F)) 𝒱₀ (c : Thread nD τ) none) Set.univ (.op (.load P r.toLoadRect hl) k) Q) := by
  subst hY
  exact load_whole P c fullShare (r := r) (fun y => r.emb y) (fun _ => rfl) X

/-- A load whose value is not used. -/
theorem step_ldany {s0 : Shape} {e : EltTy} (P : Memref sig .tc .vmem s0 e) (c : Dev nD) (X : s0.Idx → Elt F e) {r : Rect s0}
    {hl : P.view.LoadsAt r} {p : Prog (TpuEff nD τ sig (Elt F) Λ₀ .tc) α} :
    ownsTc c P fullShare X ⊢ iprop((ownsTc c P fullShare X -∗ wp frame (wpE (defs₀ (F := F)) 𝒱₀ (c : Thread nD τ) none) Set.univ p Q)
      -∗ wp frame (wpE (defs₀ (F := F)) 𝒱₀ (c : Thread nD τ) none) Set.univ (.op (.load P r.toLoadRect hl) fun _ => p) Q) :=
  load_whole P c fullShare (r := r) (k := fun _ => p) (fun y => r.emb y) (fun _ => rfl) X

/-- A whole buffer written. -/
theorem step_stfull {A B : ℕ} {e : EltTy} (M : Memref sig .tc .vmem (⟨2, ![A, B]⟩ : Shape) e) (c : Dev nD) (X : (⟨2, ![A, B]⟩ : Shape).Idx → Elt F e)
    {inb : ∀ a, (![0, 0] : Fin 2 → Nat) a + (⟨2, ![A, B]⟩ : Shape).size a ≤ (⟨2, ![A, B]⟩ : Shape).size a}
    {w : (⟨2, ![A, B]⟩ : Shape).Idx → Elt F e}
    {hx : (M.access (Rect.unit (s := (⟨2, ![A, B]⟩ : Shape)) ![0, 0] (⟨2, ![A, B]⟩ : Shape).size inb)).Stores Finset.univ}
    {hm : (Finset.univ : Finset (Rect.unit (s := (⟨2, ![A, B]⟩ : Shape)) ![0, 0] (⟨2, ![A, B]⟩ : Shape).size inb).shape.Idx) = Finset.univ
      ∨ ∀ a, (Rect.unit (s := (⟨2, ![A, B]⟩ : Shape)) ![0, 0] (⟨2, ![A, B]⟩ : Shape).size inb).stride a = 1}
    {k : PUnit.{1} → Prog (TpuEff nD τ sig (Elt F) Λ₀ .tc) α} :
    ownsTc c M fullShare X
      ⊢ iprop((ownsTc c M fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.store M (Rect.unit (s := (⟨2, ![A, B]⟩ : Shape)) ![0, 0] (⟨2, ![A, B]⟩ : Shape).size inb) w Finset.univ hx hm) k) Q) := by
  unfold ownsTc owns
  iintro ⟨%f, %hf, H⟩ Hk
  iapply (wp_store 𝒱₀ (c : Thread nD τ) none Set.univ (m := M) (r := Rect.unit (s := (⟨2, ![A, B]⟩ : Shape)) ![0, 0] (⟨2, ![A, B]⟩ : Shape).size inb)
    (w := w) (Mk := Finset.univ) (S := M.view.set) (f := f) (View.set_slice_subset _ _)) $$ H
  iintro H
  iapply Hk
  iexists ((M.access (Rect.unit (s := (⟨2, ![A, B]⟩ : Shape)) ![0, 0] (⟨2, ![A, B]⟩ : Shape).size inb)).write (Elt F) f w Finset.univ)
  isplitr
  · ipureintro
    funext y
    have h := congrFun (View.read_write_univ (v := M.access (Rect.unit (s := (⟨2, ![A, B]⟩ : Shape)) ![0, 0] (⟨2, ![A, B]⟩ : Shape).size inb)) f w) y
    refine Eq.trans ?_ h
    exact congrArg (M.view.read (Elt F) _) (emb_full2 inb y).symm
  iexact H
end Steps

/-! ## The barrier -/
def dix : Dir → ℕ | .cw => 0 | .ccw => 1

theorem payload_bar (c : Dev nD) (d : Dir) : (Rd (F := F) m).payload (barCell c) 0 (dix d) = barPay c d := by
  cases d <;> [exact payload_bar0 m c 0; exact payload_bar1 m c 0]

section Steps
variable {α : Type} {Q : α → sProp (MT nD τ sig ℕ (Elt F) ℕ UU ℕ)} {k : PUnit.{1} → Prog (TpuEff nD τ sig (Elt F) Λ₀ .tc) α}

theorem step_bar (c : Dev nD) (d : Dir) (s : ℕ) (hpay : payL[s]? = some (.bar d)) (n : Dev nD) (hn : n = up d c) {sem : Sem sig} (hsem : sem = barSem) {k' : ℕ} (hk : k' = 1) :
    iprop(Ctx m ∗ owesS c s ∗ dutyTok ER (barCell (up d c)) 0 (dix d) ∗ barPay (up d c) d ∗ reached ER (barCell (up d c)) 0)
      ⊢ iprop((owesS c (s + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sem k') k) Q) := by
  subst hn hsem hk
  unfold owesS
  iintro ⟨#HC, ⟨%W, HO⟩, Ht, Hp, #Hr⟩ Hk
  ihave #HI := (ctx_bar m (up d c)) $$ HC
  unfold CI
  icases HI with ⟨%κ, HI⟩
  iapply (Rounds.wp_signal 𝒱₀ ER (Rd m) (c : Thread nD τ) none (dst := (up d c : Thread nD τ)) (sem := barSem) (κ := κ) (r := 0) (d := dix d)
      (by rw [show ((up d c : Thread nD τ), SemLoc.reg barSem) = barCell (up d c) from rfl, duties_bar]; cases d <;> decide)
      (amount_bar m (up d c) 0 (dix d)) 0 (O c (s + 1)) (O_step c s _ hpay)) $$ [HO Ht Hp]
  · isplitr; · iexact HI
    isplitl [HO]; · iexact HO
    isplitl [Ht]; · iexact Ht
    isplitl [Hp]
    · iapply (show barPay (up d c) d ⊢ (Rd m).payload ((up d c : Thread nD τ), SemLoc.reg barSem) 0 (dix d)
        from Entails.of_eq (payload_bar m (up d c) d).symm); iexact Hp
    iexact Hr
  iintro HO
  iapply Hk
  iexists W; iexact HO

theorem step_barw (c : Dev nD) {sem : Sem sig} (hsem : sem = barSem) {k' : ℕ} (hk : k' = 2) :
    iprop(Ctx m ∗ owesS c 2 ∗ cred (tallyAt (barCell c) 0 2) ∗ atPos ER (barCell c) 0 ∅ 0)
      ⊢ iprop(((owesS c 2 ∗ atPos ER (barCell c) 1 ∅ 0 ∗ bigSep Finset.univ fun d => barPay (F := F) c d)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem k') k) Q) := by
  subst hsem hk
  unfold owesS
  iintro ⟨#HC, ⟨%W, HO⟩, Hc, Hat⟩ Hk
  ihave #HI := (ctx_bar m c) $$ HC
  ihave #Hlev := (ctx_lev m) $$ HC
  unfold CI
  icases HI with ⟨%κ, HI⟩
  iapply (Rounds.wp_wait_rest_token 𝒱₀ ER (Rd m) (c : Thread nD τ) none (κ := κ)
      (wpE_semWait_eq 𝒱₀ (c : Thread nD τ) none Set.univ) (Set.mem_univ _) 0 (O := O c 2) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr
    · iapply (mayWait c (.reg barSem) 0 2 1 (by omega) (by rw [role_bar]; exact le_refl _) (by decide)); iexact Hlev
    iexact Hat
  iintro ⟨HO, Hat, -, Hpay⟩
  iapply Hk
  isplitl [HO]; · iexists _; iexact HO
  isplitl [Hat]; · iexact Hat
  have e : bigSep ((Rd (F := F) m).duties (barCell c) 0 \ ∅) (fun i => (Rd (F := F) m).payload (barCell c) 0 i) = bigSep Finset.univ fun d => barPay (F := F) c d := by
    rw [Finset.sdiff_empty, duties_bar, bs_dir, bigSep_insert (by decide), bigSep_singleton, payload_bar0, payload_bar1]; rfl
  iapply (Entails.of_eq e); iexact Hpay
end Steps

/-! ## What a device starts with -/
/-- The rights of one lane. -/
def Lane0 (c : Dev nD) (d : Dir) (p : Pc) : sProp 𝕄 :=
  iprop(bigSep (Finset.Ico 0 7) (fun h => sTok (F := F) c d p h) ∗ bigSep (Finset.Ico 0 7) (fun h => rCred (F := F) c d p h)
    ∗ bigSep (Finset.Ico 0 3) (fun h => rPos (F := F) c d p h) ∗ bigSep (Finset.Ico 0 3) (fun h => sPos (F := F) c d p h))
/-- The rights of one direction. -/
def Dir0 (c : Dev nD) (d : Dir) : sProp 𝕄 :=
  iprop((bigSep Finset.univ fun p => Lane0 (F := F) c d p) ∗ bigSep (Finset.Ico 0 4) (fun i => sigR (F := F) c d i) ∗ reached ER (crCell (up d c) d) 0
    ∗ atPos ER (crCell c d) 0 ∅ 0 ∗ bigSep (Finset.Ico 0 4) (fun k => cwR (F := F) c d k))
/-- The rights of the output copies. -/
def Out0 (c : Dev nD) : sProp 𝕄 :=
  iprop(bigSep (Finset.Ico 0 8) (fun t => dutyTok ER (oCell c (fo t)) (t / 4) 0) ∗ bigSep (Finset.Ico 0 4) (fun t => oPos (F := F) c t))
/-- The rights of the barrier. -/
def Bar0 (c : Dev nD) : sProp 𝕄 :=
  iprop((bigSep Finset.univ fun d => iprop(dutyTok ER (barCell (up d c)) 0 (dix d) ∗ reached ER (barCell (up d c)) 0))
    ∗ cred (tallyAt (barCell c) 0 2) ∗ atPos ER (barCell c) 0 ∅ 0)
def Ghost (c : Dev nD) : sProp 𝕄 := iprop((bigSep Finset.univ fun d => Dir0 (F := F) c d) ∗ Out0 (F := F) c ∗ Bar0 (F := F) c)
/-- The staged blocks of `x` and `w`. -/
def Blk (c : Dev nD) : sProp 𝕄 := iprop(ownsTc c xInM fullShare (xstg m c) ∗ ownsTc c wInM fullShare (wstg m c))
def OutAny (c : Dev nD) : sProp 𝕄 := iprop(∃ X : S4096x2048.Idx → Elt F .f32, ownsTc c outM fullShare X)

/-- Everything, before the first step. -/
def Pre (c : Dev nD) : sProp 𝕄 :=
  iprop((Ctx m ∗ owesS c 0 ∗ Ghost (F := F) c) ∗ (Win m c ∗ Blk m c) ∗ Bufs (F := F) c ∗ OutAny (F := F) c)

/-- Handing the receiving slots to the device upstream. -/
theorem give (c : Dev nD) (d : Dir) :
    iprop(recvBuf (F := F) c d ∗ Dir0 (F := F) c d) ⊢ iprop(barPay (F := F) (up d c) d ∗ Dir0 (F := F) c d) := by
  have hl : ∀ p, Lane0 (F := F) c d p ⊢ iprop((bigSep (Finset.Ico 0 3) fun h => reached ER (rCell c d p h) (h / 3)) ∗ Lane0 (F := F) c d p) := by
    intro p
    have hr : bigSep (Finset.Ico 0 3) (fun h => rPos (F := F) c d p h) ⊢ iprop((bigSep (Finset.Ico 0 3) fun h => reached ER (rCell c d p h) (h / 3)) ∗ bigSep (Finset.Ico 0 3) (fun h => rPos (F := F) c d p h)) := by
      refine BIBase.Entails.trans (bigSep_mono fun h _ => (?_ : rPos (F := F) c d p h ⊢ iprop(reached ER (rCell c d p h) (h / 3) ∗ rPos (F := F) c d p h))) (Entails.of_eq (bigSep_sep _ _ _))
      unfold rPos
      iintro ⟨H, #Hr⟩
      isplitr; · iexact Hr
      isplitl [H]; · iexact H
      iexact Hr
    unfold Lane0
    iintro ⟨H1, H2, H3, H4⟩
    ihave H3 := hr $$ H3
    icases H3 with ⟨Hr, H3⟩
    isplitl [Hr]; · iexact Hr
    isplitl [H1]; · iexact H1
    isplitl [H2]; · iexact H2
    isplitl [H3] <;> iassumption
  have hL : (bigSep Finset.univ fun p => Lane0 (F := F) c d p) ⊢ iprop((bigSep Finset.univ fun p => bigSep (Finset.Ico 0 3) fun h => reached ER (rCell c d p h) (h / 3)) ∗ bigSep Finset.univ fun p => Lane0 (F := F) c d p) :=
    BIBase.Entails.trans (bigSep_mono fun p _ => hl p) (Entails.of_eq (bigSep_sep _ _ _))
  have hs : recvBuf (F := F) c d ⊢ bigSep Finset.univ fun p => bigSep (Finset.Ico 0 3) fun h => slotAny (F := F) c d p (sl h) := by
    refine (recv_split c d).trans ?_
    have e3 : ∀ Φ : ℕ → sProp 𝕄, bigSep (Finset.Ico 0 3) Φ = _ := fun Φ => bs_ico3 0 Φ
    simp only [e3]
    rw [bs_fin3]
    simp only [bs_pc]
    iintro ⟨⟨W0, A0, B0⟩, ⟨W1, A1, B1⟩, W2, A2, B2⟩
    isplitl [W0 W1 W2]
    · isplitl [W0]; · iexact W0
      isplitl [W1]; · iexact W1
      iexact W2
    isplitl [A0 A1 A2]
    · isplitl [A0]; · iexact A0
      isplitl [A1]; · iexact A1
      iexact A2
    · isplitl [B0]; · iexact B0
      isplitl [B1]; · iexact B1
      iexact B2
  have hb : iprop((bigSep Finset.univ fun p => bigSep (Finset.Ico 0 3) fun h => slotAny (F := F) c d p (sl h))
      ∗ bigSep Finset.univ fun p => bigSep (Finset.Ico 0 3) fun h => reached ER (rCell c d p h) (h / 3)) ⊢ barPay (F := F) (up d c) d := by
    refine Entails.of_eq ((bigSep_sep _ _ _).symm.trans (bigSep_congr fun p _ => (bigSep_sep _ _ _).symm.trans (bigSep_congr fun h _ => ?_)))
    unfold dstP; rw [dn_up]; rfl
  unfold Dir0
  iintro ⟨HB, HL, Hrest⟩
  ihave HB := hs $$ HB
  ihave HL := hL $$ HL
  icases HL with ⟨Hr, HL⟩
  isplitl [HB Hr]
  · iapply hb; isplitl [HB] <;> iassumption
  isplitl [HL] <;> iassumption

/-- After the barrier: the slots downstream are there to be written. -/
def Dir1 (c : Dev nD) (d : Dir) : sProp 𝕄 := iprop(Dir0 (F := F) c d ∗ barPay (F := F) c d)

/-- What is not touched by the first two parts after the barrier. -/
def Keep (c : Dev nD) : sProp 𝕄 :=
  iprop((Ctx m ∗ owesS c 2 ∗ (bigSep Finset.univ fun d => Dir1 (F := F) c d) ∗ Out0 (F := F) c) ∗ Win m c
    ∗ (∃ X : S4096x2048.Idx → Elt F .f32, ownsTc c accM fullShare X) ∗ OutAny (F := F) c)
/-- What stays aside for the rest of the program. -/
def Ex (c : Dev nD) : sProp 𝕄 := iprop(Blk m c ∗ atPos ER (barCell c) 1 ∅ 0)

/-- After the first part. -/
def Mid (c : Dev nD) : sProp 𝕄 :=
  iprop(Keep m c ∗ Ex m c ∗ (ownsTc c (oxM .cw) fullShare (oX m .cw c) ∗ ownsTc c (oxM .ccw) fullShare (oX m .ccw c))
    ∗ (∃ X, ownsTc c (owM .cw) fullShare X) ∗ ∃ X, ownsTc c (owM .ccw) fullShare X)

/-- The blocks stored, the script starts. -/
theorem start0 (c : Dev nD) :
    iprop(Keep m c ∗ (bigSep Finset.univ fun d => bigSep Finset.univ fun p => piece m c d p 0 fullShare)) ⊢ St m c 0 0 := by
  have h0 : ∀ a, cnt 0 a = 0 := fun a => rfl
  have hd : ∀ d, iprop(Dir1 (F := F) c d ∗ bigSep Finset.univ fun p => piece m c d p 0 fullShare) ⊢ DirSt m c (cnt 0) d := by
    intro d
    have hl : ∀ p, iprop((Lane0 (F := F) c d p ∗ bigSep (Finset.Ico 0 3) (fun h => dstP (F := F) c d p h)) ∗ piece m c d p 0 fullShare) ⊢ laneOf m c (cnt 0) d p := by
      intro p
      unfold laneOf freed Lane Lane0
      simp only [h0, Nat.zero_add, Nat.add_zero, Nat.zero_min, Finset.Ico_self, Finset.range_zero, bigSep_empty]
      rw [show (1 : ℕ) = 0 + 1 from rfl, bigSep_Ico_succ_bot (show 0 < 0 + 1 by omega) (fun i => piece m c d p i fullShare.right),
        bigSep_Ico_succ_bot (show 0 < 0 + 1 by omega) (fun i => piece m c d p i fullShare.left), Finset.Ico_self, bigSep_empty, bigSep_empty]
      iintro ⟨⟨⟨H1, H2, H3, H4⟩, H5⟩, Hp⟩
      ihave Hp := (piece_halves m c d p 0) $$ Hp
      icases Hp with ⟨Hl, Hr⟩
      isplitl [H1]; · iexact H1
      isplitl [H2]; · iexact H2
      isplitl [H3]; · iexact H3
      isplitl [H4]; · iexact H4
      isplitr; · iempintro
      isplitl [H5]; · iexact H5
      isplitl [Hr]
      · isplitl [Hr]; · iexact Hr
        iempintro
      isplitl [Hl]
      · isplitl [Hl]; · iexact Hl
        iempintro
      isplitr <;> iempintro
    have hL : iprop(((bigSep Finset.univ fun p => Lane0 (F := F) c d p) ∗ barPay (F := F) c d) ∗ bigSep Finset.univ fun p => piece m c d p 0 fullShare)
        ⊢ bigSep Finset.univ fun p => laneOf m c (cnt 0) d p := by
      refine BIBase.Entails.trans (Entails.of_eq ?_) (bigSep_mono fun p _ => hl p)
      exact ((congrArg (fun P => iprop(P ∗ bigSep Finset.univ fun p => piece m c d p 0 fullShare)) (bigSep_sep _ _ _).symm).trans (bigSep_sep _ _ _).symm)
    unfold Dir1 Dir0 DirSt Cr crAt
    simp only [h0, Finset.range_zero, bigSep_empty]
    iintro ⟨⟨⟨HL, H1, H2, H3, H4⟩, Hb⟩, Hp⟩
    isplitl [HL Hb Hp]
    · iapply hL
      isplitr [Hp]
      · isplitl [HL] <;> iassumption
      · iexact Hp
    isplitl [H1]; · iexact H1
    isplitr; · iempintro
    isplitl [H2]; · iexact H2
    isplitl [H3]
    · iexists ∅
      isplitr; · ipureintro; exact ⟨Finset.empty_subset _, le_refl _⟩
      isplitl [H3]; · iexact H3
      rw [bigSep_empty]; iempintro
    · iexact H4
  have hD : iprop((bigSep Finset.univ fun d => Dir1 (F := F) c d) ∗ bigSep Finset.univ fun d => bigSep Finset.univ fun p => piece m c d p 0 fullShare)
      ⊢ bigSep Finset.univ fun d => DirSt m c (cnt 0) d :=
    BIBase.Entails.trans (Entails.of_eq (bigSep_sep _ _ _).symm) (bigSep_mono fun d _ => hd d)
  have hT : iprop(Out0 (F := F) c ∗ (∃ X : S4096x2048.Idx → Elt F .f32, ownsTc c accM fullShare X) ∗ OutAny (F := F) c) ⊢ Tiles m c 0 0 0 0 0 := by
    have ht : iprop((bigSep Finset.univ fun t : Fin 8 => iprop(∃ X, ownsTc c (accTM t) fullShare X)) ∗ (bigSep Finset.univ fun t : Fin 8 => iprop(∃ X, ownsTc c (outTM t) fullShare X))
        ∗ bigSep Finset.univ fun t : Fin 8 => dutyTok ER (oCell c (fo t.val)) (t.val / 4) 0) ⊢ bigSep Finset.univ fun t : Fin 8 => Hold m c 0 0 0 t.val := by
      refine Entails.of_eq ((congrArg (fun P => iprop((bigSep Finset.univ fun t : Fin 8 => iprop(∃ X, ownsTc c (accTM t) fullShare X)) ∗ P)) (bigSep_sep _ _ _).symm).trans
        ((bigSep_sep _ _ _).symm.trans (bigSep_congr fun t _ => ?_)))
      unfold Hold
      rw [if_neg (Nat.not_lt_zero _), if_neg (Nat.not_lt_zero _), tl_val]; rfl
    unfold Tiles Out0 OutAny
    simp only [← Finset.range_eq_Ico, Finset.range_zero, bigSep_empty, Nat.zero_add]
    rw [bs_range 8 (fun t => dutyTok ER (oCell c (fo t)) (t / 4) 0), bs_range 8 (fun t => Hold m c 0 0 0 t)]
    iintro ⟨⟨H1, H2⟩, Ha, Ho⟩
    ihave Ha := (acc_split (F := F) c) $$ Ha
    ihave Ho := (out_split (F := F) c) $$ Ho
    isplitl [H1 Ha Ho]
    · iapply ht
      isplitl [Ha]; · iexact Ha
      isplitl [Ho] <;> iassumption
    isplitr; · iempintro
    isplitr; · iempintro
    iexact H2
  unfold St StK Keep
  rw [h0, h0, h0, h0]
  iintro ⟨⟨⟨HC, HO, HD, HT⟩, HW, Ha, Ho⟩, Hp⟩
  isplitl [HC HO]
  · isplitl [HC]; · iexact HC
    iexact HO
  isplitl [HW]; · iexact HW
  isplitl [HD Hp]
  · iapply hD; isplitl [HD] <;> iassumption
  iapply hT
  isplitl [HT]; · iexact HT
  isplitl [Ha] <;> iassumption

/-! ## The first two parts -/
section Parts
variable (c : Dev nD)

theorem mid_intro :
    iprop(((Ctx m ∗ owesS c 2 ∗ ((Dir0 (F := F) c .cw ∗ barPay (F := F) c .cw) ∗ Dir0 (F := F) c .ccw ∗ barPay (F := F) c .ccw) ∗ Out0 (F := F) c) ∗ Win m c
      ∗ (∃ X : S4096x2048.Idx → Elt F .f32, ownsTc c accM fullShare X) ∗ OutAny (F := F) c)
      ∗ ((ownsTc c xInM fullShare (xstg m c) ∗ ownsTc c wInM fullShare (wstg m c)) ∗ atPos ER (barCell c) 1 ∅ 0)
      ∗ (ownsTc c (oxM .cw) fullShare (oX m .cw c) ∗ ownsTc c (oxM .ccw) fullShare (oX m .ccw c))
      ∗ (∃ X, ownsTc c (owM .cw) fullShare X) ∗ ∃ X, ownsTc c (owM .ccw) fullShare X) ⊢ Mid m c :=
  Entails.of_eq (by unfold Mid Keep Ex Blk; rw [bs_dir (fun d => Dir1 (F := F) c d)]; rfl)

theorem part1 : Pre m c ⊢ wp frame (wpE (defs₀ (F := F)) 𝒱₀ (c : Thread nD τ) none) Set.univ (ap (k0_part1 (F := F)))
    (fun r => iprop(⌜r.1 = c⌝ ∗ ⌜r.2.2.2 = k0_pay3 ((wInM.access (Rect.unit (s := S512x2048) ![0, 0] S256x2048.size (inbW 0 (.inl rfl)))).read (Elt F) (wstg m c))⌝ ∗ Mid m c)) := by
  rw [k0_part1_eq_skeleton]; unfold ap k0_part1_skel
  simp only [semSignalWord, semWaitWord, Prog.lift, Prog.bind_op, Prog.bind_ret, Prog.pure_eq_ret, Prog.bind_assoc, wp_deviceId]
  unfold Pre Ghost Bar0 Bufs Blk
  rw [bs_dir (fun d => iprop(((∃ X : S4096x256.Idx → Elt F .fp8e5m2, ownsTc c (oxM d) fullShare X) ∗ ∃ X : S256x2048.Idx → Elt F .fp8e5m2, ownsTc c (owM d) fullShare X) ∗ recvBuf (F := F) c d)),
    bs_dir (fun d => Dir0 (F := F) c d), bs_dir (fun d => iprop(dutyTok ER (barCell (up d c)) 0 (dix d) ∗ reached ER (barCell (up d c)) 0))]
  iintro ⟨⟨#HC, HO, ⟨Dcw, Dccw⟩, HOut, ⟨⟨T0, #R0⟩, T1, #R1⟩, Hc, Hat⟩, ⟨HW, Hx, Hw⟩, ⟨⟨⟨⟨⟨%X0, X0⟩, Hw0⟩, B0⟩, ⟨⟨%X1, X1⟩, Hw1⟩, B1⟩, Ha⟩, Ho⟩
  ihave D0 := (give (F := F) c .cw) $$ [B0 Dcw]
  · isplitl [B0] <;> iassumption
  icases D0 with ⟨P0, Dcw⟩
  ihave D1 := (give (F := F) c .ccw) $$ [B1 Dccw]
  · isplitl [B1] <;> iassumption
  icases D1 with ⟨P1, Dccw⟩
  have hb1 : ∀ c : Dev nD, (⟨k0_dev1 c, k0_dev1_lt c⟩ : Dev nD) = up .cw c := by decide +kernel
  have hb2 : ∀ c : Dev nD, (⟨k0_dev2 c, k0_dev2_lt c⟩ : Dev nD) = up .ccw c := by decide +kernel
  iapply (step_bar m c .cw 0 rfl _ (hb1 c) (by rfl) (by rfl)) $$ [HO T0 P0]
  · isplitr; · iexact HC
    isplitl [HO]; · iexact HO
    isplitl [T0]; · iexact T0
    isplitl [P0]; · iexact P0
    iexact R0
  iintro HO
  iapply (step_bar m c .ccw 1 rfl _ (hb2 c) (by rfl) (by rfl)) $$ [HO T1 P1]
  · isplitr; · iexact HC
    isplitl [HO]; · iexact HO
    isplitl [T1]; · iexact T1
    isplitl [P1]; · iexact P1
    iexact R1
  iintro HO
  iapply (step_barw m c (by rfl) (by rfl)) $$ [HO Hc Hat]
  · isplitr; · iexact HC
    isplitl [HO]; · iexact HO
    isplitl [Hc] <;> iassumption
  iintro ⟨HO, Hat, Hbp⟩
  iapply (step_ldin cc0_stg0_0 xInM c (xstg m c) (Y := (xInM.access (Rect.unit (s := S4096x512) ![0, 0] S4096x256.size (inbX 0 (.inl rfl)))).read (Elt F) (xstg m c)) (by rfl)) $$ Hx
  iintro Hx
  iapply (step_ldany (oxM .cw) c X0) $$ X0
  iintro X0
  iapply (step_stfull (A := 4096) (B := 256) (oxM .cw) c X0) $$ X0
  iintro X0
  iapply (step_ldin cc0_stg0_0 xInM c (xstg m c) (Y := (xInM.access (Rect.unit (s := S4096x512) ![0, 256] S4096x256.size (inbX 256 (.inr rfl)))).read (Elt F) (xstg m c)) (by rfl)) $$ Hx
  iintro Hx
  iapply (step_ldany (oxM .ccw) c X1) $$ X1
  iintro X1
  iapply (step_stfull (A := 4096) (B := 256) (oxM .ccw) c X1) $$ X1
  iintro X1
  iapply (step_ldin cc0_stg1_0 wInM c (wstg m c) (Y := (wInM.access (Rect.unit (s := S512x2048) ![0, 0] S256x2048.size (inbW 0 (.inl rfl)))).read (Elt F) (wstg m c)) (by rfl)) $$ Hw
  iintro Hw
  icases Hw0 with ⟨%W0, Hw0⟩
  iapply (step_ldany (owM .cw) c W0) $$ Hw0
  iintro Hw0
  rw [wp_ret]
  imodintro
  isplitr; · ipureintro; rfl
  isplitr; · ipureintro; rfl
  ihave Hbp := (Entails.of_eq (bs_dir (fun d => barPay (F := F) c d))) $$ Hbp
  icases Hbp with ⟨P0, P1⟩
  iapply (mid_intro m c)
  isplitl [HO Dcw Dccw P0 P1 HOut HW Ha Ho]
  · isplitl [HO Dcw Dccw P0 P1 HOut]
    · isplitr; · iexact HC
      isplitl [HO]; · iexact HO
      isplitl [Dcw Dccw P0 P1]
      · isplitl [Dcw P0]
        · isplitl [Dcw] <;> iassumption
        · isplitl [Dccw] <;> iassumption
      iexact HOut
    isplitl [HW]; · iexact HW
    isplitl [Ha] <;> iassumption
  isplitl [Hx Hw Hat]
  · isplitr [Hat]
    · isplitl [Hx] <;> iassumption
    · iexact Hat
  isplitl [X0 X1]
  · isplitl [X0]; · iexact X0
    iexact X1
  isplitl [Hw0]; · iexists W0; iexact Hw0
  iexact Hw1

theorem wp_with {A B C : sProp 𝕄} {p : Prog (TpuEff nD τ sig (Elt F) Λ₀ .tc) PUnit.{1}}
    (h : A ⊢ wp frame (wpE (defs₀ (F := F)) 𝒱₀ (c : Thread nD τ) none) Set.univ p (fun _ => C)) :
    iprop(A ∗ B) ⊢ wp frame (wpE (defs₀ (F := F)) 𝒱₀ (c : Thread nD τ) none) Set.univ p (fun _ => iprop(C ∗ B)) :=
  BIBase.Entails.trans (BIClass.sep_mono h BIBase.Entails.refl) (wp_frame_r _ _ _)

theorem part2 (v7 : BitVec 32) (v24 : FVec F S256x2048 .fp8e5m2)
    (h24 : v24 = k0_pay3 ((wInM.access (Rect.unit (s := S512x2048) ![0, 0] S256x2048.size (inbW 0 (.inl rfl)))).read (Elt F) (wstg m c))) :
    Mid m c ⊢ wp frame (wpE (defs₀ (F := F)) 𝒱₀ (c : Thread nD τ) none) Set.univ (ap (k0_part2 (F := F)) c v7 v24) (fun _ => iprop(St m c 2 0 ∗ Ex m c)) := by
  subst h24
  rw [k0_part2_eq_skeleton]; unfold ap k0_part2_skel
  simp only [semSignalWord, semWaitWord, Prog.lift, Prog.bind_op, Prog.bind_ret, Prog.pure_eq_ret, Prog.bind_assoc]
  unfold Mid Ex Blk
  iintro ⟨HK, ⟨⟨Hx, Hw⟩, Hat⟩, ⟨X0, X1⟩, ⟨%W0, Hw0⟩, %W1, Hw1⟩
  iapply (step_stfull (A := 256) (B := 2048) (owM .cw) c W0) $$ Hw0
  iintro Hw0
  iapply (step_ldin cc0_stg1_0 wInM c (wstg m c) (Y := (wInM.access (Rect.unit (s := S512x2048) ![256, 0] S256x2048.size (inbW 256 (.inr rfl)))).read (Elt F) (wstg m c)) (by rfl)) $$ Hw
  iintro Hw
  iapply (step_ldany (owM .ccw) c W1) $$ Hw1
  iintro Hw1
  iapply (step_stfull (A := 256) (B := 2048) (owM .ccw) c W1) $$ Hw1
  iintro Hw1
  ihave Hs := (start0 m c) $$ [HK X0 X1 Hw0 Hw1]
  · isplitl [HK]; · iexact HK
    rw [bs_dir (fun d => bigSep Finset.univ fun p => piece m c d p 0 fullShare)]
    isplitl [X0 Hw0]
    · iapply (own_split m c .cw)
      isplitl [X0]; · iexact X0
      iexact Hw0
    · iapply (own_split m c .ccw)
      isplitl [X1]; · iexact X1
      iexact Hw1
  iapply (wp_with (A := St m c 0 0) (C := St m c 2 0) (B := iprop((ownsTc c xInM fullShare (xstg m c) ∗ ownsTc c wInM fullShare (wstg m c)) ∗ atPos ER (barCell c) 1 ∅ 0)) c ?hrun) $$ [Hs Hx Hw Hat]
  case hrun =>
    refine st_send m c .cw .w 0 (dev := fun c => ⟨k0_dev3 c, k0_dev3_lt c⟩) (K := ?_)
    refine st_send m c .cw .x0 0 (dev := fun c => ⟨k0_dev4 c, k0_dev4_lt c⟩) (K := ?_)
    exact wp_done c BIBase.Entails.refl
  isplitl [Hs]; · iexact Hs
  isplitr [Hat]
  · isplitl [Hx] <;> iassumption
  · iexact Hat

/-- The whole program, from what a device starts with to what it is left with. -/
theorem body_all {Q : PUnit.{1} → sProp (MT nD τ sig ℕ (Elt F) ℕ UU ℕ)} (hQ : iprop(St m c 182 0 ∗ Ex m c) ⊢ Q ⟨⟩) :
    Pre m c ⊢ wp frame (wpE (defs₀ (F := F)) 𝒱₀ (c : Thread nD τ) none) Set.univ (ap (cc0_body (F := F))) Q :=
  body_run m c (R := fun v5 v7 v24 => iprop(⌜v24 = k0_pay3 ((wInM.access (Rect.unit (s := S512x2048) ![0, 0] S256x2048.size (inbW 0 (.inl rfl)))).read (Elt F) (wstg m c))⌝ ∗ Mid m c))
    (part1 m c) (fun v5 v7 v24 => pure_sep fun h => part2 m c v7 v24 h) hQ
end Parts

end Cert.KernelIdealPf

end
-- ==== Proof.KernelIdealMint.lean ====
/-
# The rights dealt at the launch

Every semaphore's invariant is set up, with its duties' tokens, the slots' records and the rights to write them. Each
token then goes to the device that performs the duty: round the two rings, one device on.
-/
module

public import proofs.«01_k».proof.Proof.KernelIdealStart

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-! ## Sums written out -/
section Written
omit [FloatOps F]
theorem bs_sep {I : Type} (s : Finset I) (Φ Ψ : I → sProp 𝕄) : bigSep s (fun i => iprop(Φ i ∗ Ψ i)) = iprop(bigSep s Φ ∗ bigSep s Ψ) := bigSep_sep s Φ Ψ
/-- A family over pairs, by its first components. -/
theorem bs_pairs {I J : Type} (s : Finset I) (t : Finset J) (Φ : I × J → sProp 𝕄) : bigSep (s ×ˢ t) Φ = bigSep s fun i => bigSep t fun j => Φ (i, j) := by
  classical
  refine Finset.induction_on (motive := fun s => bigSep (s ×ˢ t) Φ = bigSep s fun i => bigSep t fun j => Φ (i, j)) s ?_ fun a s ha ih => ?_
  · rw [Finset.empty_product, bigSep_empty, bigSep_empty]
  · have e : (bigSep t fun j => Φ (a, j)) = bigSep (t.map ⟨Prod.mk a, Prod.mk_right_injective a⟩) Φ := (bigSep_map (s := t) (⟨Prod.mk a, Prod.mk_right_injective a⟩ : J ↪ I × J) (Φ := Φ)).symm
    rw [bigSep_insert ha, ← ih, e, ← bigSep_union]
    · refine congrArg (fun S => bigSep S Φ) (Finset.ext fun x => ?_)
      obtain ⟨i, j⟩ := x
      rw [Finset.mem_product, Finset.mem_insert, Finset.mem_union, Finset.mem_map, Finset.mem_product]
      constructor
      · rintro ⟨rfl | h, hj⟩
        · exact .inl ⟨j, hj, rfl⟩
        · exact .inr ⟨h, hj⟩
      · rintro (⟨j', hj, e⟩ | ⟨h, hj⟩)
        · obtain ⟨rfl, rfl⟩ := Prod.mk.inj e
          exact ⟨.inl rfl, hj⟩
        · exact ⟨.inr h, hj⟩
    · refine Finset.disjoint_left.mpr fun x hx hx' => ha ?_
      obtain ⟨j, -, rfl⟩ := Finset.mem_map.mp hx
      exact (Finset.mem_product.mp hx').1
theorem r3 (Φ : ℕ → sProp 𝕄) : bigSep (Finset.range 3) Φ = iprop(Φ 0 ∗ Φ 1 ∗ Φ 2) :=
  (bs_range 3 Φ).trans (bigSep_univ_eq_bigSepL [(0 : Fin 3), (1 : Fin 3), (2 : Fin 3)] (by decide) (by decide) fun t => Φ t.val)
theorem i7 (Φ : ℕ → sProp 𝕄) : bigSep (Finset.Ico 0 7) Φ = iprop(Φ 0 ∗ Φ 1 ∗ Φ 2 ∗ Φ 3 ∗ Φ 4 ∗ Φ 5 ∗ Φ 6) := by
  rw [← Finset.range_eq_Ico]
  exact (bs_range 7 Φ).trans (bigSep_univ_eq_bigSepL [(0 : Fin 7), (1 : Fin 7), (2 : Fin 7), (3 : Fin 7), (4 : Fin 7), (5 : Fin 7), (6 : Fin 7)] (by decide) (by decide) fun t => Φ t.val)
theorem i8 (Φ : ℕ → sProp 𝕄) : bigSep (Finset.Ico 0 8) Φ = iprop(Φ 0 ∗ Φ 1 ∗ Φ 2 ∗ Φ 3 ∗ Φ 4 ∗ Φ 5 ∗ Φ 6 ∗ Φ 7) := by
  rw [← Finset.range_eq_Ico]
  exact (bs_range 8 Φ).trans (bigSep_univ_eq_bigSepL [(0 : Fin 8), (1 : Fin 8), (2 : Fin 8), (3 : Fin 8), (4 : Fin 8), (5 : Fin 8), (6 : Fin 8), (7 : Fin 8)] (by decide) (by decide) fun t => Φ t.val)
theorem f4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
/-- A persistent fact gives a whole family of its consequences. -/
theorem pers_all {I : Type} [DecidableEq I] (S : Finset I) {R : sProp 𝕄} [BI.Persistent R] {Φ : I → sProp 𝕄} (h : ∀ i ∈ S, R ⊢ Φ i) : R ⊢ bigSep S Φ :=
  BIBase.Entails.trans (BI.bigSep_of_persistent S R) (bigSep_mono h)
theorem pers_with {I : Type} [DecidableEq I] (S : Finset I) {R : sProp 𝕄} [BI.Persistent R] {Φ Ψ : I → sProp 𝕄} (h : ∀ i ∈ S, iprop(R ∗ Φ i) ⊢ Ψ i) :
    iprop(R ∗ bigSep S Φ) ⊢ bigSep S Ψ :=
  BIBase.Entails.trans (BIClass.sep_mono (BI.bigSep_of_persistent S R) BIBase.Entails.refl)
    (BIBase.Entails.trans (Entails.of_eq (bigSep_sep _ _ _).symm) (bigSep_mono h))
/-- A family over devices and directions, each direction's turned on its ring. -/
theorem deal (e : Dir → Dev nD ≃ Dev nD) (Φ : Dev nD → Dir → sProp 𝕄) :
    (bigSep Finset.univ fun c => bigSep Finset.univ fun d => Φ c d) = bigSep Finset.univ fun c => bigSep Finset.univ fun d => Φ (e d c) d := by
  refine (bigSep_univ_comm Φ).trans (Eq.trans ?_ (bigSep_univ_comm fun c d => Φ (e d c) d).symm)
  exact bigSep_congr fun d _ => bigSep_univ_equiv (e d) fun c => Φ c d
end Written

/-! ## The cells -/
def gcell (x : Dev nD × (Fin 42 ⊕ Unit)) : Cell := match x.2 with
  | .inl i => kcell (x.1, i)
  | .inr _ => barCell x.1
theorem osem_inj : ∀ i j : Fin 42, osem i = osem j → i = j := by decide +kernel
theorem osem_bar : ∀ i : Fin 42, osem i ≠ SemLoc.reg barSem := by decide +kernel
theorem gcell_inj : Function.Injective gcell := by
  rintro ⟨c, i | i⟩ ⟨c', j | j⟩ h
  · have h1 : c = c' := congrArg (fun g : Cell => g.1.1) h
    have h2 : osem i = osem j := congrArg Prod.snd h
    rw [h1, osem_inj i j h2]
  · exact absurd (congrArg Prod.snd h : osem i = SemLoc.reg barSem) (osem_bar i)
  · exact absurd (congrArg Prod.snd h : SemLoc.reg barSem = osem j).symm (osem_bar j)
  · have h1 : c = c' := congrArg (fun g : Cell => g.1.1) h
    rw [h1]
def gcells : Finset Cell := Finset.univ.map ⟨gcell, gcell_inj⟩
def gtoks : Finset (Cell × ℕ × ℕ) := gcells ×ˢ (Finset.range 3 ×ˢ Finset.range 4)

/-- A statement of every cell of a device. -/
def At (Φ : Cell → sProp 𝕄) (c : Dev nD) : sProp 𝕄 := iprop((bigSep Finset.univ fun i : Fin 42 => Φ (kcell (c, i))) ∗ Φ (barCell c))
omit [FloatOps F] in
theorem all_cells (Φ : Cell → sProp 𝕄) : bigSep gcells Φ = bigSep Finset.univ fun c => At Φ c := by
  unfold gcells
  rw [bigSep_map, bigSep_univ_prod]
  refine bigSep_congr fun c _ => ?_
  rw [bigSep_univ_sum, bigSep_univ_eq_bigSepL [()] (by decide) (by decide)]; rfl

theorem at_split (Φ : Cell → sProp 𝕄) (c : Dev nD) : At Φ c
    = iprop((((bigSep Finset.univ fun d => bigSep Finset.univ fun p => bigSep Finset.univ fun k : Fin 3 => Φ (sCell c d p k.val))
          ∗ (bigSep Finset.univ fun d => bigSep Finset.univ fun p => bigSep Finset.univ fun k : Fin 3 => Φ (rCell c d p k.val)))
        ∗ ((bigSep Finset.univ fun d => Φ (crCell c d)) ∗ bigSep Finset.univ fun k : Fin 4 => Φ (oCell c k))) ∗ Φ (barCell c)) :=
  congrArg (fun P => iprop(P ∗ Φ (barCell c))) (own_cells fun sm => Φ ((c : Thread nD τ), sm))

theorem mem_dma (c : Dev nD) (n : ℕ) (hn : n < 44) (h4 : 4 ≤ n) : (((c : Thread nD τ), SemLoc.dma ⟨n, hn⟩) : Cell) ∈ gcells := by
  refine Finset.mem_map.mpr ⟨(c, .inl ⟨n - 4, by omega⟩), Finset.mem_univ _, ?_⟩
  show kcell (c, ⟨n - 4, by omega⟩) = _
  unfold kcell; rw [osem_dma n hn h4]
theorem mem_s (c : Dev nD) (d : Dir) (p : Pc) (h : ℕ) : sCell c d p h ∈ gcells := mem_dma c _ (sIx_lt d p (sl h)) (sIx_ge d p (sl h))
theorem mem_r (c : Dev nD) (d : Dir) (p : Pc) (h : ℕ) : rCell c d p h ∈ gcells := mem_dma c _ (rIx_lt d p (sl h)) (rIx_ge d p (sl h))
theorem mem_o (c : Dev nD) (k : Fin 4) : oCell c k ∈ gcells := mem_dma c _ _ (show 4 ≤ 40 + k.val by omega)
theorem mem_cr (c : Dev nD) (d : Dir) : crCell c d ∈ gcells := by
  cases d
  · exact Finset.mem_map.mpr ⟨(c, .inl ⟨40, by omega⟩), Finset.mem_univ _, rfl⟩
  · exact Finset.mem_map.mpr ⟨(c, .inl ⟨41, by omega⟩), Finset.mem_univ _, rfl⟩
theorem mem_bar (c : Dev nD) : barCell c ∈ gcells := Finset.mem_map.mpr ⟨(c, .inr ()), Finset.mem_univ _, rfl⟩

/-! ## What the launch makes -/
def u₀ : UU :=
  (initOf (Pipeline.cells cfgs cellOf_inj) (Pipeline.launchToks cfgs cellOf_inj), (initOf gcells gtoks, initSlots keyS 1))

def Re : sProp 𝕄 := bigSep gcells fun g => reached ER g 0
def Sk : sProp 𝕄 := bigSep keyS fun k => SI (F := F) k
omit [FloatOps F] in
instance Re_pers : BI.Persistent (Re (F := F)) := by unfold Re; infer_instance
omit [FloatOps F] in
instance Sk_pers : BI.Persistent (Sk (F := F)) := by unfold Sk; infer_instance
omit [FloatOps F] in
theorem re_at {g : Cell} (h : g ∈ gcells) : Re (F := F) ⊢ reached ER g 0 := bigSep_elim h

/-- Every token of a cell's first rounds. -/
def Tk (g : Cell) : sProp 𝕄 := bigSep (Finset.range 3) fun r => bigSep (Finset.range 4) fun i => dutyTok ER g r i
def RDk (c : Dev nD) (d : Dir) : sProp 𝕄 := bigSep (Finset.range 4) fun i => readerAt ES ((c, d, i) : Key) 0
def WTk (c : Dev nD) (d : Dir) : sProp 𝕄 := bigSep (Finset.range 4) fun i => writeTok ES ((c, d, i) : Key) 1
/-- What is a device's own before the dealing. -/
def Loc0 (c : Dev nD) : sProp 𝕄 :=
  iprop(At (fun g => atPos ER g 0 ∅ 0) c ∗ At (F := F) Tk c ∗ (bigSep Finset.univ fun d => RDk (F := F) c d) ∗ bigSep Finset.univ fun d => WTk (F := F) c d)
def G (c : Dev nD) : sProp 𝕄 := iprop(At (fun g => roundState ER (Rd m) g 0) c ∗ (Sk (F := F) ∗ Re (F := F)) ∗ Loc0 (F := F) c)

omit [FloatOps F] in
theorem keys_all (Φ : Key → sProp 𝕄) : bigSep keyS Φ = bigSep Finset.univ fun c => bigSep Finset.univ fun d => bigSep (Finset.range 4) fun i => Φ (c, d, i) := by
  unfold keyS
  rw [bs_pairs]
  exact bigSep_congr fun c _ => bs_pairs _ _ _

theorem fund_all : BI.own (EBK (initOf gcells gtoks, initSlots keyS 1)) ⊢ (|={Set.univ}=> bigSep Finset.univ (G m) : sProp 𝕄) := by
  have hT : bigSep gtoks (fun x => (dutyTok ER x.1 x.2.1 x.2.2 : sProp 𝕄)) = bigSep Finset.univ fun c => At (F := F) Tk c := by
    unfold gtoks; rw [bs_pairs, ← all_cells]
    exact bigSep_congr fun g _ => bs_pairs _ _ _
  have hW : bigSep (keyS ×ˢ Finset.range 1) (fun x => (writeTok ES x.1 (x.2 + 1) : sProp 𝕄)) = bigSep Finset.univ fun c => bigSep Finset.univ fun d => WTk (F := F) c d := by
    rw [bs_pairs, keys_all]
    refine bigSep_congr fun c _ => bigSep_congr fun d _ => bigSep_congr fun i _ => ?_
    rw [Finset.range_one, bigSep_singleton]
  have hin : iprop((bigSep Finset.univ fun c => At (fun g => roundState ER (Rd m) g 0) c) ∗ (bigSep Finset.univ fun c : Dev nD => iprop(Sk (F := F) ∗ Re (F := F)))
      ∗ (bigSep Finset.univ fun c => At (fun g => atPos ER g 0 ∅ 0) c) ∗ (bigSep Finset.univ fun c => At (F := F) Tk c)
      ∗ (bigSep Finset.univ fun c => bigSep Finset.univ fun d => RDk (F := F) c d) ∗ bigSep Finset.univ fun c => bigSep Finset.univ fun d => WTk (F := F) c d)
      ⊢ bigSep Finset.univ (G m) := by
    refine Entails.of_eq ?_
    unfold G Loc0
    simp only [bs_sep]
  iintro HX
  ihave H := (own_pair_emb EBK _ _) $$ HX
  icases H with ⟨HA, HB⟩
  imod (Rounds.fund ER (Rd m) gcells gtoks) $$ HA with ⟨Hst, #Hr, Hat, Htok⟩
  imod (slots_init ES (Es := Set.univ) keyS 1 (fun k => Sl (F := F) k)) $$ HB with ⟨%ι, -, #HI, Hrd, Hwt⟩
  imodintro
  ihave Hst := (Entails.of_eq (all_cells fun g => roundState ER (Rd m) g 0)) $$ Hst
  ihave Hat := (Entails.of_eq (all_cells (F := F) fun g => atPos ER g 0 ∅ 0)) $$ Hat
  ihave Htok := (Entails.of_eq hT) $$ Htok
  ihave Hrd := (Entails.of_eq (keys_all (F := F) fun k => readerAt ES k 0)) $$ Hrd
  ihave Hwt := (Entails.of_eq hW) $$ Hwt
  iapply hin
  isplitl [Hst]; · iexact Hst
  isplitr
  · iapply (BI.bigSep_of_persistent Finset.univ (iprop(Sk (F := F) ∗ Re (F := F))))
    isplitr
    · have e : bigSep keyS (fun k => slotInv ES (ι k) k (Sl (F := F) k)) ⊢ Sk (F := F) := bigSep_mono fun k _ => by
        exact BIBase.Entails.trans (BIClass.exists_intro (Φ := fun κ => slotInv ES κ k (Sl (F := F) k)) (ι k)) (Entails.of_eq (by unfold SI; rfl))
      iapply e; iexact HI
    · have e : bigSep gcells (fun g => (reached ER g 0 : sProp 𝕄)) ⊢ Re (F := F) := Entails.of_eq (by unfold Re; rfl)
      iapply e; iexact Hr
  isplitl [Hat]; · iexact Hat
  isplitl [Htok]; · iexact Htok
  isplitl [Hrd]; · iexact Hrd
  iexact Hwt

/-! ## The invariants -/
omit [FloatOps F] in
/-- The barrier's semaphore is the launch's one semaphore outside the region. -/
theorem unscoped_bar (c : Dev nD) : (unscopedSems0 c : sProp 𝕄) = semVal (barCell c) 0 := by
  unfold unscopedSems0; rw [bigSep_eq_bigSepL_of_eq [SemLoc.reg barSem] (by decide) (by decide)]; rfl

theorem at_alloc (c : Dev nD) : iprop(At (fun g => semVal g 0) c ∗ At (fun g => roundState ER (Rd m) g 0) c) ⊢ |={Set.univ}=> At (CI m) c := by
  have h : ∀ g, iprop(semVal g 0 ∗ roundState ER (Rd m) g 0) ⊢ |={Set.univ}=> CI m g := fun g => (Rounds.body_intro ER (Rd m) g).trans inv_alloc
  have h2 : iprop((bigSep Finset.univ fun i : Fin 42 => semVal (kcell (c, i)) 0) ∗ bigSep Finset.univ fun i : Fin 42 => roundState ER (Rd m) (kcell (c, i)) 0)
      ⊢ |={Set.univ}=> bigSep Finset.univ fun i : Fin 42 => CI m (kcell (c, i)) :=
    BIBase.Entails.trans (Entails.of_eq (bigSep_sep _ _ _).symm) (BIBase.Entails.trans (bigSep_mono fun i _ => h _) (bigSep_fupd _ _))
  unfold At
  iintro ⟨⟨H1, H2⟩, H3, H4⟩
  imod h2 $$ [H1 H3] with H
  · isplitl [H1] <;> iassumption
  imod (h (barCell c)) $$ [H2 H4] with HB
  · isplitl [H2] <;> iassumption
  imodintro
  isplitl [H] <;> iassumption

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop(At (CI m) c ∗ (Sk (F := F) ∗ Re (F := F)) ∗ Loc0 (F := F) c) := by
  have hv : iprop(Pipeline.ownSems0 (Ix := ℕ) (Name := ℕ) (U := UU) (Lvl := ℕ) (Val := Elt F) (τ := τ) osem c ∗ unscopedSems0 c) ⊢ At (F := F) (fun g => semVal g 0) c :=
    Entails.of_eq (congrArg (fun P => iprop(Pipeline.ownSems0 (Ix := ℕ) (Name := ℕ) (U := UU) (Lvl := ℕ) (Val := Elt F) (τ := τ) osem c ∗ P)) (unscoped_bar (F := F) c))
  unfold G
  iintro ⟨Hos, Hus, Hst, HR⟩
  ihave Hv := hv $$ [Hos Hus]
  · isplitl [Hos] <;> iassumption
  imod (at_alloc m c) $$ [Hv Hst] with H
  · isplitl [Hv] <;> iassumption
  imodintro
  isplitl [H] <;> iassumption

/-! ## The dealing -/
def STk (c : Dev nD) (d : Dir) : sProp 𝕄 := bigSep Finset.univ fun p => bigSep (Finset.Ico 0 7) fun h => dutyTok ER (sCell c d p h) (h / 3) 0
def RTk (c : Dev nD) (d : Dir) : sProp 𝕄 := bigSep Finset.univ fun p => bigSep (Finset.Ico 0 7) fun h => dutyTok ER (rCell c d p h) (h / 3) 0
def CTk (c : Dev nD) (d : Dir) : sProp 𝕄 := bigSep (Finset.range 4) fun i => dutyTok ER (crCell c d) 0 i
def OTk (c : Dev nD) : sProp 𝕄 := bigSep (Finset.Ico 0 8) fun t => dutyTok ER (oCell c (fo t)) (t / 4) 0
def BTk (c : Dev nD) (d : Dir) : sProp 𝕄 := dutyTok ER (barCell c) 0 (dix d)
/-- What stays with a device: its positions, and the tokens of what it does itself. -/
def Lin (c : Dev nD) : sProp 𝕄 :=
  iprop(At (fun g => atPos ER g 0 ∅ 0) c ∗ ((bigSep Finset.univ fun d => STk (F := F) c d) ∗ (bigSep Finset.univ fun d => RTk (F := F) (dn d c) d)
    ∗ (bigSep Finset.univ fun d => CTk (F := F) (up d c) d) ∗ OTk (F := F) c ∗ bigSep Finset.univ fun d => BTk (F := F) (up d c) d)
    ∗ (bigSep Finset.univ fun d => RDk (F := F) c d) ∗ bigSep Finset.univ fun d => WTk (F := F) (dn d c) d)

theorem tk_at (g : Cell) (r i : ℕ) (hr : r < 3) (hi : i < 4) : Tk (F := F) g ⊢ dutyTok ER g r i :=
  BIBase.Entails.trans (bigSep_elim (Finset.mem_range.mpr hr)) (bigSep_elim (Finset.mem_range.mpr hi))
theorem tk3 (g : Cell) : Tk (F := F) g ⊢ iprop(dutyTok ER g 0 0 ∗ dutyTok ER g 1 0 ∗ dutyTok ER g 2 0) := by
  have e : Tk (F := F) g ⊢ bigSep (Finset.range 3) fun r => dutyTok ER g r 0 := bigSep_mono fun r _ => bigSep_elim (Finset.mem_range.mpr (by omega))
  exact BIBase.Entails.trans e (Entails.of_eq (r3 _))
theorem lane_toks (f : ℕ → Cell) (hf : ∀ h, f (h + 3) = f h) :
    (bigSep Finset.univ fun k : Fin 3 => Tk (F := F) (f k.val)) ⊢ bigSep (Finset.Ico 0 7) fun h => dutyTok ER (f h) (h / 3) 0 := by
  rw [bs_fin3, i7]
  have h3 : f 3 = f 0 := hf 0
  have h4 : f 4 = f 1 := hf 1
  have h5 : f 5 = f 2 := hf 2
  have h6 : f 6 = f 0 := (hf 3).trans h3
  rw [h3, h4, h5, h6]
  iintro ⟨H0, H1, H2⟩
  ihave H0 := (tk3 (F := F) (f ((0 : Fin 3).val))) $$ H0
  ihave H1 := (tk3 (F := F) (f ((1 : Fin 3).val))) $$ H1
  ihave H2 := (tk3 (F := F) (f ((2 : Fin 3).val))) $$ H2
  icases H0 with ⟨A0, A1, A2⟩
  icases H1 with ⟨B0, B1, B2⟩
  icases H2 with ⟨C0, C1, C2⟩
  isplitl [A0]; · iexact A0
  isplitl [B0]; · iexact B0
  isplitl [C0]; · iexact C0
  isplitl [A1]; · iexact A1
  isplitl [B1]; · iexact B1
  isplitl [C1]; · iexact C1
  iexact A2
theorem out_toks (c : Dev nD) : (bigSep Finset.univ fun k : Fin 4 => Tk (F := F) (oCell c k)) ⊢ OTk (F := F) c := by
  unfold OTk
  rw [f4, i8]
  iintro ⟨H0, H1, H2, H3⟩
  ihave H0 := (tk3 (F := F) (oCell c 0)) $$ H0
  ihave H1 := (tk3 (F := F) (oCell c 1)) $$ H1
  ihave H2 := (tk3 (F := F) (oCell c 2)) $$ H2
  ihave H3 := (tk3 (F := F) (oCell c 3)) $$ H3
  icases H0 with ⟨A0, A1, -⟩
  icases H1 with ⟨B0, B1, -⟩
  icases H2 with ⟨C0, C1, -⟩
  icases H3 with ⟨D0, D1, -⟩
  isplitl [A0]; · iexact A0
  isplitl [B0]; · iexact B0
  isplitl [C0]; · iexact C0
  isplitl [D0]; · iexact D0
  isplitl [A1]; · iexact A1
  isplitl [B1]; · iexact B1
  isplitl [C1]; · iexact C1
  iexact D1
theorem at_toks (c : Dev nD) : At (F := F) Tk c ⊢ iprop((bigSep Finset.univ fun d => STk (F := F) c d) ∗ (bigSep Finset.univ fun d => RTk (F := F) c d)
    ∗ (bigSep Finset.univ fun d => CTk (F := F) c d) ∗ OTk (F := F) c ∗ bigSep Finset.univ fun d => BTk (F := F) c d) := by
  have hS : (bigSep Finset.univ fun d => bigSep Finset.univ fun p => bigSep Finset.univ fun k : Fin 3 => Tk (F := F) (sCell c d p k.val)) ⊢ bigSep Finset.univ fun d => STk (F := F) c d :=
    bigSep_mono fun d _ => bigSep_mono fun p _ => lane_toks (fun h => sCell c d p h) (sCell_add3 c d p)
  have hR : (bigSep Finset.univ fun d => bigSep Finset.univ fun p => bigSep Finset.univ fun k : Fin 3 => Tk (F := F) (rCell c d p k.val)) ⊢ bigSep Finset.univ fun d => RTk (F := F) c d :=
    bigSep_mono fun d _ => bigSep_mono fun p _ => lane_toks (fun h => rCell c d p h) (rCell_add3 c d p)
  have hC : (bigSep Finset.univ fun d => Tk (F := F) (crCell c d)) ⊢ bigSep Finset.univ fun d => CTk (F := F) c d :=
    bigSep_mono fun d _ => bigSep_elim (Finset.mem_range.mpr (by omega))
  have hB : Tk (F := F) (barCell c) ⊢ bigSep Finset.univ fun d => BTk (F := F) c d := by
    have e : Tk (F := F) (barCell c) ⊢ bigSep (Finset.range 2) fun i => dutyTok ER (barCell c) 0 i :=
      BIBase.Entails.trans (bigSep_elim (Finset.mem_range.mpr (show 0 < 3 by omega))) (bigSep_subset (Finset.range_subset_range.mpr (by omega)))
    refine BIBase.Entails.trans e (Entails.of_eq ?_)
    rw [bs_range 2, bs_dir]
    exact bigSep_univ_eq_bigSepL [(0 : Fin 2), (1 : Fin 2)] (by decide) (by decide) fun t => dutyTok ER (barCell c) 0 t.val
  rw [at_split]
  iintro ⟨⟨⟨H1, H2⟩, H3, H4⟩, H5⟩
  isplitl [H1]; · iapply hS; iexact H1
  isplitl [H2]; · iapply hR; iexact H2
  isplitl [H3]; · iapply hC; iexact H3
  isplitl [H4]; · iapply (out_toks (F := F) c); iexact H4
  iapply hB; iexact H5

theorem dealt : (bigSep Finset.univ fun c => Loc0 (F := F) c) ⊢ bigSep Finset.univ fun c => Lin (F := F) c := by
  have e1 : (bigSep Finset.univ fun c => Loc0 (F := F) c) ⊢ bigSep Finset.univ fun c => iprop(At (fun g => atPos ER g 0 ∅ 0) c
      ∗ ((bigSep Finset.univ fun d => STk (F := F) c d) ∗ (bigSep Finset.univ fun d => RTk (F := F) c d)
        ∗ (bigSep Finset.univ fun d => CTk (F := F) c d) ∗ OTk (F := F) c ∗ bigSep Finset.univ fun d => BTk (F := F) c d)
      ∗ (bigSep Finset.univ fun d => RDk (F := F) c d) ∗ bigSep Finset.univ fun d => WTk (F := F) c d) := by
    refine bigSep_mono fun c _ => ?_
    unfold Loc0
    exact BIClass.sep_mono BIBase.Entails.refl (BIClass.sep_mono (at_toks c) BIBase.Entails.refl)
  refine BIBase.Entails.trans e1 (Entails.of_eq ?_)
  unfold Lin
  simp only [bs_sep]
  rw [deal turn (fun c d => RTk (F := F) c d), deal (fun d => (turn d).symm) (fun c d => CTk (F := F) c d),
    deal (fun d => (turn d).symm) (fun c d => BTk (F := F) c d), deal turn (fun c d => WTk (F := F) c d)]
  rfl

/-- What every device knows, but the levels. -/
def Know : sProp 𝕄 :=
  iprop((bigSep Finset.univ (fun x : Dev nD × Fin 42 => CI m (kcell x)) ∗ bigSep Finset.univ (fun c : Dev nD => CI m (barCell c))) ∗ Sk (F := F) ∗ Re (F := F))
instance Know_pers : BI.Persistent (Know m) := by unfold Know; infer_instance
def G' (c : Dev nD) : sProp 𝕄 := iprop(Know m ∗ Lin (F := F) c)

theorem regroup : (bigSep Finset.univ fun c : Dev nD => iprop(At (CI m) c ∗ (Sk (F := F) ∗ Re (F := F)) ∗ Loc0 (F := F) c)) ⊢ bigSep Finset.univ (G' m) := by
  have e : (bigSep Finset.univ fun c : Dev nD => iprop(At (CI m) c ∗ (Sk (F := F) ∗ Re (F := F)) ∗ Loc0 (F := F) c))
      ⊢ iprop((bigSep Finset.univ (fun x : Dev nD × Fin 42 => CI m (kcell x)) ∗ bigSep Finset.univ (fun c : Dev nD => CI m (barCell c)))
        ∗ (bigSep Finset.univ fun c : Dev nD => iprop(Sk (F := F) ∗ Re (F := F))) ∗ bigSep Finset.univ fun c => Loc0 (F := F) c) := by
    refine Entails.of_eq ?_
    rw [bs_sep, bs_sep, bigSep_univ_prod]
    unfold At
    rw [bs_sep]
  have hS : (bigSep Finset.univ fun c : Dev nD => iprop(Sk (F := F) ∗ Re (F := F))) ⊢ iprop(Sk (F := F) ∗ Re (F := F)) := bigSep_elim (Finset.mem_univ (0 : Dev nD))
  refine BIBase.Entails.trans e ?_
  iintro ⟨#HI, HS, HL⟩
  ihave #HS := hS $$ HS
  ihave HL := (dealt (F := F)) $$ HL
  iapply (pers_with (F := F) Finset.univ (R := Know m) (Φ := fun c => Lin (F := F) c) (Ψ := G' m) fun c _ => by unfold G'; exact BIBase.Entails.refl)
  isplitr
  · unfold Know
    isplitr; · iexact HI
    iexact HS
  iexact HL

/-- All devices' semaphores at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (BIBase.Entails.trans (bigSep_mono fun c _ => core_alloc m c) (bigSep_fupd _ _)) (BI.fupd_mono (regroup m))

end Cert.KernelIdealPf

end
-- ==== Proof.KernelIdealCreds.lean ====
/-
# What a device is owed at the launch

Summed over the devices, the signals and transfers owed to a device are one of each kind: the counter credits of its
own semaphores.
-/
module

public import proofs.«01_k».proof.Proof.KernelIdealMint

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-- The cell a payment lands on, at the device `c` that is paid. -/
def landing (c : Dev nD) : Pay → Cell
  | .bar _ => barCell c
  | .hop d p h => rCell c d p h
  | .crd d _ => crCell c d
/-- Which device a device pays. -/
def paid_by : Pay → Dev nD ≃ Dev nD
  | .bar d | .crd d _ => (turn d).symm
  | .hop d _ _ => turn d
theorem tgt_landing (c : Dev nD) (x : Pay) : tgt c x = landing (paid_by x c) x := by cases x <;> rfl
theorem landing_dev (c : Dev nD) (x : Pay) : (landing c x).1 = (c : Thread nD τ) := by cases x <;> rfl

/-- The payments, by kind. -/
abbrev PIx := Dir ⊕ ((Dir × Pc × Fin 7) ⊕ (Dir × Fin 4))
def pay : PIx → Pay
  | .inl d => .bar d
  | .inr (.inl (d, p, h)) => .hop d p h.val
  | .inr (.inr (d, i)) => .crd d i.val
theorem pay_all : (Finset.univ : Finset PIx).val.map pay = (payL : Multiset Pay) := by decide +kernel

theorem owe_sum (c : Dev nD) (l : List Pay) : owe c l = (l.map fun x => (tallyAt (tgt c x) (idx x) (amt x) : CellTallies nD τ sig ℕ)).sum := by
  induction l with
  | nil => rfl
  | cons x l ih => rw [List.map_cons, List.sum_cons, ← ih, add_comm]; rfl

theorem O_sum (c : Dev nD) : O c 0 = ∑ x : PIx, (tallyAt (tgt c (pay x)) (idx (pay x)) (amt (pay x)) : CellTallies nD τ sig ℕ) := by
  show owe c payL = _
  rw [owe_sum, ← Multiset.sum_coe, ← Multiset.map_coe, ← pay_all, Multiset.map_map]; rfl

/-- All that is owed to a device. -/
def inc (c : Dev nD) : CellTallies nD τ sig ℕ := ∑ x : PIx, tallyAt (landing c (pay x)) (idx (pay x)) (amt (pay x))

theorem inc_apply (c : Dev nD) (g : Cell) (i : ℕ) : inc c g i = ∑ x : PIx, (tallyAt (landing c (pay x)) (idx (pay x)) (amt (pay x)) : CellTallies nD τ sig ℕ) g i := by
  unfold inc; rw [Finset.sum_apply, Finsupp.finset_sum_apply]
theorem inc_ne (c : Dev nD) (g : Cell) (h : g.1 ≠ (c : Thread nD τ)) : inc c g = 0 := by
  refine Finsupp.ext fun i => ?_
  rw [inc_apply]
  refine Finset.sum_eq_zero fun x _ => ?_
  rw [tallyAt_ne_cell fun e => h (by rw [e, landing_dev])]; rfl

theorem launch_eq (c : Dev nD) (sm : SemLoc sig) :
    launchCredit (Pipeline.owing fun d => O d 0) 0 ((c : Thread nD τ), sm) = inc c ((c : Thread nD τ), sm) := by
  refine Finsupp.ext fun i => ?_
  rw [Pipeline.launchCredit_owing, inc_apply]
  have e : ∀ d : Dev nD, O d 0 ((c : Thread nD τ), sm) i
      = ∑ x : PIx, (tallyAt (landing (paid_by (pay x) d) (pay x)) (idx (pay x)) (amt (pay x)) : CellTallies nD τ sig ℕ) ((c : Thread nD τ), sm) i := by
    intro d
    rw [O_sum, Finset.sum_apply, Finsupp.finset_sum_apply]
    exact Finset.sum_congr rfl fun x _ => by rw [tgt_landing]
  rw [Finset.sum_congr rfl fun d _ => e d, Finset.sum_comm]
  refine Finset.sum_congr rfl fun x _ => ?_
  rw [Equiv.sum_comp (paid_by (pay x)) fun d => (tallyAt (landing d (pay x)) (idx (pay x)) (amt (pay x)) : CellTallies nD τ sig ℕ) ((c : Thread nD τ), sm) i]
  refine Fintype.sum_eq_single c fun d hd => ?_
  rw [tallyAt_ne_cell fun e => hd ?_]; · rfl
  have h1 : (c : Thread nD τ) = (d : Thread nD τ) := (congrArg Prod.fst e).trans (landing_dev d (pay x))
  exact (congrArg Prod.fst h1).symm

section Sums
omit [FloatOps F]
theorem cred_sum {I : Type} [DecidableEq I] (S : Finset I) (T : I → CellTallies nD τ sig ℕ) : (cred (∑ i ∈ S, T i) : sProp 𝕄) = bigSep S fun i => cred (T i) := by
  induction S using Finset.induction_on with
  | empty => rw [Finset.sum_empty, cred_zero, bigSep_empty]; rfl
  | insert a S ha ih => rw [Finset.sum_insert ha, bigSep_insert ha, Entails.antisymm (cred_add _ _).1 (cred_add _ _).2, ih]; rfl

theorem inc_split (c : Dev nD) : inc c = ∑ sm : SemLoc sig, tallyOn ((c : Thread nD τ), sm) (inc c ((c : Thread nD τ), sm)) := by
  funext g
  rw [Finset.sum_apply]
  by_cases h : g.1 = (c : Thread nD τ)
  · obtain ⟨t, s⟩ := g
    obtain rfl : t = (c : Thread nD τ) := h
    rw [Fintype.sum_eq_single s fun s' hs => tallyOn_ne (fun e => hs (congrArg Prod.snd e).symm) _, tallyOn_self]
  · rw [inc_ne c g h]
    exact (Finset.sum_eq_zero fun s _ => tallyOn_ne (fun e => h (congrArg Prod.fst e)) _).symm

theorem creds_all (c : Dev nD) : (Pipeline.launchCred (fun d => O d 0) c : sProp 𝕄) = bigSep Finset.univ fun x : PIx => cred (tallyAt (landing c (pay x)) (idx (pay x)) (amt (pay x))) := by
  rw [← cred_sum]
  refine Eq.trans ?_ (congrArg (fun T => (cred T : sProp 𝕄)) (inc_split c).symm)
  rw [cred_sum]
  unfold Pipeline.launchCred
  exact bigSep_congr fun sm _ => by rw [launch_eq]
end Sums

def Creds (c : Dev nD) : sProp 𝕄 :=
  iprop(cred (tallyAt (barCell c) 0 2) ∗ (bigSep Finset.univ fun d => bigSep Finset.univ fun p => bigSep (Finset.Ico 0 7) fun h => rCred (F := F) c d p h)
    ∗ bigSep Finset.univ fun d => bigSep (Finset.range 4) fun i => cred (tallyAt (crCell c d) i 1))

theorem creds (c : Dev nD) : (Pipeline.launchCred (fun d => O d 0) c : sProp 𝕄) ⊢ Creds (F := F) c := by
  refine Entails.of_eq ((creds_all c).trans ?_)
  rw [bigSep_univ_sum, bigSep_univ_sum]
  simp only [bigSep_univ_prod]
  unfold Creds
  refine congrArg₂ BI.sep ?_ (congrArg₂ BI.sep ?_ ?_)
  · rw [bs_dir]
    refine Eq.trans (Entails.antisymm (cred_add _ _).1 (cred_add _ _).2).symm ?_
    exact congrArg (fun T => (cred T : sProp 𝕄)) (tallyAt_add (barCell c) 0 1 1)
  · refine bigSep_congr fun d _ => bigSep_congr fun p _ => ?_
    rw [← Finset.range_eq_Ico, bs_range]; rfl
  · refine bigSep_congr fun d _ => ?_
    rw [bs_range]; rfl

/-! ## A device's start -/
theorem pos_r (c : Dev nD) (d : Dir) (p : Pc) :
    iprop(Re (F := F) ∗ bigSep Finset.univ fun k : Fin 3 => atPos ER (rCell c d p k.val) 0 ∅ 0) ⊢ bigSep (Finset.Ico 0 3) fun h => rPos (F := F) c d p h := by
  rw [← Finset.range_eq_Ico, bs_range]
  refine pers_with Finset.univ fun k _ => ?_
  unfold rPos
  rw [show k.val / 3 = 0 from Nat.div_eq_of_lt k.isLt]
  iintro ⟨#H, Ha⟩
  isplitl [Ha]; · iexact Ha
  iapply (re_at (F := F) (mem_r c d p k.val)); iexact H
theorem pos_s (c : Dev nD) (d : Dir) (p : Pc) :
    iprop(Re (F := F) ∗ bigSep Finset.univ fun k : Fin 3 => atPos ER (sCell c d p k.val) 0 ∅ 0) ⊢ bigSep (Finset.Ico 0 3) fun h => sPos (F := F) c d p h := by
  rw [← Finset.range_eq_Ico, bs_range]
  refine pers_with Finset.univ fun k _ => ?_
  unfold sPos
  rw [show k.val / 3 = 0 from Nat.div_eq_of_lt k.isLt]
  iintro ⟨#H, Ha⟩
  isplitl [Ha]; · iexact Ha
  iapply (re_at (F := F) (mem_s c d p k.val)); iexact H
theorem pos_o (c : Dev nD) :
    iprop(Re (F := F) ∗ bigSep Finset.univ fun k : Fin 4 => atPos ER (oCell c k) 0 ∅ 0) ⊢ bigSep (Finset.Ico 0 4) fun t => oPos (F := F) c t := by
  rw [← Finset.range_eq_Ico, bs_range]
  refine pers_with Finset.univ fun k _ => ?_
  unfold oPos
  rw [show k.val / 4 = 0 from Nat.div_eq_of_lt k.isLt, show fo k.val = k from Fin.ext (Nat.mod_eq_of_lt k.isLt)]
  iintro ⟨#H, Ha⟩
  isplitl [Ha]; · iexact Ha
  iapply (re_at (F := F) (mem_o c k)); iexact H

theorem dir_intro (c : Dev nD) (d : Dir) :
    iprop(Re (F := F) ∗ (STk (F := F) c d ∗ RTk (F := F) (dn d c) d ∗ CTk (F := F) (up d c) d) ∗ (RDk (F := F) c d ∗ WTk (F := F) (dn d c) d)
        ∗ ((bigSep Finset.univ fun p => bigSep (Finset.Ico 0 7) fun h => rCred (F := F) c d p h) ∗ bigSep (Finset.range 4) fun i => cred (tallyAt (crCell c d) i 1))
        ∗ (bigSep Finset.univ fun p => bigSep Finset.univ fun k : Fin 3 => atPos ER (sCell c d p k.val) 0 ∅ 0)
        ∗ (bigSep Finset.univ fun p => bigSep Finset.univ fun k : Fin 3 => atPos ER (rCell c d p k.val) 0 ∅ 0) ∗ atPos ER (crCell c d) 0 ∅ 0)
      ⊢ Dir0 (F := F) c d := by
  have e1 : iprop(STk (F := F) c d ∗ RTk (F := F) (dn d c) d) ⊢ bigSep Finset.univ fun p => bigSep (Finset.Ico 0 7) fun h => sTok (F := F) c d p h := by
    refine Entails.of_eq ?_
    unfold STk RTk sTok; simp only [bs_sep]
  have e2 : iprop(CTk (F := F) (up d c) d ∗ RDk (F := F) c d) ⊢ bigSep (Finset.Ico 0 4) fun i => sigR (F := F) c d i := by
    refine Entails.of_eq ?_
    unfold CTk RDk sigR; rw [bs_sep, Finset.range_eq_Ico]
  have e3 : iprop((bigSep (Finset.range 4) fun i => cred (tallyAt (crCell c d) i 1)) ∗ WTk (F := F) (dn d c) d) ⊢ bigSep (Finset.Ico 0 4) fun k => cwR (F := F) c d k := by
    refine Entails.of_eq ?_
    unfold WTk cwR; rw [bs_sep, Finset.range_eq_Ico]
  have e4 : iprop((bigSep Finset.univ fun p => bigSep (Finset.Ico 0 7) fun h => sTok (F := F) c d p h) ∗ (bigSep Finset.univ fun p => bigSep (Finset.Ico 0 7) fun h => rCred (F := F) c d p h)
      ∗ (bigSep Finset.univ fun p => bigSep (Finset.Ico 0 3) fun h => rPos (F := F) c d p h) ∗ bigSep Finset.univ fun p => bigSep (Finset.Ico 0 3) fun h => sPos (F := F) c d p h)
      ⊢ bigSep Finset.univ fun p => Lane0 (F := F) c d p := by
    refine Entails.of_eq ?_
    unfold Lane0; rw [bs_sep, bs_sep, bs_sep]
  unfold Dir0
  iintro ⟨#HR, ⟨H1, H2, H3⟩, ⟨H4, H5⟩, ⟨H6, H7⟩, H8, H9, H10⟩
  isplitl [H1 H2 H6 H8 H9]
  · iapply e4
    isplitl [H1 H2]; · iapply e1; isplitl [H1] <;> iassumption
    isplitl [H6]; · iexact H6
    isplitl [H9]
    · iapply (pers_with Finset.univ (R := Re (F := F)) fun p _ => pos_r (F := F) c d p)
      isplitr; · iexact HR
      iexact H9
    · iapply (pers_with Finset.univ (R := Re (F := F)) fun p _ => pos_s (F := F) c d p)
      isplitr; · iexact HR
      iexact H8
  isplitl [H3 H4]; · iapply e2; isplitl [H3] <;> iassumption
  isplitr; · iapply (re_at (F := F) (mem_cr (up d c) d)); iexact HR
  isplitl [H10]; · iexact H10
  iapply e3; isplitl [H7] <;> iassumption

theorem ghost_intro (c : Dev nD) : iprop(levAts L lv ∗ G' m c ∗ Creds (F := F) c) ⊢ iprop(Ctx m ∗ Ghost (F := F) c) := by
  unfold G' Know Lin Creds Ctx Sk OTk
  rw [at_split]
  iintro ⟨Hlev, ⟨⟨⟨HI, HB⟩, HS, #HR⟩, ⟨⟨⟨PS, PR⟩, PC, PO⟩, PB⟩, ⟨TS, TR, TC, TO, TB⟩, RD, WT⟩, CB, CR, CC⟩
  isplitl [Hlev HI HB HS]
  · isplitl [Hlev]; · iexact Hlev
    isplitl [HI]; · iexact HI
    isplitl [HB]; · iexact HB
    iexact HS
  unfold Ghost
  isplitl [PS PR PC TS TR TC RD WT CR CC]
  · have e : iprop(Re (F := F) ∗ ((bigSep Finset.univ fun d => STk (F := F) c d) ∗ (bigSep Finset.univ fun d => RTk (F := F) (dn d c) d) ∗ bigSep Finset.univ fun d => CTk (F := F) (up d c) d)
        ∗ ((bigSep Finset.univ fun d => RDk (F := F) c d) ∗ bigSep Finset.univ fun d => WTk (F := F) (dn d c) d)
        ∗ ((bigSep Finset.univ fun d => bigSep Finset.univ fun p => bigSep (Finset.Ico 0 7) fun h => rCred (F := F) c d p h)
          ∗ bigSep Finset.univ fun d => bigSep (Finset.range 4) fun i => cred (tallyAt (crCell c d) i 1))
        ∗ (bigSep Finset.univ fun d => bigSep Finset.univ fun p => bigSep Finset.univ fun k : Fin 3 => atPos ER (sCell c d p k.val) 0 ∅ 0)
        ∗ (bigSep Finset.univ fun d => bigSep Finset.univ fun p => bigSep Finset.univ fun k : Fin 3 => atPos ER (rCell c d p k.val) 0 ∅ 0)
        ∗ bigSep Finset.univ fun d => atPos ER (crCell c d) 0 ∅ 0) ⊢ bigSep Finset.univ fun d => Dir0 (F := F) c d := by
      refine BIBase.Entails.trans ?_ (pers_with Finset.univ (R := Re (F := F)) fun d _ => dir_intro (F := F) c d)
      refine BIClass.sep_mono BIBase.Entails.refl (Entails.of_eq ?_)
      simp only [bs_sep]
    iapply e
    isplitr; · iexact HR
    isplitl [TS TR TC]
    · isplitl [TS]; · iexact TS
      isplitl [TR] <;> iassumption
    isplitl [RD WT]; · isplitl [RD] <;> iassumption
    isplitl [CR CC]; · isplitl [CR] <;> iassumption
    isplitl [PS]; · iexact PS
    isplitl [PR] <;> iassumption
  isplitl [TO PO]
  · unfold Out0
    isplitl [TO]; · iexact TO
    iapply (pos_o (F := F) c)
    isplitr; · iexact HR
    iexact PO
  · unfold Bar0
    isplitl [TB]
    · have e : iprop(Re (F := F) ∗ bigSep Finset.univ fun d => BTk (F := F) (up d c) d)
          ⊢ bigSep Finset.univ fun d => iprop(dutyTok ER (barCell (up d c)) 0 (dix d) ∗ reached ER (barCell (up d c)) 0) := by
        refine pers_with Finset.univ fun d _ => ?_
        unfold BTk
        iintro ⟨#H, Ht⟩
        isplitl [Ht]; · iexact Ht
        iapply (re_at (F := F) (mem_bar (up d c))); iexact H
      iapply e
      isplitr; · iexact HR
      iexact TB
    isplitl [CB]; · iexact CB
    iexact PB

end Cert.KernelIdealPf

end
-- ==== Proof.KernelIdealLaunch.lean ====
/-
# The run

The launch gives every device what its program starts with; the program gives back the buffers, its semaphores at
zero and the result.
-/
module

public import proofs.«01_k».proof.Proof.KernelIdealCreds
public import proofs.«01_k».proof.Proof.KernelIdealExit
public import Idealize.ShloMosaic.Lib.Pipeline.CollectiveSegs

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

open Idealize.ShloMosaic.Pipeline (Dat Cfg Window BodyObligation cellOf)

variable (ρ : Dev nD → PrngReg)

/-! ## Buffers as the launch holds them -/
section Buffers
omit [FloatOps F]
theorem any_in (c : Dev nD) (b : Ref sig .tc) : (iprop(∃ f : Buf (Elt F) ((c : Thread nD τ).loc b), ((c : Thread nD τ).loc b) ↦{fullShare} f) : sProp 𝕄)
    ⊢ iprop(∃ X : b.ty.Contents (Elt F), ownsTc c (Memref.whole b) fullShare X) := by
  iintro ⟨%f, H⟩
  have e : (iprop(((c : Thread nD τ).loc b) ↦{fullShare} f) : sProp 𝕄) ⊢ ownsTc c (Memref.whole b) fullShare f := Entails.of_eq (owns_whole (c : Thread nD τ) b fullShare f).symm
  iexists f
  iapply e; iexact H
theorem any_out (c : Dev nD) (b : Ref sig .tc) : (iprop(∃ X : b.ty.Contents (Elt F), ownsTc c (Memref.whole b) fullShare X) : sProp 𝕄)
    ⊢ iprop(∃ f : Buf (Elt F) ((c : Thread nD τ).loc b), ((c : Thread nD τ).loc b) ↦{fullShare} f) := by
  iintro ⟨%f, H⟩
  have e : (ownsTc c (Memref.whole b) fullShare f : sProp 𝕄) ⊢ iprop(((c : Thread nD τ).loc b) ↦{fullShare} f) := Entails.of_eq (owns_whole (c : Thread nD τ) b fullShare f)
  iexists f
  iapply e; iexact H

end Buffers
theorem bufs_in (c : Dev nD) : (Pipeline.scopedRest (Ix := ℕ) (Name := ℕ) (U := UU) (Lvl := ℕ) (Val := Elt F) cfg0.spec c : sProp 𝕄) ⊢ Bufs (F := F) c := by
  rw [scopedRest0_eq]
  unfold Bufs recvBuf
  rw [bs_dir]
  iintro ⟨H0, H1, H2, H3, H4, H5, H6, H7, H8⟩
  isplitr [H0]
  · isplitl [H1 H3 H5 H6]
    · isplitl [H1 H3]
      · isplitl [H1]; · iapply (any_in (F := F) c cc0_scratch1); iexact H1
        iapply (any_in (F := F) c cc0_scratch3); iexact H3
      isplitl [H5]; · iapply (any_in (F := F) c cc0_scratch5); iexact H5
      iapply (any_in (F := F) c cc0_scratch6); iexact H6
    · isplitl [H2 H4]
      · isplitl [H2]; · iapply (any_in (F := F) c cc0_scratch2); iexact H2
        iapply (any_in (F := F) c cc0_scratch4); iexact H4
      isplitl [H7]; · iapply (any_in (F := F) c cc0_scratch7); iexact H7
      iapply (any_in (F := F) c cc0_scratch8); iexact H8
  · iapply (any_in (F := F) c cc0_scratch0); iexact H0
theorem bufs_out (c : Dev nD) : Bufs (F := F) c ⊢ (Pipeline.scopedRest (Ix := ℕ) (Name := ℕ) (U := UU) (Lvl := ℕ) (Val := Elt F) cfg0.spec c : sProp 𝕄) := by
  rw [scopedRest0_eq]
  unfold Bufs recvBuf
  rw [bs_dir]
  iintro ⟨⟨⟨⟨H1, H3⟩, H5, H6⟩, ⟨H2, H4⟩, H7, H8⟩, H0⟩
  isplitl [H0]; · iapply (any_out (F := F) c cc0_scratch0); iexact H0
  isplitl [H1]; · iapply (any_out (F := F) c cc0_scratch1); iexact H1
  isplitl [H2]; · iapply (any_out (F := F) c cc0_scratch2); iexact H2
  isplitl [H3]; · iapply (any_out (F := F) c cc0_scratch3); iexact H3
  isplitl [H4]; · iapply (any_out (F := F) c cc0_scratch4); iexact H4
  isplitl [H5]; · iapply (any_out (F := F) c cc0_scratch5); iexact H5
  isplitl [H6]; · iapply (any_out (F := F) c cc0_scratch6); iexact H6
  isplitl [H7]; · iapply (any_out (F := F) c cc0_scratch7); iexact H7
  iapply (any_out (F := F) c cc0_scratch8); iexact H8

/-! ## The proof data -/
/-- What a device's program starts with, but the staged windows and the scratch buffers. -/
def Begin (c : Dev nD) : sProp 𝕄 := iprop((Ctx m ∗ Ghost (F := F) c) ∗ OutAny (F := F) c)
/-- What it ends with. -/
def Finish (c : Dev nD) : sProp 𝕄 := iprop(Closed (F := F) c ∗ ownsTc c outM fullShare (res m c))
def Φ₀ (c : Dev nD) : sProp 𝕄 := iprop(Begin m c ∗ Bufs (F := F) c)
def Φ₁ (c : Dev nD) : sProp 𝕄 := iprop(Finish m c ∗ Bufs (F := F) c)

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => sxstg m c
    | ⟨3, _⟩ => swstg m c
  Φ t := match t with
    | ⟨0, _⟩ => Φ₀ m c
    | ⟨_ + 1, _⟩ => Φ₁ m c
  q _ := fullShare
  owed t := match t with
    | ⟨0, _⟩ => O c 0
    | ⟨_ + 1, _⟩ => 0

theorem fetched (w : Fin 4) (t : Fin cfg0.N) : (cfg0.win w).fetch t = true := by rw [fin_N0 t]; revert w; decide

def bodyPre (c : Dev nD) : sProp 𝕄 :=
  iprop(Φ₀ m c ∗ (dats m 0 c).owesAt 0 t0_0.castSucc
    ∗ (∃ d, ownsTc c xInM fullShare ((dats m 0 c).before (0 : Fin 4) t0_0 d)) ∗ (∃ d, ownsTc c wInM fullShare ((dats m 0 c).before (1 : Fin 4) t0_0 d))
    ∗ (∃ d, ownsTc c sxM fullShare ((dats m 0 c).before (2 : Fin 4) t0_0 d)) ∗ (∃ d, ownsTc c swM fullShare ((dats m 0 c).before (3 : Fin 4) t0_0 d)))
def bodyPost (c : Dev nD) : sProp 𝕄 :=
  iprop(Φ₁ m c ∗ (dats m 0 c).owesAt 0 t0_0.succ ∗ ownsTc c xInM fullShare (xstg m c) ∗ ownsTc c wInM fullShare (wstg m c)
    ∗ ownsTc c sxM fullShare (sxstg m c) ∗ ownsTc c swM fullShare (swstg m c))

theorem before_x (c : Dev nD) (d) : (dats m 0 c).before (0 : Fin 4) t0_0 d = xstg m c := by
  unfold Dat.before; rw [if_pos (fetched 0 t0_0)]; rfl
theorem before_w (c : Dev nD) (d) : (dats m 0 c).before (1 : Fin 4) t0_0 d = wstg m c := by
  unfold Dat.before; rw [if_pos (fetched 1 t0_0)]; rfl
theorem before_sx (c : Dev nD) (d) : (dats m 0 c).before (2 : Fin 4) t0_0 d = sxstg m c := by
  unfold Dat.before; rw [if_pos (fetched 2 t0_0)]; rfl
theorem before_sw (c : Dev nD) (d) : (dats m 0 c).before (3 : Fin 4) t0_0 d = swstg m c := by
  unfold Dat.before; rw [if_pos (fetched 3 t0_0)]; rfl

theorem pre_intro (c : Dev nD) : bodyPre m c ⊢ Pre m c := by
  unfold bodyPre Φ₀ Begin Pre Blk Win Dat.owesAt Pipeline.owesWithin
  simp only [before_x, before_w, before_sx, before_sw]
  have h0 : ∀ W : Waits sig ℕ, owes (c : Thread nD τ) (O c 0) W ⊢ (owesS (F := F) c 0 : sProp 𝕄) := fun W => by
    unfold owesS; exact BIClass.exists_intro (Φ := fun W => owes (c : Thread nD τ) (O c 0) W) W
  iintro ⟨⟨⟨⟨HC, HG⟩, Ho⟩, HB⟩, ⟨%W, -, HO⟩, ⟨%d0, Hx⟩, ⟨%d1, Hw⟩, ⟨%d2, Hsx⟩, %d3, Hsw⟩
  isplitl [HC HG HO]
  · isplitl [HC]; · iexact HC
    isplitl [HO]; · iapply (h0 W); iexact HO
    iexact HG
  isplitl [Hx Hw Hsx Hsw]
  · isplitl [Hsx Hsw]; · isplitl [Hsx] <;> iassumption
    isplitl [Hx] <;> iassumption
  isplitl [HB] <;> iassumption

theorem post_intro (c : Dev nD) : iprop(St m c 182 0 ∗ Ex m c) ⊢ |={Set.univ}=> bodyPost m c := by
  unfold bodyPost Φ₁ Finish Ex Blk Dat.owesAt Pipeline.owesWithin
  iintro ⟨HS, ⟨Hx, Hw⟩, Hat⟩
  imod (exit_all m c) $$ [HS Hat] with ⟨⟨%W, HO⟩, HW, HC, HB, Hout⟩
  · isplitl [HS] <;> iassumption
  imodintro
  isplitl [HC HB Hout]
  · isplitr [HB]
    · isplitl [HC] <;> iassumption
    · iexact HB
  isplitl [HO]
  · iexists W
    isplitr; · ipureintro; exact fun _ _ => Or.inl trivial
    iexact HO
  unfold Win
  icases HW with ⟨Hsx, Hsw⟩
  isplitl [Hx]; · iexact Hx
  isplitl [Hw]; · iexact Hw
  isplitl [Hsx] <;> iassumption

set_option maxRecDepth 4000 in
theorem body_obligation (c : Dev nD) : BodyObligation (dats (F := F) m 0 c) (defs₀ (F := F)) 𝒱₀ 0 Set.univ := fun t => by
  rw [fin_N0 t]
  rw [bigSep_W0, bigSep_W0]
  show bodyPre m c ⊢ wp frame (wpE (defs₀ (F := F)) 𝒱₀ (c : Thread nD τ) none) Set.univ (ap (cc0_body (F := F))) (fun _ => bodyPost m c)
  exact BIBase.Entails.trans (pre_intro m c) (BIBase.Entails.trans (body_all m c (Q := fun _ => iprop(|={Set.univ}=> bodyPost m c)) (post_intro m c)) (wp_fupd _ _ _ _ _))

/-! ## The launch -/
theorem ownSemFacts : Pipeline.OwnSemFacts cfg0.spec osem := by decide +kernel
theorem share_eq (c : Dev nD) (w : Fin cfg0.W) : (dats m 0 c).share w = fullShare := by unfold Dat.share; split <;> rfl

theorem begin_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(Begin m c ∗ emp) := by
  rw [Pipeline.unscopedRestP_none, unscopedRest0_eq]
  have e : (iprop(((c : Thread nD τ).loc main_v1) ↦{fullShare} m ((c : Thread nD τ).loc main_v1)) : sProp 𝕄) ⊢ OutAny (F := F) c :=
    BIBase.Entails.trans (BIClass.exists_intro (Φ := fun f => (iprop(((c : Thread nD τ).loc main_v1) ↦{fullShare} f) : sProp 𝕄)) _) (by unfold OutAny; exact any_in (F := F) c main_v1)
  unfold Begin
  iintro ⟨Hv, Hlev, Hcr, -, HG⟩
  ihave Hc := (creds (F := F) c) $$ Hcr
  imodintro
  isplitl
  · isplitr [Hv]
    · iapply (ghost_intro m c)
      isplitl [Hlev]; · iexact Hlev
      isplitl [HG] <;> iassumption
    · iapply e; iexact Hv
  · iempintro

theorem phi0_intro (c : Dev nD) :
    iprop(Begin m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (bufs_in (F := F) c); iexact Hr

def Leave (c : Dev nD) : sProp 𝕄 := iprop(unscopedSems0 c ∗ ((c : Thread nD τ).loc main_v1) ↦{fullShare} (res m c : Buf (Elt F) ((c : Thread nD τ).loc main_v1)))

theorem phi1_exit (c : Dev nD) :
    (dats m 0 c).Φ (Fin.last cfg0.N) ⊢ iprop(Leave m c ∗ Pipeline.ownSems0 osem c ∗ Pipeline.scopedRest cfg0.spec c) := by
  rw [show (dats m 0 c).Φ (Fin.last cfg0.N) = Φ₁ m c from rfl]
  unfold Φ₁ Finish Closed Leave
  rw [unscoped_bar (F := F) c]
  have e : (ownsTc c outM fullShare (res m c) : sProp 𝕄) ⊢ iprop(((c : Thread nD τ).loc main_v1) ↦{fullShare} (res m c : Buf (Elt F) ((c : Thread nD τ).loc main_v1))) :=
    Entails.of_eq (owns_whole (c : Thread nD τ) main_v1 fullShare (res m c))
  have e2 : (bigSep Finset.univ fun i : Fin 42 => semVal ((c : Thread nD τ), osem i) 0 : sProp 𝕄) ⊢ Pipeline.ownSems0 osem c := BIBase.Entails.refl
  iintro ⟨⟨⟨Hs, Hb⟩, Ho⟩, HB⟩
  isplitl [Hb Ho]
  · isplitl [Hb]; · iexact Hb
    iapply e; iexact Ho
  isplitl [Hs]; · iapply e2; iexact Hs
  iapply (bufs_out (F := F) c); iexact HB

theorem mayWait_stage (c : Dev nD) (sm : SemLoc sig) (h : lvR (role sm) 0 = 0) (T : CellTallies nD τ sig ℕ) (hT : T = O c 0 ∨ T = 0) :
    (levAts L lv : sProp 𝕄) ⊢ MayWait (c : Thread nD τ) sm 0 T := by
  rcases hT with rfl | rfl
  · exact mayWait c sm 0 0 0 (by decide) (le_of_eq h) (by decide)
  · rw [MayWait_zero]; iintro -; iempintro

theorem waits (c : Dev nD) : (levAts L lv : sProp 𝕄) ⊢ Pipeline.cellsWaits cfgs (dats m) 0 0 c :=
  Pipeline.cellsWaits_intro cfgs (dats m) 0 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

/-- What a run leaves: the arguments' arrays, and the result. -/
def QC (s : MemSt nD τ sig (Elt F)) : Prop :=
  ∀ c : Dev nD, (∀ w : Fin cfg0.W, s.mem ((cfg0.win w).arr.view.loc (c : Thread nD τ)) = finalA m c w)
    ∧ s.mem ((c : Thread nD τ).loc main_v1) = (res m c : Buf (Elt F) ((c : Thread nD τ).loc main_v1))

theorem leave_read (c : Dev nD) (s' : Phys nD τ sig (Elt F)) :
    iprop(Leave m c ∗ emp ∗ Idealize.ShloMosaic.SI s') ⊢ |={Set.univ}=> iprop(⌜(∀ sm : SemLoc sig, sm.isScoped .tc = false → s'.mem.sem ((c.tc : Thread nD τ), sm) = 0)
      ∧ s'.mem.mem ((c : Thread nD τ).loc main_v1) = (res m c : Buf (Elt F) ((c : Thread nD τ).loc main_v1))⌝ ∗ Idealize.ShloMosaic.SI s') := by
  unfold Leave
  iintro ⟨⟨Hu, Ho⟩, -, HSI⟩
  icombine HSI Ho gives %h0
  imod (Pipeline.unscopedSems0_read (X := unscopedSems0 c) (c := c) fupd_intro s') $$ [Hu HSI] with ⟨%h1, HSI⟩
  · isplitl [Hu] <;> iassumption
  imodintro
  isplitr; · ipureintro; exact ⟨h1, Buf.eq_of_forall_mem_univ h0⟩
  iexact HSI

set_option maxRecDepth 8000 in
/-- On the eight devices, for any float values and from any memory with zero counters, every weakly fair execution
    terminates, with the arguments as they were, the result as computed, and every semaphore at zero. -/
theorem run_main : θ_run defs (onTc (τ := τ) (main (F := F))) ⟨m, fun _ => 0, ρ⟩ (fun r => QC m r.2 ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => O d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := Begin m) (Y := Leave m) (Z := fun _ => iprop(emp))
    (hX := begin_intro m ρ) (hin := phi0_intro m) (hout := phi1_exit m)
    (QY := fun c s => (∀ sm : SemLoc sig, sm.isScoped .tc = false → s.sem ((c.tc : Thread nD τ), sm) = 0)
      ∧ s.mem ((c : Thread nD τ).loc main_v1) = (res m c : Buf (Elt F) ((c : Thread nD τ).loc main_v1)))
    (hY := leave_read m)
    (hQ := fun _ h hs => ⟨fun c => ⟨fun w => (h c).1 w, (h c).2.2.2⟩, sem_eq_zero hs fun c => (h c).2.2.1⟩)

/-- An argument's array after the run holds what it held. -/
theorem finalA_in (c : Dev nD) (w : Fin cfg0.W) (hw : (cfg0.win w).isOut = false) : finalA m c w = m ((cfg0.win w).arr.view.loc (c : Thread nD τ)) :=
  (dats (F := F) m 0 c).arrAt_in w hw _

/-- The arguments end as they were, and every semaphore at zero. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨((h.1 c).1 0).trans (finalA_in m c 0 rfl), ((h.1 c).1 1).trans (finalA_in m c 1 rfl),
    ((h.1 c).1 2).trans (finalA_in m c 2 rfl), ((h.1 c).1 3).trans (finalA_in m c 3 rfl)⟩, h.2⟩) (run_main m ρ)

end Cert.KernelIdealPf

end
-- ==== Proof.KernelTwin.lean ====
/-
# The kernel and its idealization

No operation was rewritten between the two programs: each definition of the one is the other's, over any float values.
So what is proved of every execution of the one, over any float values, holds of the other.
-/
module

public import proofs.«01_k».proof.Defs
public import proofs.«01_k».proof.Proof.Gen.Kernel
public import proofs.«01_k».proof.Proof.KernelIdealLaunch

@[expose] public section

set_option maxRecDepth 16384

noncomputable section

namespace Cert.KernelTwin

open Idealize.ShloMosaic Idealize.SL.Sem

variable {F : FTy → Type} [FloatOps F]

theorem body_eq : Cert.Kernel.cc0_body (F := F) = Cert.KernelIdeal.cc0_body (F := F) := rfl

theorem table_eq : Cert.Kernel.defs₀ (F := F) = Cert.KernelIdeal.defs₀ (F := F) := by
  unfold Cert.Kernel.defs₀ Cert.KernelIdeal.defs₀
  refine congrArg Defs.onTc ?_
  funext l a
  obtain ⟨l, hl⟩ := l
  obtain rfl : l = 0 := by omega
  obtain ⟨t, s⟩ := a
  dsimp only
  rw [body_eq]

theorem defs_eq : Cert.Kernel.defs (F := F) = Cert.KernelIdeal.defs (F := F) := by
  unfold Cert.Kernel.defs Cert.KernelIdeal.defs
  rw [table_eq]
  rfl

theorem frame_Kernel : Cert.quiescent_Kernel (hKernel := Cert.Kernel.Gen.facts) := fun m g _ => by
  rw [defs_eq]
  exact Cert.KernelIdealPf.run_frame (F := Bits) m g

theorem frame_KernelIdeal : Cert.quiescent_KernelIdeal (hKernelIdeal := Cert.KernelIdeal.Gen.facts) := fun m g _ =>
  Cert.KernelIdealPf.run_frame (F := Ideal) m g

end Cert.KernelTwin

end
-- ==== Proof.SiluSum.lean ====
/-
The sums and the function of one variable that a product cut into sixteen blocks and its reference share, over the
extended reals.
-/
module

public import Idealize.ShloMosaic.PureOps.Ideal.Laws
public import Idealize.ShloMosaic.Lib.ValueIdxCoords
public import Idealize.ShloMosaic.Lib.MatmulPlain
public import Idealize.ShloMosaic.Lib.IdealHost
public import Mathlib.Algebra.BigOperators.Fin
public import Mathlib.Logic.Equiv.Fin.Basic

@[expose] public section

noncomputable section

namespace Cert.SiluSum

open Idealize.ShloMosaic Idealize.ShloMosaic.ValueIdx
open scoped BigOperators

/-- A sum over 4096 positions, cut into sixteen runs of 256. -/
theorem sum_cut (f : ℕ → EReal) : ∑ q : Fin 4096, f q.val = ∑ b : Fin 16, ∑ k : Fin 256, f (256 * b.val + k.val) := by
  rw [← Fintype.sum_prod_type' (f := fun (b : Fin 16) (k : Fin 256) => f (256 * b.val + k.val))]
  refine (Fintype.sum_equiv (finProdFinEquiv (m := 16) (n := 256)) _ _ fun p => ?_).symm
  show f (256 * p.1.val + p.2.val) = f (p.2.val + 256 * p.1.val)
  rw [Nat.add_comm]

/-- `y / (1 + e⁻ʸ)`. -/
def silu (y : EReal) : EReal := Ideal.div y (1 + Ideal.exp (-y))

theorem exp_nonneg (x : EReal) : 0 ≤ Ideal.exp x := by
  induction x with
  | bot => exact le_refl _
  | top => exact le_top
  | coe r => exact EReal.coe_nonneg.2 (Real.exp_pos r).le

/-- The number times its logistic is the same, at the infinities too. -/
theorem mul_logistic (y : EReal) : y * Ideal.logistic y = silu y := by
  have h : (1 : EReal) + Ideal.exp (-y) ≠ 0 := by
    have h1 : (0 : EReal) < 1 + Ideal.exp (-y) :=
      lt_of_lt_of_le zero_lt_one (le_add_of_nonneg_right (exp_nonneg (-y)))
    exact ne_of_gt h1
  unfold silu Ideal.logistic Ideal.div
  rw [if_neg h, if_neg h, one_mul]

/-- A product from zero, read at an index: the sum of the products along the row and the column. -/
theorem product_read {M K N : ℕ} {φ₁ φ₂ : FTy} (L : FVec Ideal ⟨2, ![M, K]⟩ φ₁) (R : FVec Ideal ⟨2, ![K, N]⟩ φ₂)
    (j : (⟨2, ![M, N]⟩ : Shape).Idx) :
    FloatOps.matmul (DotDims.plain M K N) none L R (constant ⟨2, ![M, N]⟩ .f32 0x00000000#32) j
      = ∑ k : Fin K, L (ix2 (j 0) k) * R (ix2 k (j 1)) := by
  obtain ⟨a, b, rfl⟩ : ∃ a b, j = ix2 a b := ⟨j 0, j 1, eq_ix2 j⟩
  rw [Ideal.matmul_plain_apply]
  show Ideal.ofBits .f32 0x00000000#32 + _ = _
  rw [Ideal.ofBits_zero_f32, zero_add]
  rfl

/-- The problem's result: the product of the whole arrays, scaled, then `silu`. -/
def value (X : (⟨2, ![4096, 4096]⟩ : Shape).Idx → EReal) (W : (⟨2, ![4096, 2048]⟩ : Shape).Idx → EReal) (a b : EReal) :
    (⟨2, ![4096, 2048]⟩ : Shape).Idx → EReal :=
  fun j => silu ((∑ q : Fin 4096, X (ix2 (j 0) q) * W (ix2 q (j 1))) * (a * b))

end Cert.SiluSum

end
-- ==== Proof.KernelIdealValue.lean ====
/-
The value of the result, over the extended reals: every device's finished array is the problem's result of the whole
arrays, of which each device holds a block.
-/
module

public import proofs.«01_k».proof.Proof.KernelIdealBuf
public import proofs.«01_k».proof.Proof.SiluSum
public import Idealize.ShloMosaic.Lib.Layout
public import Idealize.ShloMosaic.Lib.ValueIdx
public import Idealize.ShloMosaic.Lib.Pipeline.Value

@[expose] public section

noncomputable section

namespace Cert.KernelIdealPf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

open Cert.SiluSum Idealize.ShloMosaic.ValueIdx
open scoped BigOperators

/-! ## The order in which a device meets the sixteen half blocks -/

/-- The place of a half block among the sixteen runs of 256 positions. -/
def place : Dir → Dev nD → ℕ | .cw, c => 2 * c.val | .ccw, c => 2 * c.val + 1

/-- The direction of the product number `i`. -/
def turnOf (i : ℕ) : Dir := if i % 2 = 0 then .cw else .ccw

theorem place_lt (c : Dev nD) (i : Fin 16) : place (turnOf i.val) (back (turnOf i.val) (i.val / 2) c) < 16 := by
  have h := (back (turnOf i.val) (i.val / 2) c).isLt
  have h8 : (nD : ℕ) = 8 := rfl
  cases turnOf i.val <;> simp only [place] <;> omega

/-- The run that device `c` meets in its product number `i`. -/
def met (c : Dev nD) (i : Fin 16) : Fin 16 := ⟨_, place_lt c i⟩

theorem met_injective (c : Dev nD) : Function.Injective (met c) := by
  have h : ∀ c : Dev nD, ∀ i j : Fin 16, (met c i).val = (met c j).val → i = j := by decide
  exact fun i j e => h c i j (congrArg Fin.val e)

/-- A sum in a device's order is the sum over the sixteen runs. -/
theorem sum_met (c : Dev nD) (f : ℕ → EReal) :
    ∑ i ∈ Finset.range 16, f (place (turnOf i) (back (turnOf i) (i / 2) c)) = ∑ b : Fin 16, f b.val := by
  rw [Finset.sum_range]
  exact Fintype.sum_bijective (met c) (Finite.injective_iff_bijective.1 (met_injective c)) _ _ fun _ => rfl

/-! ## The blocks read at an index -/

section blocks
variable {F : FTy → Type} [FloatOps F]
variable (m : (ℓ : Loc nD τ sig) → Buf (Elt F) ℓ)

theorem xstg_eq (c : Dev nD) : xstg m c = m ((c : Thread nD τ).loc main_arg0) :=
  Memref.read_access_unit_zero (Elt F) main_arg0 (off := fun a => 0 * main_arg0.ty.shape.size a) (funext fun a => Nat.zero_mul _)
    (fun a => by rw [Nat.zero_mul, Nat.zero_add]) _
theorem wstg_eq (c : Dev nD) : wstg m c = m ((c : Thread nD τ).loc main_arg1) :=
  Memref.read_access_unit_zero (Elt F) main_arg1 (off := fun a => 0 * main_arg1.ty.shape.size a) (funext fun a => Nat.zero_mul _)
    (fun a => by rw [Nat.zero_mul, Nat.zero_add]) _
theorem sxstg_eq (c : Dev nD) : sxstg m c = m ((c : Thread nD τ).loc main_arg2) :=
  Memref.read_access_unit_zero (Elt F) main_arg2 (off := fun a => 0 * main_arg2.ty.shape.size a) (funext fun a => Nat.zero_mul _)
    (fun a => by rw [Nat.zero_mul, Nat.zero_add]) _
theorem swstg_eq (c : Dev nD) : swstg m c = m ((c : Thread nD τ).loc main_arg3) :=
  Memref.read_access_unit_zero (Elt F) main_arg3 (off := fun a => 0 * main_arg3.ty.shape.size a) (funext fun a => Nat.zero_mul _)
    (fun a => by rw [Nat.zero_mul, Nat.zero_add]) _

/-- Where a direction's half begins. -/
def halfOff : Dir → ℕ | .cw => 0 | .ccw => 256

theorem halfOff_lt (d : Dir) (k : Fin 256) : halfOff d + k.val < 512 := by
  cases d <;> simp only [halfOff] <;> omega

/-- A row of 256 columns of a device's half `x` block. -/
theorem oX_read (d : Dir) (c : Dev nD) (r : Fin 4096) (k : Fin 256) :
    oX m d c (ix2 r k) = (m ((c : Thread nD τ).loc main_arg0) : S4096x512.Idx → Elt F .fp8e5m2) (ix2 r ⟨halfOff d + k.val, halfOff_lt d k⟩) := by
  cases d
  · unfold oX k0_pay1
    simp only [shapeCast_self]
    rw [xstg_eq]
    refine congrArg (m ((c : Thread nD τ).loc main_arg0)) (funext fun a => Fin.ext ?_)
    match a with
    | ⟨0, _⟩ => show 0 + 1 * r.val = r.val; omega
    | ⟨1, _⟩ => show 0 + 1 * k.val = 0 + k.val; omega
  · unfold oX k0_pay2
    simp only [shapeCast_self]
    rw [xstg_eq]
    refine congrArg (m ((c : Thread nD τ).loc main_arg0)) (funext fun a => Fin.ext ?_)
    match a with
    | ⟨0, _⟩ => show 0 + 1 * r.val = r.val; omega
    | ⟨1, _⟩ => show 256 + 1 * k.val = 256 + k.val; omega

/-- A column of 256 rows of a device's half `w` block. -/
theorem oW_read (d : Dir) (c : Dev nD) (k : Fin 256) (n : Fin 2048) :
    oW m d c (ix2 k n) = (m ((c : Thread nD τ).loc main_arg1) : S512x2048.Idx → Elt F .fp8e5m2) (ix2 ⟨halfOff d + k.val, halfOff_lt d k⟩ n) := by
  cases d
  · unfold oW k0_pay4 k0_pay3
    simp only [shapeCast_self]
    rw [wstg_eq]
    refine congrArg (m ((c : Thread nD τ).loc main_arg1)) (funext fun a => Fin.ext ?_)
    match a with
    | ⟨0, _⟩ => show 0 + 1 * k.val = 0 + k.val; omega
    | ⟨1, _⟩ => show 0 + 1 * n.val = n.val; omega
  · unfold oW k0_pay5
    simp only [shapeCast_self]
    rw [wstg_eq]
    refine congrArg (m ((c : Thread nD τ).loc main_arg1)) (funext fun a => Fin.ext ?_)
    match a with
    | ⟨0, _⟩ => show 256 + 1 * k.val = 256 + k.val; omega
    | ⟨1, _⟩ => show 0 + 1 * n.val = n.val; omega

theorem row_lt (t : Fin 8) (r : Fin 512) : 512 * t.val + r.val < 4096 := by omega

/-- A tile's rows are the rows from its own place on. -/
theorem xT_read (d : Dir) (c : Dev nD) (t : Fin 8) (r : Fin 512) (k : Fin 256) :
    xT m d c t (ix2 r k) = oX m d c (ix2 ⟨512 * t.val + r.val, row_lt t r⟩ k) := by
  refine congrArg (oX m d c) (funext fun a => Fin.ext ?_)
  match a with
  | ⟨0, _⟩ => show 512 * t.val + 1 * r.val = 512 * t.val + r.val; omega
  | ⟨1, _⟩ => show 0 + 1 * k.val = k.val; omega

theorem all_oneS (y : S1.Idx) : y = oneS := by
  funext a
  have h : ∀ x : S1.Idx, (x a).val < 1 := fun x => by
    have := (x a).isLt
    revert this
    match a with
    | ⟨0, _⟩ => exact id
  have h1 := h y
  have h2 := h oneS
  exact Fin.ext (by omega)

end blocks

/-! ## The products and their sum -/

section sums
set_option backward.proofsInPublic true
variable (m : (ℓ : Loc nD τ sig) → Buf (Elt Ideal) ℓ)

/-- The product of a tile of one half `x` block and the `w` block that goes with it, at an index. -/
def part (d : Dir) (c : Dev nD) (t : Fin 8) (j : S512x2048.Idx) : EReal :=
  ∑ k : Fin 256, (xT m d c t (ix2 (j 0) k) : EReal) * (oW m d c (ix2 k (j 1)) : EReal)

theorem pay6_read (d : Dir) (c : Dev nD) (t : Fin 8) (j : S512x2048.Idx) : (k0_pay6 (xT m d c t) (oW m d c) j : EReal) = part m d c t j := by
  unfold k0_pay6
  simp only [shapeCast_self]
  exact product_read (M := 512) (K := 256) (N := 2048) (φ₁ := .fp8e5m2) (φ₂ := .fp8e5m2) (xT m d c t) (oW m d c) j

theorem pay7_read (d : Dir) (c : Dev nD) (t : Fin 8) (A : S512x2048.Idx → EReal) (j : S512x2048.Idx) :
    (k0_pay7 (F := Ideal) (xT m d c t) (oW m d c) A j : EReal) = A j + part m d c t j := by
  unfold k0_pay7
  simp only [shapeCast_self]
  exact congrArg (A j + ·) (product_read (M := 512) (K := 256) (N := 2048) (φ₁ := .fp8e5m2) (φ₂ := .fp8e5m2) (xT m d c t) (oW m d c) j)

/-- The product number `i` on device `c`. -/
def nth (c : Dev nD) (t : Fin 8) (j : S512x2048.Idx) (i : ℕ) : EReal := part m (turnOf i) (back (turnOf i) (i / 2) c) t j

/-- The running sum is the sum of the products so far. -/
theorem accT_read (c : Dev nD) (t : Fin 8) (j : S512x2048.Idx) : ∀ n : ℕ, (accT m c t n j : EReal) = ∑ i ∈ Finset.range (n + 1), nth m c t j i
  | 0 => by
    rw [Finset.sum_range_one]
    exact pay6_read m .cw c t j
  | n + 1 => by
    rw [Finset.sum_range_succ, ← accT_read c t j n]
    exact pay7_read m _ _ t (accT m c t n) j

/-- The finished tile. -/
theorem outT_read (c : Dev nD) (t : Fin 8) (j : S512x2048.Idx) :
    (outT m c t j : EReal) = silu ((∑ i ∈ Finset.range 16, nth m c t j i) * (scl m c : EReal)) := by
  unfold outT k0_pay21
  simp only [shapeCast_self, shapeCast_shapeCast]
  have h14 := product_read (M := 512) (K := 256) (N := 2048) (φ₁ := .fp8e5m2) (φ₂ := .fp8e5m2) (xT m .cw (back .cw 7 c) t) (oW m .cw (back .cw 7 c)) j
  have h15 := product_read (M := 512) (K := 256) (N := 2048) (φ₁ := .fp8e5m2) (φ₂ := .fp8e5m2) (xT m .ccw (back .ccw 7 c) t) (oW m .ccw (back .ccw 7 c)) j
  refine (mul_logistic _).trans (congrArg (fun y => silu (y * (scl m c : EReal))) ?_)
  rw [Finset.sum_range_succ, Finset.sum_range_succ, ← accT_read m c t j 13]
  exact congrArg₂ (fun p q => (accT m c t 13 j : EReal) + p + q) h14 h15

variable (X : (⟨2, ![4096, 4096]⟩ : Shape).Idx → EReal) (W : (⟨2, ![4096, 2048]⟩ : Shape).Idx → EReal)

/-- One summand of the whole product. -/
def term (r : Fin 4096) (n : Fin 2048) (q : ℕ) : EReal :=
  if h : q < 4096 then X (ix2 r ⟨q, h⟩) * W (ix2 ⟨q, h⟩ n) else 0

variable (hX : ∀ c : Dev nD, m ((c : Thread nD τ).loc main_arg0) = Layout.block ⟨2, ![4096, 512]⟩ ⟨2, ![4096, 4096]⟩ 1 8 c X)
  (hW : ∀ c : Dev nD, m ((c : Thread nD τ).loc main_arg1) = Layout.block ⟨2, ![512, 2048]⟩ ⟨2, ![4096, 2048]⟩ 0 8 c W)

theorem run_lt (d : Dir) (c : Dev nD) (k : Fin 256) : 256 * place d c + k.val < 4096 := by
  have h : c.val < 8 := c.isLt
  cases d <;> simp only [place] <;> omega

theorem run_at (d : Dir) (c : Dev nD) (k : Fin 256) : c.val * 512 + (halfOff d + k.val) = 256 * place d c + k.val := by
  cases d <;> simp only [place, halfOff] <;> omega

include hX hW in
/-- A product of half blocks is one run of the whole product's summands. -/
theorem part_read (d : Dir) (c : Dev nD) (t : Fin 8) (r : Fin 512) (n : Fin 2048) :
    part m d c t (ix2 r n) = ∑ k : Fin 256, term X W ⟨512 * t.val + r.val, row_lt t r⟩ n (256 * place d c + k.val) := by
  refine Finset.sum_congr rfl fun k _ => ?_
  have e1 : (xT m d c t (ix2 r k) : EReal) = X (ix2 ⟨512 * t.val + r.val, row_lt t r⟩ ⟨256 * place d c + k.val, run_lt d c k⟩) := by
    rw [xT_read, oX_read, hX c]
    refine congrArg X (funext fun a => Fin.ext ?_)
    match a with
    | ⟨0, _⟩ => rfl
    | ⟨1, _⟩ => exact run_at d c k
  have e2 : (oW m d c (ix2 k n) : EReal) = W (ix2 ⟨256 * place d c + k.val, run_lt d c k⟩ n) := by
    rw [oW_read, hW c]
    refine congrArg W (funext fun a => Fin.ext ?_)
    match a with
    | ⟨0, _⟩ => exact run_at d c k
    | ⟨1, _⟩ => rfl
  unfold term
  rw [dif_pos (run_lt d c k)]
  exact congrArg₂ (fun p q : EReal => p * q) e1 e2

include hX hW in
/-- All sixteen together are the whole product. -/
theorem sum_nth (c : Dev nD) (t : Fin 8) (r : Fin 512) (n : Fin 2048) :
    ∑ i ∈ Finset.range 16, nth m c t (ix2 r n) i
      = ∑ q : Fin 4096, X (ix2 ⟨512 * t.val + r.val, row_lt t r⟩ q) * W (ix2 q n) := by
  have h : ∀ i, nth m c t (ix2 r n) i = (fun b => ∑ k : Fin 256, term X W ⟨512 * t.val + r.val, row_lt t r⟩ n (256 * b + k.val))
      (place (turnOf i) (back (turnOf i) (i / 2) c)) := fun i => part_read m X W hX hW _ _ t r n
  rw [Finset.sum_congr rfl fun i _ => h i]
  rw [sum_met c (fun b => ∑ k : Fin 256, term X W ⟨512 * t.val + r.val, row_lt t r⟩ n (256 * b + k.val)), ← sum_cut]
  refine Finset.sum_congr rfl fun q _ => ?_
  unfold term
  rw [dif_pos q.isLt]

theorem scl_read (c : Dev nD) :
    (scl m c : EReal) = (show EReal from m ((c : Thread nD τ).loc main_arg2) oneS) * (show EReal from m ((c : Thread nD τ).loc main_arg3) oneS) := by
  unfold scl k0_pay20
  rw [sxstg_eq, swstg_eq]
  exact congrArg₂ (fun p q : EReal => p * q) (congrArg (m ((c : Thread nD τ).loc main_arg2)) (all_oneS _))
    (congrArg (m ((c : Thread nD τ).loc main_arg3)) (all_oneS _))

include hX hW in
/-- Every device ends with the problem's result of the whole arrays. -/
theorem res_value (c : Dev nD) :
    res m c = value X W (m ((c : Thread nD τ).loc main_arg2) oneS) (m ((c : Thread nD τ).loc main_arg3) oneS) := by
  funext i
  have h0 : (i 0).val < 4096 := (i 0).isLt
  let t : Fin 8 := ⟨(i 0).val / 512, by omega⟩
  let r : Fin 512 := ⟨(i 0).val % 512, Nat.mod_lt _ (by decide)⟩
  let n : Fin 2048 := i 1
  have hrow : (⟨512 * t.val + r.val, row_lt t r⟩ : Fin 4096) = i 0 := Fin.ext (Nat.div_add_mod _ 512)
  have hi : i = (rTile t).emb (ix2 r n) := by
    funext a
    refine Fin.ext ?_
    match a with
    | ⟨0, _⟩ =>
      show (i 0).val = 512 * ((i 0).val / 512) + 1 * ((i 0).val % 512)
      omega
    | ⟨1, _⟩ =>
      show (i 1).val = 0 + 1 * (i 1).val
      omega
  have h : (res m c i : EReal) = silu ((∑ q : Fin 4096, X (ix2 (i 0) q) * W (ix2 q (i 1))) * (scl m c : EReal)) := by
    conv_lhs => rw [hi]
    rw [res_tile]
    refine (outT_read m c t (ix2 r n)).trans ?_
    rw [sum_nth m X W hX hW c t r n, hrow]
  rw [h, scl_read]
  rfl

end sums

end Cert.KernelIdealPf

end
-- ==== Proof.ReferenceValue.lean ====
/-
What the reference's result array holds: the problem's result of its four arguments.
-/
module

public import proofs.«01_k».proof.Proof.Gen.ReferenceIdeal.Value
public import proofs.«01_k».proof.Proof.SiluSum
public import Idealize.ShloMosaic.Lib.Tactic
public import Idealize.ShloMosaic.Lib.ValueIdx

@[expose] public section

noncomputable section

namespace Cert.ReferenceValue

open Cert.ReferenceIdeal Cert.ReferenceIdeal.Gen Cert.SiluSum
open Idealize.ShloMosaic Idealize.ShloMosaic.TcCoe Idealize.ShloMosaic.ValueIdx Idealize.SL.Sem
open Idealize.ShloMosaic.Pipeline (Dat)

variable {F : FTy → Type} [FloatOps F]

theorem off2 : (![0, 0] : Fin 2 → Nat) = fun _ => 0 := funext fun a => by fin_cases a <;> rfl
theorem off1 : (![0] : Fin 1 → Nat) = fun _ => 0 := funext fun a => by fin_cases a <;> rfl

/-- The one place of an array of one number. -/
def one : S1.Idx := Shape.Idx.first (by decide)

theorem all_one (y : S1.Idx) : y = one := by
  funext a
  refine Fin.ext ?_
  have h : ∀ x : S1.Idx, (x a).val < 1 := fun x => by
    have := (x a).isLt
    revert this
    match a with
    | ⟨0, _⟩ => exact id
  have h1 := h y
  have h2 := h one
  omega

/-- The body's one store holds the body's arithmetic of the four blocks. -/
theorem out_eq (c : Dev nD) (a0 : Memref sig .tc .vmem S4096x4096 .fp8e5m2) (h0 : a0.IsWhole) (a1 : Memref sig .tc .vmem S4096x2048 .fp8e5m2)
    (h1 : a1.IsWhole) (a2 : Memref sig .tc .smem S1 .f32) (h2 : a2.IsWhole) (a3 : Memref sig .tc .smem S1 .f32) (h3 : a3.IsWhole)
    (a4 : Memref sig .tc .vmem S4096x2048 .f32) (h4 : a4.IsWhole)
    (x0 : Vec F S4096x4096 .fp8e5m2) (x1 : Vec F S4096x2048 .fp8e5m2) (x2 : Vec F S1 .f32) (x3 : Vec F S1 .f32) :
    out0_A_4 c a0 h0 a1 h1 a2 h2 a3 h3 a4 h4 x0 x1 x2 x3 = k0_pay1 x0 x1 (x2 one) (x3 one) := by
  unfold out0_A_4
  rw [View.read_writes_eq_canon _ _ _ (cover0_A_4 c a0 h0 a1 h1 a2 h2 a3 h3 a4 h4 x0 x1 x2 x3)]
  unfold kernelRun0_A
  dsimp only
  sl_unfold_words
  rw [View.canon_unit_zero off2]
  simp only [View.readAt_eq_ld, h0.read_unread, h1.read_unread, h2.read_unread, h3.read_unread,
    View.ld_unit_zero (S := S4096x4096) off2, View.ld_unit_zero (S := S4096x2048) off2, View.ld]
  exact congrArg₂ (k0_pay1 x0 x1) (congrArg x2 (all_one _)) (congrArg x3 (all_one _))

section

variable (m : (ℓ : Loc nD τ sig) → Buf (Elt F) ℓ) (ρ : Dev nD → PrngReg)

/-- The only point of the grid. -/
def pt : Fin cfg0.N := (0 : Fin 1)

/-- An input's block is its whole array. -/
theorem blk0 (c : Dev nD) : (iblk m c 0 pt : Vec F S4096x4096 .fp8e5m2) = m ((c : Thread nD τ).loc main_arg0) :=
  Memref.read_access_unit_zero (Elt F) main_arg0 (off := fun a => 0 * main_arg0.ty.shape.size a) (funext fun a => Nat.zero_mul _)
    (fun a => by rw [Nat.zero_mul, Nat.zero_add]) _
theorem blk1 (c : Dev nD) : (iblk m c 1 pt : Vec F S4096x2048 .fp8e5m2) = m ((c : Thread nD τ).loc main_arg1) :=
  Memref.read_access_unit_zero (Elt F) main_arg1 (off := fun a => 0 * main_arg1.ty.shape.size a) (funext fun a => Nat.zero_mul _)
    (fun a => by rw [Nat.zero_mul, Nat.zero_add]) _
theorem blk2 (c : Dev nD) : (iblk m c 2 pt : Vec F S1 .f32) = m ((c : Thread nD τ).loc main_arg2) :=
  Memref.read_access_unit_zero (Elt F) main_arg2 (off := fun a => 0 * main_arg2.ty.shape.size a) (funext fun a => Nat.zero_mul _)
    (fun a => by rw [Nat.zero_mul, Nat.zero_add]) _
theorem blk3 (c : Dev nD) : (iblk m c 3 pt : Vec F S1 .f32) = m ((c : Thread nD τ).loc main_arg3) :=
  Memref.read_access_unit_zero (Elt F) main_arg3 (off := fun a => 0 * main_arg3.ty.shape.size a) (funext fun a => Nat.zero_mul _)
    (fun a => by rw [Nat.zero_mul, Nat.zero_add]) _

/-- The result array, from the four argument arrays. -/
def out (c : Dev nD) : Vec F S4096x2048 .f32 :=
  k0_pay1 (m ((c : Thread nD τ).loc main_arg0)) (m ((c : Thread nD τ).loc main_arg1)) (m ((c : Thread nD τ).loc main_arg2) one)
    (m ((c : Thread nD τ).loc main_arg3) one)

theorem final_out (c : Dev nD) : (dats m 0 c).arrAt 4 cfg0.N = out m c := by
  have h := Value.blocks4 m c pt (flush0_4 pt)
  rw [Value.flushed4_A, out_eq, blk0, blk1, blk2, blk3] at h
  exact (Memref.read_access_unit_zero (Elt F) main_v0 (off := fun a => 0 * main_v0.ty.shape.size a) (funext fun a => Nat.zero_mul _)
    (fun a => by rw [Nat.zero_mul, Nat.zero_add]) _).symm.trans h

end

/-- At the extended reals the body's arithmetic is the problem's result. -/
theorem pay_value (X : FVec Ideal S4096x4096 .fp8e5m2) (W : FVec Ideal S4096x2048 .fp8e5m2) (a b : Ideal .f32) :
    k0_pay1 (F := Ideal) X W a b = value X W a b := by
  funext j
  have hm := product_read (extf .f32 X bitsLt_fp8e5m2_f32 : FVec Ideal S4096x4096 .f32) (extf .f32 W bitsLt_fp8e5m2_f32 : FVec Ideal S4096x2048 .f32) j
  have key : ∀ s : EReal, Ideal.div (s * (a * b)) (Ideal.ofBits .f32 0x3F800000#32 + Ideal.exp (Ideal.ofBits .f32 0x00000000#32 - s * (a * b)))
      = silu (s * (a * b)) := fun s => by
    rw [Ideal.ofBits_one_f32, Ideal.ofBits_zero_f32, zero_sub]; rfl
  refine (key _).trans ?_
  exact congrArg (fun s => silu (s * (a * b))) hm

/-- The reference's run: its result array holds the problem's result of its arguments, which stay as they were. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = value (m ((c : Thread nD τ).loc main_arg0)) (m ((c : Thread nD τ).loc main_arg1))
        (m ((c : Thread nD τ).loc main_arg2) one) (m ((c : Thread nD τ).loc main_arg3) one)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((final_out m c).trans (pay_value _ _ _ _)), (h c).2⟩) (Value.run_blocks m ρ)

end Cert.ReferenceValue

end
-- ==== Proof.Agreement.lean ====
/-
The kernel and the reference compute the same function over the extended reals: on every device the kernel's result array
holds the problem's result of the whole arrays, and so does the reference's.
-/
module

public import proofs.«01_k».proof.Defs
public import proofs.«01_k».proof.Proof.KernelIdealLaunch
public import proofs.«01_k».proof.Proof.KernelIdealValue
public import proofs.«01_k».proof.Proof.ReferenceValue

@[expose] public section

noncomputable section

namespace Cert.Agreement

open Idealize.ShloMosaic Idealize.ShloMosaic.TcCoe Idealize.SL.Sem Cert.SiluSum

section kernel

open Cert.KernelIdeal Cert.KernelIdealPf

set_option backward.proofsInPublic true in
/-- The kernel's run over the extended reals, on devices that hold the blocks of `X` and `W` and the same two scales. -/
theorem kernel_value (m : (ℓ : Loc nD τ sig) → Buf (Elt Ideal) ℓ) (ρ : Dev nD → PrngReg)
    (X : (⟨2, ![4096, 4096]⟩ : Shape).Idx → EReal) (W : (⟨2, ![4096, 2048]⟩ : Shape).Idx → EReal) (a b : EReal)
    (hX : ∀ c : Dev nD, m ((c : Thread nD τ).loc main_arg0) = Layout.block ⟨2, ![4096, 512]⟩ ⟨2, ![4096, 4096]⟩ 1 8 c X)
    (hW : ∀ c : Dev nD, m ((c : Thread nD τ).loc main_arg1) = Layout.block ⟨2, ![512, 2048]⟩ ⟨2, ![4096, 2048]⟩ 0 8 c W)
    (ha : ∀ c : Dev nD, m ((c : Thread nD τ).loc main_arg2) oneS = a)
    (hb : ∀ c : Dev nD, m ((c : Thread nD τ).loc main_arg3) oneS = b) :
    θ_run defs (onTc (τ := τ) (main (F := Ideal))) ⟨m, fun _ => 0, ρ⟩ fun r => ∀ c : Dev nD,
      r.2.mem ((c : Thread nD τ).loc main_v1) = value X W a b
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun r h c => ⟨(h.1 c).2.trans (by
        rw [res_value m X W hX hW c, ha c, hb c]), ((h.1 c).1 0).trans (finalA_in m c 0 rfl),
      ((h.1 c).1 1).trans (finalA_in m c 1 rfl), ((h.1 c).1 2).trans (finalA_in m c 2 rfl),
      ((h.1 c).1 3).trans (finalA_in m c 3 rfl)⟩) (run_main m ρ)

end kernel

/-- The claim. -/
theorem algebraic : Cert.algebraic_KernelIdeal_ReferenceIdeal (hKernelIdeal := Cert.KernelIdeal.Gen.facts)
    (hReferenceIdeal := Cert.ReferenceIdeal.Gen.facts) := fun m g m' g' _ h =>
  ⟨_, kernel_value m g _ _ _ _ (fun c => (h c).1) (fun c => (h c).2.1) (fun c => congrFun (h c).2.2.1 _) (fun c => congrFun (h c).2.2.2 _),
    (θ_run _ _ _).mono (fun _ hr => hr 0) (ReferenceValue.run_value m' g')⟩

end Cert.Agreement

end
-- ==== Proof.lean ====
/- The certificate: every program runs to its end and leaves its arguments and its semaphore counters as they were; the ideal
   program is the kernel; and the kernel computes the reference's function over the extended reals, on every device. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelTwin
public import proofs.«01_k».proof.Proof.Agreement
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelTwin.frame_Kernel, Cert.KernelTwin.frame_KernelIdeal,
  fun m ρ _ => Cert.ReferenceIdeal.Gen.frame m ρ, trivial, Cert.Agreement.algebraic⟩

end Cert.Proof

end
